-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v76) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)) (v6 : (c : Dev Cert.Kernel3Ideal.nD) → Buf (Elt Ideal) ((c.tc : Thread Cert.Kernel3Ideal.nD Cert.Kernel3Ideal.τ).loc Cert.Kernel3Ideal.main_v0_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_v0_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v112) = v0 c
          ∧ r.2.mem ((c.tc : Thread Cert.Reference3Ideal.nD Cert.Reference3Ideal.τ).loc Cert.Reference3Ideal.main_v113) = v1 c
          ∧ r.2.mem ((c.tc : Thread Cert.Reference3Ideal.nD Cert.Reference3Ideal.τ).loc Cert.Reference3Ideal.main_v114) = v2 c
          ∧ r.2.mem ((c.tc : Thread Cert.Reference3Ideal.nD Cert.Reference3Ideal.τ).loc Cert.Reference3Ideal.main_v117) = v3 c
          ∧ r.2.mem ((c.tc : Thread Cert.Reference3Ideal.nD Cert.Reference3Ideal.τ).loc Cert.Reference3Ideal.main_v118) = v4 c
          ∧ r.2.mem ((c.tc : Thread Cert.Reference3Ideal.nD Cert.Reference3Ideal.τ).loc Cert.Reference3Ideal.main_v119) = v5 c
          ∧ r.2.mem ((c.tc : Thread Cert.Reference3Ideal.nD Cert.Reference3Ideal.τ).loc Cert.Reference3Ideal.main_v111) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)) (v4 : (c : Dev Cert.Kernel4Ideal.nD) → Buf (Elt Ideal) ((c.tc : Thread Cert.Kernel4Ideal.nD Cert.Kernel4Ideal.τ).loc Cert.Kernel4Ideal.main_v0_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_v0_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v85) = v0 c
          ∧ r.2.mem ((c.tc : Thread Cert.Reference4Ideal.nD Cert.Reference4Ideal.τ).loc Cert.Reference4Ideal.main_v86) = v1 c
          ∧ r.2.mem ((c.tc : Thread Cert.Reference4Ideal.nD Cert.Reference4Ideal.τ).loc Cert.Reference4Ideal.main_v87) = v2 c
          ∧ r.2.mem ((c.tc : Thread Cert.Reference4Ideal.nD Cert.Reference4Ideal.τ).loc Cert.Reference4Ideal.main_v88) = v3 c
          ∧ r.2.mem ((c.tc : Thread Cert.Reference4Ideal.nD Cert.Reference4Ideal.τ).loc Cert.Reference4Ideal.main_v84) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v99) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S8x4096x1024 : Shape := ⟨3, ![8, 4096, 1024]⟩
abbrev S8x256x1024 : Shape := ⟨3, ![8, 256, 1024]⟩
abbrev S8x8x512x512 : Shape := ⟨4, ![8, 8, 512, 512]⟩
abbrev S8x1x512x256 : Shape := ⟨4, ![8, 1, 512, 256]⟩
abbrev S_ : Shape := ⟨0, ![]⟩

class Facts : Prop where
  bcast_S_S8x4096x1024 : S_.BroadcastsInDim S8x4096x1024 (![] : Fin 0 → Fin S8x4096x1024.rank)
  bcast_S_S8x256x1024 : S_.BroadcastsInDim S8x256x1024 (![] : Fin 0 → Fin S8x256x1024.rank)

variable [Facts]

def fn {F : FTy → Type} [FloatOps F] (main_arg0 : FVec F S8x4096x1024 .bf16) (main_arg1 : FVec F S8x4096x1024 .bf16) (main_arg2 : FVec F S8x256x1024 .bf16) (main_arg3 : FVec F S8x8x512x512 .bf16) (main_arg4 : FVec F S8x1x512x256 .bf16) : IVec S8x4096x1024 1 × IVec S8x4096x1024 1 × IVec S8x256x1024 1 :=
  let main_v0 : FVec F S8x4096x1024 .bf16 := Host.absf main_arg0
  let main_cst : FVec F S_ .bf16 := constant S_ .bf16 0x7F80#16
  let main_v1 : FVec F S8x4096x1024 .bf16 := broadcastInDim S8x4096x1024 ![] bcast_S_S8x4096x1024 main_cst
  let main_v2 : IVec S8x4096x1024 1 := cmpf .olt main_v0 main_v1
  let main_v3 : FVec F S8x4096x1024 .bf16 := Host.absf main_arg1
  let main_cst_0 : FVec F S_ .bf16 := constant S_ .bf16 0x7F80#16
  let main_v4 : FVec F S8x4096x1024 .bf16 := broadcastInDim S8x4096x1024 ![] bcast_S_S8x4096x1024 main_cst_0
  let main_v5 : IVec S8x4096x1024 1 := cmpf .olt main_v3 main_v4
  let main_v6 : FVec F S8x256x1024 .bf16 := Host.absf main_arg2
  let main_cst_1 : FVec F S_ .bf16 := constant S_ .bf16 0x7F80#16
  let main_v7 : FVec F S8x256x1024 .bf16 := broadcastInDim S8x256x1024 ![] bcast_S_S8x256x1024 main_cst_1
  let main_v8 : IVec S8x256x1024 1 := cmpf .olt main_v6 main_v7
  (main_v2, main_v5, main_v8)
-- ==== Pre_finite6.lean ====
abbrev S8x256x512 : Shape := ⟨3, ![8, 256, 512]⟩
abbrev S8x256x1024 : Shape := ⟨3, ![8, 256, 1024]⟩
abbrev S2x8x4x128x128 : Shape := ⟨5, ![2, 8, 4, 128, 128]⟩
abbrev S_ : Shape := ⟨0, ![]⟩

class Facts : Prop where
  bcast_S_S8x256x1024 : S_.BroadcastsInDim S8x256x1024 (![] : Fin 0 → Fin S8x256x1024.rank)

variable [Facts]

def fn {F : FTy → Type} [FloatOps F] (main_arg0 : FVec F S8x256x512 .bf16) (main_arg1 : FVec F S8x256x512 .bf16) (main_arg2 : FVec F S8x256x1024 .f32) (main_arg3 : FVec F S2x8x4x128x128 .f32) : IVec S8x256x1024 1 :=
  let main_v0 : FVec F S8x256x1024 .f32 := Host.absf main_arg2
  let main_cst : FVec F S_ .f32 := constant S_ .f32 0x7F800000#32
  let main_v1 : FVec F S8x256x1024 .f32 := broadcastInDim S8x256x1024 ![] bcast_S_S8x256x1024 main_cst
  let main_v2 : IVec S8x256x1024 1 := cmpf .olt main_v0 main_v1
  main_v2
-- ==== Kernel.lean ====
abbrev S8x4096x1024 : Shape := ⟨3, ![8, 4096, 1024]⟩
abbrev S8x256x1024 : Shape := ⟨3, ![8, 256, 1024]⟩
abbrev S8x8x512x512 : Shape := ⟨4, ![8, 8, 512, 512]⟩
abbrev S8x1x512x256 : Shape := ⟨4, ![8, 1, 512, 256]⟩
abbrev S8x4096x512 : Shape := ⟨3, ![8, 4096, 512]⟩
abbrev S1x1024x256 : Shape := ⟨3, ![1, 1024, 256]⟩
abbrev S1x4096x256 : Shape := ⟨3, ![1, 4096, 256]⟩
abbrev S1x256x256 : Shape := ⟨3, ![1, 256, 256]⟩
abbrev S1x8x128x512 : Shape := ⟨4, ![1, 8, 128, 512]⟩
abbrev S1x1x128x256 : Shape := ⟨4, ![1, 1, 128, 256]⟩
abbrev S1x1024x128 : Shape := ⟨3, ![1, 1024, 128]⟩
abbrev S2x512x1024 : Shape := ⟨3, ![2, 512, 1024]⟩
abbrev S2x256x1024 : Shape := ⟨3, ![2, 256, 1024]⟩
abbrev S2x1x1024 : Shape := ⟨3, ![2, 1, 1024]⟩
abbrev S1x1024 : Shape := ⟨2, ![1, 1024]⟩
abbrev S80x1024 : Shape := ⟨2, ![80, 1024]⟩
abbrev S1x512x256 : Shape := ⟨3, ![1, 512, 256]⟩
abbrev S512x256 : Shape := ⟨2, ![512, 256]⟩
abbrev S512x128 : Shape := ⟨2, ![512, 128]⟩
abbrev S1024x128 : Shape := ⟨2, ![1024, 128]⟩
abbrev S512x1024 : Shape := ⟨2, ![512, 1024]⟩
abbrev S1x512x1024 : Shape := ⟨3, ![1, 512, 1024]⟩
abbrev S1024 : Shape := ⟨1, ![1024]⟩
abbrev S1x1x1024 : Shape := ⟨3, ![1, 1, 1024]⟩
abbrev S1x1x128x512 : Shape := ⟨4, ![1, 1, 128, 512]⟩
abbrev S128x512 : Shape := ⟨2, ![128, 512]⟩
abbrev S16x512 : Shape := ⟨2, ![16, 512]⟩
abbrev S64x512 : Shape := ⟨2, ![64, 512]⟩
abbrev S80x512 : Shape := ⟨2, ![80, 512]⟩
abbrev S256x256 : Shape := ⟨2, ![256, 256]⟩
abbrev S256x128 : Shape := ⟨2, ![256, 128]⟩
abbrev S256x1024 : Shape := ⟨2, ![256, 1024]⟩
abbrev S1x256x1024 : Shape := ⟨3, ![1, 256, 1024]⟩
abbrev S128x256 : Shape := ⟨2, ![128, 256]⟩
abbrev S16x256 : Shape := ⟨2, ![16, 256]⟩
abbrev S64x256 : Shape := ⟨2, ![64, 256]⟩
abbrev S80x256 : Shape := ⟨2, ![80, 256]⟩
abbrev S64x1024 : Shape := ⟨2, ![64, 1024]⟩
abbrev S128x1024 : Shape := ⟨2, ![128, 1024]⟩

abbrev nBuf : Space → Nat
  | .hbm => 6
  | .vmem => 18
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x256x1024, .bf16⟩
  | .hbm, ⟨3, _⟩ => ⟨S8x8x512x512, .bf16⟩
  | .hbm, ⟨4, _⟩ => ⟨S8x1x512x256, .bf16⟩
  | .hbm, ⟨5, _⟩ => ⟨S8x4096x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x8x128x512, .bf16⟩
  | .local _ .vmem, ⟨7, _⟩ => ⟨S1x8x128x512, .bf16⟩
  | .local _ .vmem, ⟨8, _⟩ => ⟨S1x1x128x256, .bf16⟩
  | .local _ .vmem, ⟨9, _⟩ => ⟨S1x1x128x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S2x512x1024, .f32⟩
  | .local _ .vmem, ⟨13, _⟩ => ⟨S2x512x1024, .f32⟩
  | .local _ .vmem, ⟨14, _⟩ => ⟨S2x256x1024, .f32⟩
  | .local _ .vmem, ⟨15, _⟩ => ⟨S2x1x1024, .f32⟩
  | .local _ .vmem, ⟨16, _⟩ => ⟨S2x1x1024, .f32⟩
  | .local _ .vmem, ⟨17, _⟩ => ⟨S2x1x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 : BitVec 32 :=
  let c0_i32 : BitVec 32 := 0#32
  c0_i32
@[reducible] def k0_t1_loop : Scf.Loop 32 :=
  let c0_i32_22 : BitVec 32 := 0#32
  let c3_i32 : BitVec 32 := 3#32
  let v30 : BitVec 32 := Scalar.addi c0_i32_22 c3_i32
  let c1_i32 : BitVec 32 := 1#32
  ⟨c0_i32_22, v30, c1_i32⟩
def k0_mult2 (k0_t1 : Fin k0_t1_loop.trips) : BitVec 32 :=
  let c2_i32 : BitVec 32 := 2#32
  let c0_i32_22 : BitVec 32 := 0#32
  let c1_i32 : BitVec 32 := 1#32
  let arg15 : BitVec 32 := Scf.iv c0_i32_22 c1_i32 k0_t1
  let v211 : BitVec 32 := Scalar.muli c2_i32 arg15
  let c1_i32_131 : BitVec 32 := 1#32
  let v212 : BitVec 32 := Scalar.addi v211 c1_i32_131
  let c512_i32 : BitVec 32 := 512#32
  let v213 : BitVec 32 := Scalar.muli v212 c512_i32
  v213
def k0_off1 (k0_t1 : Fin k0_t1_loop.trips) (c1_i32_131 : BitVec 32) : Fin 3 → Nat :=
  let c0_132 : Index := 0#32
  let c2_i32 : BitVec 32 := 2#32
  let c0_i32_22 : BitVec 32 := 0#32
  let c1_i32 : BitVec 32 := 1#32
  let arg15 : BitVec 32 := Scf.iv c0_i32_22 c1_i32 k0_t1
  let v211 : BitVec 32 := Scalar.muli c2_i32 arg15
  let v212 : BitVec 32 := Scalar.addi v211 c1_i32_131
  let c512_i32 : BitVec 32 := 512#32
  let v213 : BitVec 32 := Scalar.muli v212 c512_i32
  let v214 : BitVec 32 := v213
  let v215 : Index := Scalar.indexCast v214
  let c0_133 : Index := 0#32
  ![0, v215.toNat, 0]
def k0_off2 (k0_t1 : Fin k0_t1_loop.trips) : Fin 4 → Nat :=
  let c0_156 : Index := 0#32
  let c2_i32 : BitVec 32 := 2#32
  let c0_i32_22 : BitVec 32 := 0#32
  let c1_i32 : BitVec 32 := 1#32
  let arg15 : BitVec 32 := Scf.iv c0_i32_22 c1_i32 k0_t1
  let v211 : BitVec 32 := Scalar.muli c2_i32 arg15
  let v242 : Index := Scalar.indexCast v211
  let c0_157 : Index := 0#32
  let c0_158 : Index := 0#32
  ![0, v242.toNat, 0, 0]
def k0_mult3 (k0_t1 : Fin k0_t1_loop.trips) : BitVec 32 :=
  let c2_i32 : BitVec 32 := 2#32
  let c0_i32_22 : BitVec 32 := 0#32
  let c1_i32 : BitVec 32 := 1#32
  let arg15 : BitVec 32 := Scf.iv c0_i32_22 c1_i32 k0_t1
  let v211 : BitVec 32 := Scalar.muli c2_i32 arg15
  let c2_i32_174 : BitVec 32 := 2#32
  let v280 : BitVec 32 := Scalar.addi v211 c2_i32_174
  let c512_i32_175 : BitVec 32 := 512#32
  let v281 : BitVec 32 := Scalar.muli v280 c512_i32_175
  v281
def k0_off3 (k0_t1 : Fin k0_t1_loop.trips) : Fin 4 → Nat :=
  let c0_201 : Index := 0#32
  let c2_i32 : BitVec 32 := 2#32
  let c0_i32_22 : BitVec 32 := 0#32
  let c1_i32 : BitVec 32 := 1#32
  let arg15 : BitVec 32 := Scf.iv c0_i32_22 c1_i32 k0_t1
  let v211 : BitVec 32 := Scalar.muli c2_i32 arg15
  let c1_i32_200 : BitVec 32 := 1#32
  let v310 : BitVec 32 := Scalar.addi v211 c1_i32_200
  let v311 : Index := Scalar.indexCast v310
  let c0_202 : Index := 0#32
  let c0_203 : Index := 0#32
  ![0, v311.toNat, 0, 0]
def k0_mult4 : BitVec 32 :=
  let c3584_i32 : BitVec 32 := 3584#32
  c3584_i32
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S8x4096x1024 : Shape := ⟨3, ![8, 4096, 1024]⟩
abbrev S8x256x1024 : Shape := ⟨3, ![8, 256, 1024]⟩
abbrev S8x8x512x512 : Shape := ⟨4, ![8, 8, 512, 512]⟩
abbrev S8x1x512x256 : Shape := ⟨4, ![8, 1, 512, 256]⟩
abbrev S8x4096x8x128 : Shape := ⟨4, ![8, 4096, 8, 128]⟩
abbrev S8x4352x1024 : Shape := ⟨3, ![8, 4352, 1024]⟩
abbrev S8x4352x8x128 : Shape := ⟨4, ![8, 4352, 8, 128]⟩
abbrev S8x4096x8x64 : Shape := ⟨4, ![8, 4096, 8, 64]⟩
abbrev S8x1x256x512 : Shape := ⟨4, ![8, 1, 256, 512]⟩
abbrev S8x256x8x64 : Shape := ⟨4, ![8, 256, 8, 64]⟩
abbrev S8x4352x8x64 : Shape := ⟨4, ![8, 4352, 8, 64]⟩
abbrev S8x8x4096x4352 : Shape := ⟨4, ![8, 8, 4096, 4352]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .bf16⟩
  | .hbm, ⟨2, _⟩ => ⟨S8x256x1024, .bf16⟩
  | .hbm, ⟨3, _⟩ => ⟨S8x8x512x512, .bf16⟩
  | .hbm, ⟨4, _⟩ => ⟨S8x1x512x256, .bf16⟩
  | .hbm, ⟨5, _⟩ => ⟨S8x4096x1024, .f32⟩
  | .hbm, ⟨6, _⟩ => ⟨S8x4096x8x128, .f32⟩
  | .hbm, ⟨7, _⟩ => ⟨S8x4352x1024, .bf16⟩
  | .hbm, ⟨8, _⟩ => ⟨S8x4352x1024, .f32⟩
  | .hbm, ⟨9, _⟩ => ⟨S8x4352x8x128, .f32⟩
  | .hbm, ⟨10, _⟩ => ⟨S8x8x512x512, .f32⟩
  | .hbm, ⟨11, _⟩ => ⟨S8x8x512x512, .f32⟩
  | .hbm, ⟨12, _⟩ => ⟨S8x4096x8x64, .f32⟩
  | .hbm, ⟨13, _⟩ => ⟨S8x1x512x256, .f32⟩
  | .hbm, ⟨14, _⟩ => ⟨S8x1x256x512, .f32⟩
  | .hbm, ⟨15, _⟩ => ⟨S8x256x8x64, .f32⟩
  | .hbm, ⟨16, _⟩ => ⟨S8x4352x8x64, .f32⟩
  | .hbm, ⟨17, _⟩ => ⟨S8x8x4096x4352, .f32⟩
  | .hbm, ⟨18, _⟩ => ⟨S8x8x4096x4352, .bf16⟩
  | .hbm, ⟨19, _⟩ => ⟨S8x8x4096x4352, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8x8x4096x4352, .f32⟩
  | .hbm, ⟨24, _⟩ => ⟨S8x8x4096x4352, .f32⟩
  | .hbm, ⟨25, _⟩ => ⟨S_, .f32⟩
  | .hbm, ⟨26, _⟩ => ⟨S8x8x4096, .f32⟩
  | .hbm, ⟨27, _⟩ => ⟨S_, .f32⟩
  | .hbm, ⟨28, _⟩ => ⟨S8x8x4096, .f32⟩
  | .hbm, ⟨29, _⟩ => ⟨S8x8x4096, .f32⟩
  | .hbm, ⟨30, _⟩ => ⟨S8x8x4096x1, .f32⟩
  | .hbm, ⟨31, _⟩ => ⟨S8x8x4096x4352, .f32⟩
  | .hbm, ⟨32, _⟩ => ⟨S8x8x4096x4352, .f32⟩
  | .hbm, ⟨33, _⟩ => ⟨S8x8x4096x4352, .f32⟩
  | .hbm, ⟨34, _⟩ => ⟨S_, .f32⟩
  | .hbm, ⟨35, _⟩ => ⟨S8x8x4096, .f32⟩
  | .hbm, ⟨36, _⟩ => ⟨S8x8x4096x1, .f32⟩
  | .hbm, ⟨37, _⟩ => ⟨S8x8x4096x4352, .f32⟩
  | .hbm, ⟨38, _⟩ => ⟨S8x8x4096x4352, .f32⟩
  | .hbm, ⟨39, _⟩ => ⟨S8x8x4096x4352, .bf16⟩
  | .hbm, ⟨40, _⟩ => ⟨S8x8x4096x4352, .f32⟩
  | .hbm, ⟨41, _⟩ => ⟨S8x8x64x4096, .f32⟩
  | .hbm, ⟨42, _⟩ => ⟨S8x4096x8x64, .f32⟩
  | .hbm, ⟨43, _⟩ => ⟨S8x4096x512, .f32⟩
  | .hbm, ⟨44, _⟩ => ⟨S8x4096x512, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x1x6144 : Shape := ⟨3, ![16, 1, 6144]⟩
abbrev S1x1024 : Shape := ⟨2, ![1, 1024]⟩
abbrev S8x4096x512 : Shape := ⟨3, ![8, 4096, 512]⟩
abbrev S1024x2560 : Shape := ⟨2, ![1024, 2560]⟩
abbrev S1x128 : Shape := ⟨2, ![1, 128]⟩
abbrev S512x1024 : Shape := ⟨2, ![512, 1024]⟩
abbrev S1024x1024 : Shape := ⟨2, ![1024, 1024]⟩
abbrev S1x1024x1024 : Shape := ⟨3, ![1, 1024, 1024]⟩
abbrev S1x1x1024 : Shape := ⟨3, ![1, 1, 1024]⟩
abbrev S1x1024x512 : Shape := ⟨3, ![1, 1024, 512]⟩
abbrev S1024 : Shape := ⟨1, ![1024]⟩
abbrev S1024x1 : Shape := ⟨2, ![1024, 1]⟩
abbrev S1024x512 : Shape := ⟨2, ![1024, 512]⟩
abbrev S1024x128 : Shape := ⟨2, ![1024, 128]⟩

abbrev nBuf : Space → Nat
  | .hbm => 12
  | .vmem => 22
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1x1024, .f32⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S1024x2560, .bf16⟩
  | .hbm, ⟨7, _⟩ => ⟨S1x128, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1024x2560, .bf16⟩
  | .local _ .vmem, ⟨16, _⟩ => ⟨S1x128, .f32⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024x1024, .f32⟩
  | .local _ .vmem, ⟨21, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S8x4096x1024 : Shape := ⟨3, ![8, 4096, 1024]⟩
abbrev S16x1x6144 : Shape := ⟨3, ![16, 1, 6144]⟩
abbrev S1x1024 : Shape := ⟨2, ![1, 1024]⟩
abbrev S8x4096x512 : Shape := ⟨3, ![8, 4096, 512]⟩
abbrev S1024x2560 : Shape := ⟨2, ![1024, 2560]⟩
abbrev S1x128 : Shape := ⟨2, ![1, 128]⟩
abbrev S512x1024 : Shape := ⟨2, ![512, 1024]⟩
abbrev S1024x1024 : Shape := ⟨2, ![1024, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2560 : Shape := ⟨3, ![8, 4096, 2560]⟩
abbrev S8x4096x2048 : Shape := ⟨3, ![8, 4096, 2048]⟩
abbrev S8x4096x4x128 : Shape := ⟨4, ![8, 4096, 4, 128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1x1024, .f32⟩
  | .hbm, ⟨3, _⟩ => ⟨S8x4096x512, .bf16⟩
  | .hbm, ⟨4, _⟩ => ⟨S8x4096x512, .bf16⟩
  | .hbm, ⟨5, _⟩ => ⟨S8x4096x512, .bf16⟩
  | .hbm, ⟨6, _⟩ => ⟨S1024x2560, .bf16⟩
  | .hbm, ⟨7, _⟩ => ⟨S1x128, .f32⟩
  | .hbm, ⟨8, _⟩ => ⟨S512x1024, .bf16⟩
  | .hbm, ⟨9, _⟩ => ⟨S512x1024, .bf16⟩
  | .hbm, ⟨10, _⟩ => ⟨S1024x1024, .bf16⟩
  | .hbm, ⟨11, _⟩ => ⟨S8x1x6144, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S8x4096x1024, .bf16⟩
  | .hbm, ⟨42, _⟩ => ⟨S8x4096x1024, .f32⟩
  | .hbm, ⟨43, _⟩ => ⟨S1024x2560, .f32⟩
  | .hbm, ⟨44, _⟩ => ⟨S8x4096x2560, .f32⟩
  | .hbm, ⟨45, _⟩ => ⟨S8x4096x512, .f32⟩
  | .hbm, ⟨46, _⟩ => ⟨S8x4096x2048, .f32⟩
  | .hbm, ⟨47, _⟩ => ⟨S8x4096x512, .f32⟩
  | .hbm, ⟨48, _⟩ => ⟨S8x4096x512, .f32⟩
  | .hbm, ⟨49, _⟩ => ⟨S8x4096x512, .f32⟩
  | .hbm, ⟨50, _⟩ => ⟨S8x4096x4x128, .f32⟩
  | .hbm, ⟨51, _⟩ => ⟨S8x4096x4x128, .f32⟩
  | .hbm, ⟨52, _⟩ => ⟨S_, .f32⟩
  | .hbm, ⟨53, _⟩ => ⟨S8x4096x4, .f32⟩
  | .hbm, ⟨54, _⟩ => ⟨S8x4096x4x1, .f32⟩
  | .hbm, ⟨55, _⟩ => ⟨S_, .f32⟩
  | .hbm, ⟨56, _⟩ => ⟨S8x4096x4x1, .f32⟩
  | .hbm, ⟨57, _⟩ => ⟨S8x4096x4x1, .f32⟩
  | .hbm, ⟨58, _⟩ => ⟨S_, .f32⟩
  | .hbm, ⟨59, _⟩ => ⟨S8x4096x4x1, .f32⟩
  | .hbm, ⟨60, _⟩ => ⟨S8x4096x4x1, .f32⟩
  | .hbm, ⟨61, _⟩ => ⟨S8x4096x4x1, .f32⟩
  | .hbm, ⟨62, _⟩ => ⟨S8x4096x4x128, .f32⟩
  | .hbm, ⟨63, _⟩ => ⟨S8x4096x4x128, .f32⟩
  | .hbm, ⟨64, _⟩ => ⟨S1x1x1x128, .f32⟩
  | .hbm, ⟨65, _⟩ => ⟨S8x4096x4x128, .f32⟩
  | .hbm, ⟨66, _⟩ => ⟨S8x4096x4x128, .f32⟩
  | .hbm, ⟨67, _⟩ => ⟨S8x4096x512, .f32⟩
  | .hbm, ⟨68, _⟩ => ⟨S8x4096x512, .f32⟩
  | .hbm, ⟨69, _⟩ => ⟨S8x4096x512, .f32⟩
  | .hbm, ⟨70, _⟩ => ⟨S_, .f32⟩
  | .hbm, ⟨71, _⟩ => ⟨S8x4096x512, .f32⟩
  | .hbm, ⟨72, _⟩ => ⟨S8x4096x512, .f32⟩
  | .hbm, ⟨73, _⟩ => ⟨S_, .f32⟩
  | .hbm, ⟨74, _⟩ => ⟨S8x4096x512, .f32⟩
  | .hbm, ⟨75, _⟩ => ⟨S8x4096x512, .f32⟩
  | .hbm, ⟨76, _⟩ => ⟨S8x4096x512, .f32⟩
  | .hbm, ⟨77, _⟩ => ⟨S8x4096x512, .f32⟩
  | .hbm, ⟨78, _⟩ => ⟨S8x4096x2048, .f32⟩
  | .hbm, ⟨79, _⟩ => ⟨S8x4096x2048, .f32⟩
  | .hbm, ⟨80, _⟩ => ⟨S_, .f32⟩
  | .hbm, ⟨81, _⟩ => ⟨S8x4096x2048, .f32⟩
  | .hbm, ⟨82, _⟩ => ⟨S8x4096x2048, .f32⟩
  | .hbm, ⟨83, _⟩ => ⟨S_, .f32⟩
  | .hbm, ⟨84, _⟩ => ⟨S8x4096x2048, .f32⟩
  | .hbm, ⟨85, _⟩ => ⟨S8x4096x2048, .f32⟩
  | .hbm, ⟨86, _⟩ => ⟨S8x4096x1024, .f32⟩
  | .hbm, ⟨87, _⟩ => ⟨S8x4096x1024, .f32⟩
  | .hbm, ⟨88, _⟩ => ⟨S8x4096x512, .f32⟩
  | .hbm, ⟨89, _⟩ => ⟨S512x1024, .f32⟩
  | .hbm, ⟨90, _⟩ => ⟨S8x4096x1024, .f32⟩
  | .hbm, ⟨91, _⟩ => ⟨S8x4096x1024, .f32⟩
  | .hbm, ⟨92, _⟩ => ⟨S8x4096x512, .bf16⟩
  | .hbm, ⟨93, _⟩ => ⟨S8x4096x512, .f32⟩
  | .hbm, ⟨94, _⟩ => ⟨S512x1024, .f32⟩
  | .hbm, ⟨95, _⟩ => ⟨S8x4096x1024, .f32⟩
  | .hbm, ⟨96, _⟩ => ⟨S8x4096x1024, .f32⟩
  | .hbm, ⟨97, _⟩ => ⟨S8x4096x1024, .f32⟩
  | .hbm, ⟨98, _⟩ => ⟨S8x4096x1024, .bf16⟩
  | .hbm, ⟨99, _⟩ => ⟨S8x4096x1024, .f32⟩
  | .hbm, ⟨100, _⟩ => ⟨S1024x1024, .f32⟩
  | .hbm, ⟨101, _⟩ => ⟨S8x4096x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_3 : Ref sig .tc := ⟨.hbm, 52, rfl⟩
abbrev main_v37 : Ref sig .tc := ⟨.hbm, 53, rfl⟩
abbrev main_v38 : Ref sig .tc := ⟨.hbm, 54, rfl⟩
abbrev main_cst_4 : Ref sig .tc := ⟨.hbm, 55, rfl⟩
abbrev main_v39 : Ref sig .tc := ⟨.hbm, 56, rfl⟩
abbrev main_v40 : Ref sig .tc := ⟨.hbm, 57, rfl⟩
abbrev main_cst_5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_6 : Ref sig .tc := ⟨.hbm, 80, rfl⟩
abbrev main_v54 : Ref sig .tc := ⟨.hbm, 81, rfl⟩
abbrev main_v55 : Ref sig .tc := ⟨.hbm, 82, rfl⟩
abbrev main_cst_7 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩

abbrev nD : Nat := 1
abbrev τ : Topo := Topo.v7x

variable {F : FTy → Type} [FloatOps F]
-- ==== Kernel3.lean ====
abbrev S8x4096x1024 : Shape := ⟨3, ![8, 4096, 1024]⟩
abbrev S16x1x6144 : Shape := ⟨3, ![16, 1, 6144]⟩
abbrev S1x1024 : Shape := ⟨2, ![1, 1024]⟩
abbrev S4096x512 : Shape := ⟨2, ![4096, 512]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S512x256 : Shape := ⟨2, ![512, 256]⟩
abbrev S128x1024 : Shape := ⟨2, ![128, 1024]⟩
abbrev S8x8x512x512 : Shape := ⟨4, ![8, 8, 512, 512]⟩
abbrev S8x4096x512 : Shape := ⟨3, ![8, 4096, 512]⟩
abbrev S1x1024x1024 : Shape := ⟨3, ![1, 1024, 1024]⟩
abbrev S1x1x1024 : Shape := ⟨3, ![1, 1, 1024]⟩
abbrev S1024x512 : Shape := ⟨2, ![1024, 512]⟩
abbrev S1x2x512x512 : Shape := ⟨4, ![1, 2, 512, 512]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩
abbrev S1024x384 : Shape := ⟨2, ![1024, 384]⟩
abbrev S1x1024x128 : Shape := ⟨3, ![1, 1024, 128]⟩
abbrev S1024x256 : Shape := ⟨2, ![1024, 256]⟩
abbrev S512x1024 : Shape := ⟨2, ![512, 1024]⟩
abbrev S512x512 : Shape := ⟨2, ![512, 512]⟩
abbrev S1x1x512x512 : Shape := ⟨4, ![1, 1, 512, 512]⟩

abbrev nBuf : Space → Nat
  | .hbm => 19
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S16x1x6144, .f32⟩
  | .hbm, ⟨2, _⟩ => ⟨S1x1024, .f32⟩
  | .hbm, ⟨3, _⟩ => ⟨S4096x512, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S384x1024, .bf16⟩
  | .hbm, ⟨9, _⟩ => ⟨S512x256, .bf16⟩
  | .hbm, ⟨10, _⟩ => ⟨S128x1024, .bf16⟩
  | .hbm, ⟨11, _⟩ => ⟨S1x1024, .f32⟩
  | .hbm, ⟨12, _⟩ => ⟨S8x4096x1024, .bf16⟩
  | .hbm, ⟨13, _⟩ => ⟨S8x4096x1024, .bf16⟩
  | .hbm, ⟨14, _⟩ => ⟨S8x8x512x512, .bf16⟩
  | .hbm, ⟨15, _⟩ => ⟨S8x4096x512, .bf16⟩
  | .hbm, ⟨16, _⟩ => ⟨S8x4096x512, .bf16⟩
  | .hbm, ⟨17, _⟩ => ⟨S8x4096x512, .bf16⟩
  | .hbm, ⟨18, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .f32⟩
  | .local _ .vmem, ⟨8, _⟩ => ⟨S1024x512, .f32⟩
  | .local _ .vmem, ⟨9, _⟩ => ⟨S1024x2304, .bf16⟩
  | .local _ .vmem, ⟨10, _⟩ => ⟨S1x384, .f32⟩
  | .local _ .vmem, ⟨11, _⟩ => ⟨S384x1024, .bf16⟩
  | .local _ .vmem, ⟨12, _⟩ => ⟨S1x256, .f32⟩
  | .local _ .vmem, ⟨13, _⟩ => ⟨S384x1024, .bf16⟩
  | .local _ .vmem, ⟨14, _⟩ => ⟨S512x256, .bf16⟩
  | .local _ .vmem, ⟨15, _⟩ => ⟨S128x1024, .bf16⟩
  | .local _ .vmem, ⟨16, _⟩ => ⟨S1x1024, .f32⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1x1024x1024, .bf16⟩
  | .local _ .vmem, ⟨21, _⟩ => ⟨S1x2x512x512, .bf16⟩
  | .local _ .vmem, ⟨22, _⟩ => ⟨S1x2x512x512, .bf16⟩
  | .local _ .vmem, ⟨23, _⟩ => ⟨S1x1024x512, .bf16⟩
  | .local _ .vmem, ⟨24, _⟩ => ⟨S1x1024x512, .bf16⟩
  | .local _ .vmem, ⟨25, _⟩ => ⟨S1x1024x512, .bf16⟩
  | .local _ .vmem, ⟨26, _⟩ => ⟨S1x1024x512, .bf16⟩
  | .local _ .vmem, ⟨27, _⟩ => ⟨S1x1024x512, .bf16⟩
  | .local _ .vmem, ⟨28, _⟩ => ⟨S1x1024x512, .bf16⟩
  | .local _ .vmem, ⟨29, _⟩ => ⟨S1x1024x1024, .f32⟩
  | .local _ .vmem, ⟨30, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28
abbrev cc0_sem19_0 : DmaSem sig := 29
abbrev cc0_sem19_1 : DmaSem sig := 30

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1024x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1024x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S8x4096x1024 : Shape := ⟨3, ![8, 4096, 1024]⟩
abbrev S16x1x6144 : Shape := ⟨3, ![16, 1, 6144]⟩
abbrev S1x1024 : Shape := ⟨2, ![1, 1024]⟩
abbrev S4096x512 : Shape := ⟨2, ![4096, 512]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S512x256 : Shape := ⟨2, ![512, 256]⟩
abbrev S128x1024 : Shape := ⟨2, ![128, 1024]⟩
abbrev S8x1x6144 : Shape := ⟨3, ![8, 1, 6144]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2304 : Shape := ⟨3, ![8, 4096, 2304]⟩
abbrev S8x4096x384 : Shape := ⟨3, ![8, 4096, 384]⟩
abbrev S8x4096x128 : Shape := ⟨3, ![8, 4096, 128]⟩
abbrev S8x4096x256 : Shape := ⟨3, ![8, 4096, 256]⟩
abbrev S8x4096x512 : Shape := ⟨3, ![8, 4096, 512]⟩
abbrev S4096x128 : Shape := ⟨2, ![4096, 128]⟩
abbrev S1x1x384 : Shape := ⟨3, ![1, 1, 384]⟩
abbrev S8x4096x8x128 : Shape := ⟨4, ![8, 4096, 8, 128]⟩
abbrev S4096x1x128 : Shape := ⟨3, ![4096, 1, 128]⟩
abbrev S1x4096x1x128 : Shape := ⟨4, ![1, 4096, 1, 128]⟩
abbrev S1x1x256 : Shape := ⟨3, ![1, 1, 256]⟩
abbrev S1x4096x128 : Shape := ⟨3, ![1, 4096, 128]⟩
abbrev S8x4096x120 : Shape := ⟨3, ![8, 4096, 120]⟩
abbrev S8x4096x8 : Shape := ⟨3, ![8, 4096, 8]⟩
abbrev S256x512 : Shape := ⟨2, ![256, 512]⟩
abbrev S8x8x512x512 : Shape := ⟨4, ![8, 8, 512, 512]⟩

abbrev nBuf : Space → Nat
  | .hbm => 163
  | .vmem => 0
  | .smem => 0
  | _ => 0

abbrev hbmTy0_0 (i : Nat) : BufTy := match i % 128 with
  | 0 => ⟨S8x4096x1024, .f32⟩
  | 1 => ⟨S16x1x6144, .f32⟩
  | 2 => ⟨S1x1024, .f32⟩
  | 3 => ⟨S4096x512, .f32⟩
  | 4 => ⟨S1024x2304, .bf16⟩
  | 5 => ⟨S1x384, .f32⟩
  | 6 => ⟨S384x1024, .bf16⟩
  | 7 => ⟨S1x256, .f32⟩
  | 8 => ⟨S384x1024, .bf16⟩
  | 9 => ⟨S512x256, .bf16⟩
  | 10 => ⟨S128x1024, .bf16⟩
  | 11 => ⟨S1x1024, .f32⟩
  | 12 => ⟨S8x1x6144, .f32⟩
  | 13 => ⟨S8x1x1024, .f32⟩
  | 14 => ⟨S8x1x1024, .f32⟩
  | 15 => ⟨S8x1x1024, .f32⟩
  | 16 => ⟨S8x1x1024, .f32⟩
  | 17 => ⟨S8x1x1024, .f32⟩
  | 18 => ⟨S8x1x1024, .f32⟩
  | 19 => ⟨S8x4096x1024, .f32⟩
  | 20 => ⟨S_, .f32⟩
  | 21 => ⟨S8x4096, .f32⟩
  | 22 => ⟨S8x4096x1, .f32⟩
  | 23 => ⟨S_, .f32⟩
  | 24 => ⟨S8x4096x1, .f32⟩
  | 25 => ⟨S8x4096x1, .f32⟩
  | 26 => ⟨S_, .f32⟩
  | 27 => ⟨S8x4096x1, .f32⟩
  | 28 => ⟨S8x4096x1, .f32⟩
  | 29 => ⟨S8x4096x1, .f32⟩
  | 30 => ⟨S8x4096x1024, .f32⟩
  | 31 => ⟨S8x4096x1024, .f32⟩
  | 32 => ⟨S1x1x1024, .f32⟩
  | 33 => ⟨S8x4096x1024, .f32⟩
  | 34 => ⟨S8x4096x1024, .f32⟩
  | 35 => ⟨S_, .f32⟩
  | 36 => ⟨S8x1x1024, .f32⟩
  | 37 => ⟨S8x1x1024, .f32⟩
  | 38 => ⟨S8x4096x1024, .f32⟩
  | 39 => ⟨S8x4096x1024, .f32⟩
  | 40 => ⟨S8x4096x1024, .f32⟩
  | 41 => ⟨S8x4096x1024, .f32⟩
  | 42 => ⟨S8x4096x1024, .bf16⟩
  | 43 => ⟨S8x4096x1024, .f32⟩
  | 44 => ⟨S1024x2304, .f32⟩
  | 45 => ⟨S8x4096x2304, .f32⟩
  | 46 => ⟨S8x4096x384, .f32⟩
  | 47 => ⟨S8x4096x128, .f32⟩
  | 48 => ⟨S8x4096x256, .f32⟩
  | 49 => ⟨S8x4096x512, .f32⟩
  | 50 => ⟨S8x4096x512, .f32⟩
  | 51 => ⟨S8x4096x512, .f32⟩
  | 52 => ⟨S4096x128, .f32⟩
  | 53 => ⟨S8x4096x384, .f32⟩
  | 54 => ⟨S_, .f32⟩
  | 55 => ⟨S8x4096, .f32⟩
  | 56 => ⟨S8x4096x1, .f32⟩
  | 57 => ⟨S_, .f32⟩
  | 58 => ⟨S8x4096x1, .f32⟩
  | 59 => ⟨S8x4096x1, .f32⟩
  | 60 => ⟨S_, .f32⟩
  | 61 => ⟨S8x4096x1, .f32⟩
  | 62 => ⟨S8x4096x1, .f32⟩
  | 63 => ⟨S8x4096x1, .f32⟩
  | 64 => ⟨S8x4096x384, .f32⟩
  | 65 => ⟨S8x4096x384, .f32⟩
  | 66 => ⟨S1x1x384, .f32⟩
  | 67 => ⟨S8x4096x384, .f32⟩
  | 68 => ⟨S8x4096x384, .f32⟩
  | 69 => ⟨S8x4096x384, .bf16⟩
  | 70 => ⟨S8x4096x384, .f32⟩
  | 71 => ⟨S384x1024, .f32⟩
  | 72 => ⟨S8x4096x1024, .f32⟩
  | 73 => ⟨S8x4096x8x128, .f32⟩
  | 74 => ⟨S4096x1x128, .f32⟩
  | 75 => ⟨S1x4096x1x128, .f32⟩
  | 76 => ⟨S8x4096x8x128, .f32⟩
  | 77 => ⟨S8x4096x8x128, .f32⟩
  | 78 => ⟨S8x4096x1024, .f32⟩
  | 79 => ⟨S4096x128, .f32⟩
  | 80 => ⟨S4096x128, .f32⟩
  | 81 => ⟨S4096x128, .f32⟩
  | 82 => ⟨S4096x128, .f32⟩
  | 83 => ⟨S8x4096x256, .f32⟩
  | 84 => ⟨S_, .f32⟩
  | 85 => ⟨S8x4096, .f32⟩
  | 86 => ⟨S8x4096x1, .f32⟩
  | 87 => ⟨S_, .f32⟩
  | 88 => ⟨S8x4096x1, .f32⟩
  | 89 => ⟨S8x4096x1, .f32⟩
  | 90 => ⟨S_, .f32⟩
  | 91 => ⟨S8x4096x1, .f32⟩
  | 92 => ⟨S8x4096x1, .f32⟩
  | 93 => ⟨S8x4096x1, .f32⟩
  | 94 => ⟨S8x4096x256, .f32⟩
  | 95 => ⟨S8x4096x256, .f32⟩
  | 96 => ⟨S1x1x256, .f32⟩
  | 97 => ⟨S8x4096x256, .f32⟩
  | 98 => ⟨S8x4096x256, .f32⟩
  | 99 => ⟨S1x4096x128, .f32⟩
  | 100 => ⟨S8x4096x128, .f32⟩
  | 101 => ⟨S8x4096x128, .f32⟩
  | 102 => ⟨S8x4096x120, .f32⟩
  | 103 => ⟨S8x4096x8, .f32⟩
  | 104 => ⟨S8x4096x128, .f32⟩
  | 105 => ⟨S1x4096x128, .f32⟩
  | 106 => ⟨S8x4096x128, .f32⟩
  | 107 => ⟨S8x4096x128, .f32⟩
  | 108 => ⟨S8x4096x128, .f32⟩
  | 109 => ⟨S8x4096x8, .f32⟩
  | 110 => ⟨S8x4096x120, .f32⟩
  | 111 => ⟨S8x4096x128, .f32⟩
  | 112 => ⟨S1x4096x128, .f32⟩
  | 113 => ⟨S8x4096x128, .f32⟩
  | 114 => ⟨S8x4096x128, .f32⟩
  | 115 => ⟨S8x4096x128, .f32⟩
  | 116 => ⟨S8x4096x384, .f32⟩
  | 117 => ⟨S8x4096x384, .bf16⟩
  | 118 => ⟨S8x4096x384, .f32⟩
  | 119 => ⟨S384x1024, .f32⟩
  | 120 => ⟨S8x4096x1024, .f32⟩
  | 121 => ⟨S256x512, .bf16⟩
  | 122 => ⟨S8x4096x256, .bf16⟩
  | 123 => ⟨S8x4096x256, .f32⟩
  | 124 => ⟨S256x512, .f32⟩
  | 125 => ⟨S8x4096x512, .f32⟩
  | 126 => ⟨S8x8x512x512, .f32⟩
  | 127 => ⟨S8x8x512x512, .f32⟩
  | _ => ⟨S8x4096x1024, .f32⟩

abbrev hbmTy0_1 (i : Nat) : BufTy := match i % 128 with
  | 0 => ⟨S8x4096x128, .bf16⟩
  | 1 => ⟨S8x4096x128, .f32⟩
  | 2 => ⟨S128x1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S_, .f32⟩
  | 9 => ⟨S8x4096x1024, .f32⟩
  | 10 => ⟨S8x4096x1024, .f32⟩
  | 11 => ⟨S8x4096x1024, .f32⟩
  | 12 => ⟨S8x4096x1024, .f32⟩
  | 13 => ⟨S8x4096x1024, .i1⟩
  | 14 => ⟨S8x4096x1024, .f32⟩
  | 15 => ⟨S8x4096x1024, .f32⟩
  | 16 => ⟨S8x4096x1024, .f32⟩
  | 17 => ⟨S8x4096x1024, .f32⟩
  | 18 => ⟨S8x4096x1024, .f32⟩
  | 19 => ⟨S8x4096x1024, .f32⟩
  | 20 => ⟨S8x4096x1024, .f32⟩
  | 21 => ⟨S8x4096x1024, .f32⟩
  | 22 => ⟨S8x4096x1024, .f32⟩
  | 23 => ⟨S_, .f32⟩
  | 24 => ⟨S8x4096x1024, .f32⟩
  | 25 => ⟨S8x4096x1024, .f32⟩
  | 26 => ⟨S8x4096x1024, .bf16⟩
  | 27 => ⟨S8x4096x1024, .bf16⟩
  | 28 => ⟨S8x8x512x512, .bf16⟩
  | 29 => ⟨S_, .f32⟩
  | 30 => ⟨S8x4096x512, .f32⟩
  | 31 => ⟨S8x4096x512, .f32⟩
  | 32 => ⟨S8x4096x512, .bf16⟩
  | 33 => ⟨S8x4096x512, .bf16⟩
  | 34 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_3 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_cst_5 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_6 : Ref sig .tc := ⟨.hbm, 84, rfl⟩
abbrev main_v65 : Ref sig .tc := ⟨.hbm, 85, rfl⟩
abbrev main_v66 : Ref sig .tc := ⟨.hbm, 86, rfl⟩
abbrev main_cst_7 : Ref sig .tc := ⟨.hbm, 87, rfl⟩
abbrev main_v67 : Ref sig .tc := ⟨.hbm, 88, rfl⟩
abbrev main_v68 : Ref sig .tc := ⟨.hbm, 89, rfl⟩
abbrev main_cst_8 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_call0_v0 : Ref sig .tc := ⟨.hbm, 102, rfl⟩
abbrev main_call0_v1 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_call1_v0 : Ref sig .tc := ⟨.hbm, 109, rfl⟩
abbrev main_call1_v1 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_call2_v0 : Ref sig .tc := ⟨.hbm, 135, rfl⟩
abbrev main_call2_call0_cst : Ref sig .tc := ⟨.hbm, 136, rfl⟩
abbrev main_call2_call0_v0 : Ref sig .tc := ⟨.hbm, 137, rfl⟩
abbrev main_call2_call0_v1 : Ref sig .tc := ⟨.hbm, 138, rfl⟩
abbrev main_call2_call0_v2 : Ref sig .tc := ⟨.hbm, 139, rfl⟩
abbrev main_call2_call0_v3 : Ref sig .tc := ⟨.hbm, 140, rfl⟩
abbrev main_call2_call0_v4 : Ref sig .tc := ⟨.hbm, 141, rfl⟩
abbrev main_call2_call0_v5 : Ref sig .tc := ⟨.hbm, 142, rfl⟩
abbrev main_call2_call0_v6 : Ref sig .tc := ⟨.hbm, 143, rfl⟩
abbrev main_call2_call0_v7 : Ref sig .tc := ⟨.hbm, 144, rfl⟩
abbrev main_call2_call0_v8 : Ref sig .tc := ⟨.hbm, 145, rfl⟩
abbrev main_call2_call0_v9 : Ref sig .tc := ⟨.hbm, 146, rfl⟩
abbrev main_call2_call0_v10 : Ref sig .tc := ⟨.hbm, 147, rfl⟩
abbrev main_call2_call0_v11 : Ref sig .tc := ⟨.hbm, 148, rfl⟩
abbrev main_call2_v1 : Ref sig .tc := ⟨.hbm, 149, rfl⟩
abbrev main_v109 : Ref sig .tc := ⟨.hbm, 150, rfl⟩
abbrev main_cst_9 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_10 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩

abbrev nD : Nat := 1
abbrev τ : Topo := Topo.v7x

variable {F : FTy → Type} [FloatOps F]
-- ==== Kernel4.lean ====
abbrev S1x2048x1024 : Shape := ⟨3, ![1, 2048, 1024]⟩
abbrev S16x1x6144 : Shape := ⟨3, ![16, 1, 6144]⟩
abbrev S1x1024 : Shape := ⟨2, ![1, 1024]⟩
abbrev S2048x512 : Shape := ⟨2, ![2048, 512]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S512x256 : Shape := ⟨2, ![512, 256]⟩
abbrev S128x1024 : Shape := ⟨2, ![128, 1024]⟩
abbrev S1x8x512x256 : Shape := ⟨4, ![1, 8, 512, 256]⟩
abbrev S1x2048x512 : Shape := ⟨3, ![1, 2048, 512]⟩
abbrev S1x1024x1024 : Shape := ⟨3, ![1, 1024, 1024]⟩
abbrev S1x1x1024 : Shape := ⟨3, ![1, 1, 1024]⟩
abbrev S1024x512 : Shape := ⟨2, ![1024, 512]⟩
abbrev S1x4x512x256 : Shape := ⟨4, ![1, 4, 512, 256]⟩
abbrev S1x1024x512 : Shape := ⟨3, ![1, 1024, 512]⟩
abbrev S1024x1024 : Shape := ⟨2, ![1024, 1024]⟩
abbrev S1024 : Shape := ⟨1, ![1024]⟩
abbrev S1024x1 : Shape := ⟨2, ![1024, 1]⟩
abbrev S1024x256 : Shape := ⟨2, ![1024, 256]⟩
abbrev S1024x128 : Shape := ⟨2, ![1024, 128]⟩
abbrev S1024x384 : Shape := ⟨2, ![1024, 384]⟩
abbrev S512x1024 : Shape := ⟨2, ![512, 1024]⟩
abbrev S1x1x512x256 : Shape := ⟨4, ![1, 1, 512, 256]⟩

abbrev nBuf : Space → Nat
  | .hbm => 17
  | .vmem => 25
  | .smem => 0
  | _ => 0

abbrev bufTy : (tb : Table) → Fin (tcTables nBuf tb) → BufTy
  | .hbm, ⟨0, _⟩ => ⟨S1x2048x1024, .f32⟩
  | .hbm, ⟨1, _⟩ => ⟨S16x1x6144, .f32⟩
  | .hbm, ⟨2, _⟩ => ⟨S1x1024, .f32⟩
  | .hbm, ⟨3, _⟩ => ⟨S2048x512, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S384x1024, .bf16⟩
  | .hbm, ⟨9, _⟩ => ⟨S512x256, .bf16⟩
  | .hbm, ⟨10, _⟩ => ⟨S128x1024, .bf16⟩
  | .hbm, ⟨11, _⟩ => ⟨S1x1024, .f32⟩
  | .hbm, ⟨12, _⟩ => ⟨S1x2048x1024, .bf16⟩
  | .hbm, ⟨13, _⟩ => ⟨S1x8x512x256, .bf16⟩
  | .hbm, ⟨14, _⟩ => ⟨S1x2048x512, .bf16⟩
  | .hbm, ⟨15, _⟩ => ⟨S1x2048x512, .bf16⟩
  | .hbm, ⟨16, _⟩ => ⟨S1x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1024, .f32⟩
  | .local _ .vmem, ⟨5, _⟩ => ⟨S1024x512, .f32⟩
  | .local _ .vmem, ⟨6, _⟩ => ⟨S1024x512, .f32⟩
  | .local _ .vmem, ⟨7, _⟩ => ⟨S1024x2304, .bf16⟩
  | .local _ .vmem, ⟨8, _⟩ => ⟨S1x384, .f32⟩
  | .local _ .vmem, ⟨9, _⟩ => ⟨S384x1024, .bf16⟩
  | .local _ .vmem, ⟨10, _⟩ => ⟨S1x256, .f32⟩
  | .local _ .vmem, ⟨11, _⟩ => ⟨S384x1024, .bf16⟩
  | .local _ .vmem, ⟨12, _⟩ => ⟨S512x256, .bf16⟩
  | .local _ .vmem, ⟨13, _⟩ => ⟨S128x1024, .bf16⟩
  | .local _ .vmem, ⟨14, _⟩ => ⟨S1x1024, .f32⟩
  | .local _ .vmem, ⟨15, _⟩ => ⟨S1x1024x1024, .bf16⟩
  | .local _ .vmem, ⟨16, _⟩ => ⟨S1x1024x1024, .bf16⟩
  | .local _ .vmem, ⟨17, _⟩ => ⟨S1x4x512x256, .bf16⟩
  | .local _ .vmem, ⟨18, _⟩ => ⟨S1x4x512x256, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x1024x1024, .f32⟩
  | .local _ .vmem, ⟨24, _⟩ => ⟨S1x1024x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24

abbrev nD : Nat := 1
abbrev τ : Topo := Topo.v7x

variable {F : FTy → Type} [FloatOps F]

abbrev grid0 : Pipeline.Grid := ⟨2, ![1, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c1_i32 : BitVec 32 := 1#32
  let c0_i32_0 : BitVec 32 := 0#32
  ![c8_i32.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1024x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S384x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1024x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference4Ideal.lean ====
abbrev S1x2048x1024 : Shape := ⟨3, ![1, 2048, 1024]⟩
abbrev S16x1x6144 : Shape := ⟨3, ![16, 1, 6144]⟩
abbrev S1x1024 : Shape := ⟨2, ![1, 1024]⟩
abbrev S2048x512 : Shape := ⟨2, ![2048, 512]⟩
abbrev S1024x2304 : Shape := ⟨2, ![1024, 2304]⟩
abbrev S1x384 : Shape := ⟨2, ![1, 384]⟩
abbrev S384x1024 : Shape := ⟨2, ![384, 1024]⟩
abbrev S1x256 : Shape := ⟨2, ![1, 256]⟩
abbrev S512x256 : Shape := ⟨2, ![512, 256]⟩
abbrev S128x1024 : Shape := ⟨2, ![128, 1024]⟩
abbrev S1x1x6144 : Shape := ⟨3, ![1, 1, 6144]⟩
abbrev S1x1x1024 : Shape := ⟨3, ![1, 1, 1024]⟩
abbrev S_ : Shape := ⟨0, ![]⟩
abbrev S1x2048 : Shape := ⟨2, ![1, 2048]⟩
abbrev S1x2048x1 : Shape := ⟨3, ![1, 2048, 1]⟩
abbrev S1x2048x2304 : Shape := ⟨3, ![1, 2048, 2304]⟩
abbrev S1x2048x384 : Shape := ⟨3, ![1, 2048, 384]⟩
abbrev S1x2048x128 : Shape := ⟨3, ![1, 2048, 128]⟩
abbrev S1x2048x256 : Shape := ⟨3, ![1, 2048, 256]⟩
abbrev S1x2048x512 : Shape := ⟨3, ![1, 2048, 512]⟩
abbrev S2048x128 : Shape := ⟨2, ![2048, 128]⟩
abbrev S1x1x256 : Shape := ⟨3, ![1, 1, 256]⟩
abbrev S1x2048x120 : Shape := ⟨3, ![1, 2048, 120]⟩
abbrev S1x2048x8 : Shape := ⟨3, ![1, 2048, 8]⟩
abbrev S256x512 : Shape := ⟨2, ![256, 512]⟩
abbrev S1x8x256x512 : Shape := ⟨4, ![1, 8, 256, 512]⟩
abbrev S1x8x512x256 : Shape := ⟨4, ![1, 8, 512, 256]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S16x1x6144, .f32⟩
  | .hbm, ⟨2, _⟩ => ⟨S1x1024, .f32⟩
  | .hbm, ⟨3, _⟩ => ⟨S2048x512, .f32⟩
  | .hbm, ⟨4, _⟩ => ⟨S1024x2304, .bf16⟩
  | .hbm, ⟨5, _⟩ => ⟨S1x384, .f32⟩
  | .hbm, ⟨6, _⟩ => ⟨S384x1024, .bf16⟩
  | .hbm, ⟨7, _⟩ => ⟨S1x256, .f32⟩
  | .hbm, ⟨8, _⟩ => ⟨S384x1024, .bf16⟩
  | .hbm, ⟨9, _⟩ => ⟨S512x256, .bf16⟩
  | .hbm, ⟨10, _⟩ => ⟨S128x1024, .bf16⟩
  | .hbm, ⟨11, _⟩ => ⟨S1x1024, .f32⟩
  | .hbm, ⟨12, _⟩ => ⟨S1x1x6144, .f32⟩
  | .hbm, ⟨13, _⟩ => ⟨S1x1x1024, .f32⟩
  | .hbm, ⟨14, _⟩ => ⟨S1x1x1024, .f32⟩
  | .hbm, ⟨15, _⟩ => ⟨S1x1x1024, .f32⟩
  | .hbm, ⟨16, _⟩ => ⟨S1x1x1024, .f32⟩
  | .hbm, ⟨17, _⟩ => ⟨S1x1x1024, .f32⟩
  | .hbm, ⟨18, _⟩ => ⟨S1x1x1024, .f32⟩
  | .hbm, ⟨19, _⟩ => ⟨S1x2048x1024, .f32⟩
  | .hbm, ⟨20, _⟩ => ⟨S_, .f32⟩
  | .hbm, ⟨21, _⟩ => ⟨S1x2048, .f32⟩
  | .hbm, ⟨22, _⟩ => ⟨S1x2048x1, .f32⟩
  | .hbm, ⟨23, _⟩ => ⟨S_, .f32⟩
  | .hbm, ⟨24, _⟩ => ⟨S1x2048x1, .f32⟩
  | .hbm, ⟨25, _⟩ => ⟨S1x2048x1, .f32⟩
  | .hbm, ⟨26, _⟩ => ⟨S_, .f32⟩
  | .hbm, ⟨27, _⟩ => ⟨S1x2048x1, .f32⟩
  | .hbm, ⟨28, _⟩ => ⟨S1x2048x1, .f32⟩
  | .hbm, ⟨29, _⟩ => ⟨S1x2048x1, .f32⟩
  | .hbm, ⟨30, _⟩ => ⟨S1x2048x1024, .f32⟩
  | .hbm, ⟨31, _⟩ => ⟨S1x2048x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x2048x1024, .f32⟩
  | .hbm, ⟨39, _⟩ => ⟨S1x2048x1024, .f32⟩
  | .hbm, ⟨40, _⟩ => ⟨S1x2048x1024, .f32⟩
  | .hbm, ⟨41, _⟩ => ⟨S1x2048x1024, .f32⟩
  | .hbm, ⟨42, _⟩ => ⟨S1x2048x1024, .bf16⟩
  | .hbm, ⟨43, _⟩ => ⟨S1x2048x1024, .f32⟩
  | .hbm, ⟨44, _⟩ => ⟨S1024x2304, .f32⟩
  | .hbm, ⟨45, _⟩ => ⟨S1x2048x2304, .f32⟩
  | .hbm, ⟨46, _⟩ => ⟨S1x2048x384, .f32⟩
  | .hbm, ⟨47, _⟩ => ⟨S1x2048x128, .f32⟩
  | .hbm, ⟨48, _⟩ => ⟨S1x2048x256, .f32⟩
  | .hbm, ⟨49, _⟩ => ⟨S1x2048x512, .f32⟩
  | .hbm, ⟨50, _⟩ => ⟨S1x2048x512, .f32⟩
  | .hbm, ⟨51, _⟩ => ⟨S1x2048x512, .f32⟩
  | .hbm, ⟨52, _⟩ => ⟨S2048x128, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S1x2048x256, .f32⟩
  | .hbm, ⟨57, _⟩ => ⟨S_, .f32⟩
  | .hbm, ⟨58, _⟩ => ⟨S1x2048, .f32⟩
  | .hbm, ⟨59, _⟩ => ⟨S1x2048x1, .f32⟩
  | .hbm, ⟨60, _⟩ => ⟨S_, .f32⟩
  | .hbm, ⟨61, _⟩ => ⟨S1x2048x1, .f32⟩
  | .hbm, ⟨62, _⟩ => ⟨S1x2048x1, .f32⟩
  | .hbm, ⟨63, _⟩ => ⟨S_, .f32⟩
  | .hbm, ⟨64, _⟩ => ⟨S1x2048x1, .f32⟩
  | .hbm, ⟨65, _⟩ => ⟨S1x2048x1, .f32⟩
  | .hbm, ⟨66, _⟩ => ⟨S1x2048x1, .f32⟩
  | .hbm, ⟨67, _⟩ => ⟨S1x2048x256, .f32⟩
  | .hbm, ⟨68, _⟩ => ⟨S1x2048x256, .f32⟩
  | .hbm, ⟨69, _⟩ => ⟨S1x1x256, .f32⟩
  | .hbm, ⟨70, _⟩ => ⟨S1x2048x256, .f32⟩
  | .hbm, ⟨71, _⟩ => ⟨S1x2048x256, .f32⟩
  | .hbm, ⟨72, _⟩ => ⟨S1x2048x128, .f32⟩
  | .hbm, ⟨73, _⟩ => ⟨S1x2048x128, .f32⟩
  | .hbm, ⟨74, _⟩ => ⟨S1x2048x120, .f32⟩
  | .hbm, ⟨75, _⟩ => ⟨S1x2048x8, .f32⟩
  | .hbm, ⟨76, _⟩ => ⟨S1x2048x128, .f32⟩
  | .hbm, ⟨77, _⟩ => ⟨S1x2048x128, .f32⟩
  | .hbm, ⟨78, _⟩ => ⟨S1x2048x128, .f32⟩
  | .hbm, ⟨79, _⟩ => ⟨S1x2048x128, .f32⟩
  | .hbm, ⟨80, _⟩ => ⟨S1x2048x8, .f32⟩
  | .hbm, ⟨81, _⟩ => ⟨S1x2048x120, .f32⟩
  | .hbm, ⟨82, _⟩ => ⟨S1x2048x128, .f32⟩
  | .hbm, ⟨83, _⟩ => ⟨S1x2048x128, .f32⟩
  | .hbm, ⟨84, _⟩ => ⟨S1x2048x128, .f32⟩
  | .hbm, ⟨85, _⟩ => ⟨S1x2048x128, .f32⟩
  | .hbm, ⟨86, _⟩ => ⟨S1x2048x384, .f32⟩
  | .hbm, ⟨87, _⟩ => ⟨S1x2048x384, .bf16⟩
  | .hbm, ⟨88, _⟩ => ⟨S1x2048x384, .f32⟩
  | .hbm, ⟨89, _⟩ => ⟨S384x1024, .f32⟩
  | .hbm, ⟨90, _⟩ => ⟨S1x2048x1024, .f32⟩
  | .hbm, ⟨91, _⟩ => ⟨S256x512, .bf16⟩
  | .hbm, ⟨92, _⟩ => ⟨S1x2048x256, .bf16⟩
  | .hbm, ⟨93, _⟩ => ⟨S1x2048x256, .f32⟩
  | .hbm, ⟨94, _⟩ => ⟨S256x512, .f32⟩
  | .hbm, ⟨95, _⟩ => ⟨S1x2048x512, .f32⟩
  | .hbm, ⟨96, _⟩ => ⟨S1x8x256x512, .f32⟩
  | .hbm, ⟨97, _⟩ => ⟨S1x8x512x256, .f32⟩
  | .hbm, ⟨98, _⟩ => ⟨S1x2048x128, .bf16⟩
  | .hbm, ⟨99, _⟩ => ⟨S1x2048x128, .f32⟩
  | .hbm, ⟨100, _⟩ => ⟨S128x1024, .f32⟩
  | .hbm, ⟨101, _⟩ => ⟨S1x2048x1024, .f32⟩
  | .hbm, ⟨102, _⟩ => ⟨S1x1x1024, .f32⟩
  | .hbm, ⟨103, _⟩ => ⟨S1x2048x1024, .f32⟩
  | .hbm, ⟨104, _⟩ => ⟨S1x2048x1024, .f32⟩
  | .hbm, ⟨105, _⟩ => ⟨S1x2048x1024, .f32⟩
  | .hbm, ⟨106, _⟩ => ⟨S_, .f32⟩
  | .hbm, ⟨107, _⟩ => ⟨S1x2048x1024, .f32⟩
  | .hbm, ⟨108, _⟩ => ⟨S1x2048x1024, .f32⟩
  | .hbm, ⟨109, _⟩ => ⟨S1x2048x1024, .f32⟩
  | .hbm, ⟨110, _⟩ => ⟨S1x2048x1024, .f32⟩
  | .hbm, ⟨111, _⟩ => ⟨S1x2048x1024, .i1⟩
  | .hbm, ⟨112, _⟩ => ⟨S1x2048x1024, .f32⟩
  | .hbm, ⟨113, _⟩ => ⟨S1x2048x1024, .f32⟩
  | .hbm, ⟨114, _⟩ => ⟨S1x2048x1024, .f32⟩
  | .hbm, ⟨115, _⟩ => ⟨S1x2048x1024, .f32⟩
  | .hbm, ⟨116, _⟩ => ⟨S1x2048x1024, .f32⟩
  | .hbm, ⟨117, _⟩ => ⟨S1x2048x1024, .f32⟩
  | .hbm, ⟨118, _⟩ => ⟨S1x2048x1024, .f32⟩
  | .hbm, ⟨119, _⟩ => ⟨S1x2048x1024, .f32⟩
  | .hbm, ⟨120, _⟩ => ⟨S1x2048x1024, .f32⟩
  | .hbm, ⟨121, _⟩ => ⟨S_, .f32⟩
  | .hbm, ⟨122, _⟩ => ⟨S1x2048x1024, .f32⟩
  | .hbm, ⟨123, _⟩ => ⟨S1x2048x1024, .f32⟩
  | .hbm, ⟨124, _⟩ => ⟨S1x2048x1024, .bf16⟩
  | .hbm, ⟨125, _⟩ => ⟨S1x8x512x256, .bf16⟩
  | .hbm, ⟨126, _⟩ => ⟨S1x2048x512, .bf16⟩
  | .hbm, ⟨127, _⟩ => ⟨S1x2048x512, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_3 : Ref sig .tc := ⟨.hbm, 57, rfl⟩
abbrev main_v41 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩
abbrev main_cst_5 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call0_v0 : Ref sig .tc := ⟨.hbm, 74, rfl⟩
abbrev main_call0_v1 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_call1_v0 : Ref sig .tc := ⟨.hbm, 80, rfl⟩
abbrev main_call1_v1 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_call2_v0 : Ref sig .tc := ⟨.hbm, 105, rfl⟩
abbrev main_call2_call0_cst : Ref sig .tc := ⟨.hbm, 106, rfl⟩
abbrev main_call2_call0_v0 : Ref sig .tc := ⟨.hbm, 107, rfl⟩
abbrev main_call2_call0_v1 : Ref sig .tc := ⟨.hbm, 108, rfl⟩
abbrev main_call2_call0_v2 : Ref sig .tc := ⟨.hbm, 109, rfl⟩
abbrev main_call2_call0_v3 : Ref sig .tc := ⟨.hbm, 110, rfl⟩
abbrev main_call2_call0_v4 : Ref sig .tc := ⟨.hbm, 111, rfl⟩
abbrev main_call2_call0_v5 : Ref sig .tc := ⟨.hbm, 112, rfl⟩
abbrev main_call2_call0_v6 : Ref sig .tc := ⟨.hbm, 113, rfl⟩
abbrev main_call2_call0_v7 : Ref sig .tc := ⟨.hbm, 114, rfl⟩
abbrev main_call2_call0_v8 : Ref sig .tc := ⟨.hbm, 115, rfl⟩
abbrev main_call2_call0_v9 : Ref sig .tc := ⟨.hbm, 116, rfl⟩
abbrev main_call2_call0_v10 : Ref sig .tc := ⟨.hbm, 117, rfl⟩
abbrev main_call2_call0_v11 : Ref sig .tc := ⟨.hbm, 118, rfl⟩
abbrev main_call2_v1 : Ref sig .tc := ⟨.hbm, 119, rfl⟩
abbrev main_v82 : Ref sig .tc := ⟨.hbm, 120, rfl⟩
abbrev main_cst_6 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩

abbrev nD : Nat := 1
abbrev τ : Topo := Topo.v7x

variable {F : FTy → Type} [FloatOps F]
-- ==== Kernel5.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x512 : Shape := ⟨2, ![1024, 512]⟩
abbrev S1x512 : Shape := ⟨2, ![1, 512]⟩
abbrev S16x512 : Shape := ⟨2, ![16, 512]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S16x512, .f32⟩
  | .local _ .vmem, ⟨6, _⟩ => ⟨S16x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel6.lean ====
abbrev S8x256x512 : Shape := ⟨3, ![8, 256, 512]⟩
abbrev S8x256x1024 : Shape := ⟨3, ![8, 256, 1024]⟩
abbrev S2x8x4x128x128 : Shape := ⟨5, ![2, 8, 4, 128, 128]⟩
abbrev S1x256x512 : Shape := ⟨3, ![1, 256, 512]⟩
abbrev S2x1x4x128x128 : Shape := ⟨5, ![2, 1, 4, 128, 128]⟩
abbrev S2x4x128x128 : Shape := ⟨4, ![2, 4, 128, 128]⟩
abbrev S2x256x512 : Shape := ⟨3, ![2, 256, 512]⟩
abbrev S256x256 : Shape := ⟨2, ![256, 256]⟩
abbrev S256x512 : Shape := ⟨2, ![256, 512]⟩
abbrev S1x64x128 : Shape := ⟨3, ![1, 64, 128]⟩
abbrev S64x128 : Shape := ⟨2, ![64, 128]⟩
abbrev S1x128 : Shape := ⟨2, ![1, 128]⟩
abbrev S1x1x128x128 : Shape := ⟨4, ![1, 1, 128, 128]⟩
abbrev S128x128 : Shape := ⟨2, ![128, 128]⟩

abbrev nBuf : Space → Nat
  | .hbm => 5
  | .vmem => 18
  | .smem => 0
  | _ => 0

abbrev bufTy : (tb : Table) → Fin (tcTables nBuf tb) → BufTy
  | .hbm, ⟨0, _⟩ => ⟨S8x256x512, .bf16⟩
  | .hbm, ⟨1, _⟩ => ⟨S8x256x512, .bf16⟩
  | .hbm, ⟨2, _⟩ => ⟨S8x256x1024, .f32⟩
  | .hbm, ⟨3, _⟩ => ⟨S2x8x4x128x128, .f32⟩
  | .hbm, ⟨4, _⟩ => ⟨S2x8x4x128x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .f32⟩
  | .local _ .vmem, ⟨11, _⟩ => ⟨S1x256x512, .f32⟩
  | .local _ .vmem, ⟨12, _⟩ => ⟨S2x1x4x128x128, .f32⟩
  | .local _ .vmem, ⟨13, _⟩ => ⟨S2x1x4x128x128, .f32⟩
  | .local _ .vmem, ⟨14, _⟩ => ⟨S2x1x4x128x128, .f32⟩
  | .local _ .vmem, ⟨15, _⟩ => ⟨S2x1x4x128x128, .f32⟩
  | .local _ .vmem, ⟨16, _⟩ => ⟨S2x4x128x128, .f32⟩
  | .local _ .vmem, ⟨17, _⟩ => ⟨S2x256x512, .f32⟩
  | _, _ => ⟨S8x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def k0_mult1 : BitVec 32 :=
  let c0_i32_32 : BitVec 32 := 0#32
  let c64_i32_33 : BitVec 32 := 64#32
  let v100 : BitVec 32 := Scalar.muli c0_i32_32 c64_i32_33
  v100
def k0_off1 (c0_i32_32 : BitVec 32) : Fin 3 → Nat :=
  let c0_34 : Index := 0#32
  let c64_i32_33 : BitVec 32 := 64#32
  let v100 : BitVec 32 := Scalar.muli c0_i32_32 c64_i32_33
  let v101 : BitVec 32 := v100
  let v102 : Index := Scalar.indexCast v101
  let c0_35 : Index := 0#32
  ![0, v102.toNat, 0]
def k0_off2 (c0_i32_32 : BitVec 32) : Fin 3 → Nat :=
  let c0_36 : Index := 0#32
  let c64_i32_33 : BitVec 32 := 64#32
  let v100 : BitVec 32 := Scalar.muli c0_i32_32 c64_i32_33
  let v101 : BitVec 32 := v100
  let v106 : Index := Scalar.indexCast v101
  let c0_37 : Index := 0#32
  ![0, v106.toNat, 0]
def k0_off3 (c0_i32_32 : BitVec 32) : Fin 3 → Nat :=
  let c0_49 : Index := 0#32
  let c64_i32_33 : BitVec 32 := 64#32
  let v100 : BitVec 32 := Scalar.muli c0_i32_32 c64_i32_33
  let v101 : BitVec 32 := v100
  let v128 : Index := Scalar.indexCast v101
  let c128 : Index := 128#32
  ![0, v128.toNat, 128]
def k0_off4 (c0_i32_32 : BitVec 32) : Fin 3 → Nat :=
  let c0_50 : Index := 0#32
  let c64_i32_33 : BitVec 32 := 64#32
  let v100 : BitVec 32 := Scalar.muli c0_i32_32 c64_i32_33
  let v101 : BitVec 32 := v100
  let v132 : Index := Scalar.indexCast v101
  let c128_51 : Index := 128#32
  ![0, v132.toNat, 128]
def k0_off5 (c0_i32_32 : BitVec 32) : Fin 3 → Nat :=
  let c0_63 : Index := 0#32
  let c64_i32_33 : BitVec 32 := 64#32
  let v100 : BitVec 32 := Scalar.muli c0_i32_32 c64_i32_33
  let v101 : BitVec 32 := v100
  let v154 : Index := Scalar.indexCast v101
  let c256 : Index := 256#32
  ![0, v154.toNat, 256]
def k0_off6 (c0_i32_32 : BitVec 32) : Fin 3 → Nat :=
  let c0_64 : Index := 0#32
  let c64_i32_33 : BitVec 32 := 64#32
  let v100 : BitVec 32 := Scalar.muli c0_i32_32 c64_i32_33
  let v101 : BitVec 32 := v100
  let v158 : Index := Scalar.indexCast v101
  let c256_65 : Index := 256#32
  ![0, v158.toNat, 256]
def k0_off7 (c0_i32_32 : BitVec 32) : Fin 3 → Nat :=
  let c0_76 : Index := 0#32
  let c64_i32_33 : BitVec 32 := 64#32
  let v100 : BitVec 32 := Scalar.muli c0_i32_32 c64_i32_33
  let v101 : BitVec 32 := v100
  let v180 : Index := Scalar.indexCast v101
  let c384 : Index := 384#32
  ![0, v180.toNat, 384]
def k0_off8 (c0_i32_32 : BitVec 32) : Fin 3 → Nat :=
  let c0_77 : Index := 0#32
  let c64_i32_33 : BitVec 32 := 64#32
  let v100 : BitVec 32 := Scalar.muli c0_i32_32 c64_i32_33
  let v101 : BitVec 32 := v100
  let v184 : Index := Scalar.indexCast v101
  let c384_78 : Index := 384#32
  ![0, v184.toNat, 384]
def k0_mult2 : BitVec 32 :=
  let c3_i32 : BitVec 32 := 3#32
  let c0_i32_32 : BitVec 32 := 0#32
  let v206 : BitVec 32 := Scalar.subi c3_i32 c0_i32_32
  let c64_i32_89 : BitVec 32 := 64#32
  let v207 : BitVec 32 := Scalar.muli v206 c64_i32_89
  v207
def k0_off9 (c0_i32_32 : BitVec 32) : Fin 3 → Nat :=
  let c1_90 : Index := 1#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v209 : Index := Scalar.indexCast v208
  let c0_91 : Index := 0#32
  ![1, v209.toNat, 0]
def k0_off10 (c0_i32_32 : BitVec 32) : Fin 3 → Nat :=
  let c0_92 : Index := 0#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v213 : Index := Scalar.indexCast v208
  let c0_93 : Index := 0#32
  ![0, v213.toNat, 0]
def k0_off11 (c0_i32_32 : BitVec 32) : Fin 3 → Nat :=
  let c1_105 : Index := 1#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v235 : Index := Scalar.indexCast v208
  let c128_106 : Index := 128#32
  ![1, v235.toNat, 128]
def k0_off12 (c0_i32_32 : BitVec 32) : Fin 3 → Nat :=
  let c0_107 : Index := 0#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v239 : Index := Scalar.indexCast v208
  let c128_108 : Index := 128#32
  ![0, v239.toNat, 128]
def k0_off13 (c0_i32_32 : BitVec 32) : Fin 3 → Nat :=
  let c1_120 : Index := 1#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v261 : Index := Scalar.indexCast v208
  let c256_121 : Index := 256#32
  ![1, v261.toNat, 256]
def k0_off14 (c0_i32_32 : BitVec 32) : Fin 3 → Nat :=
  let c0_122 : Index := 0#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v265 : Index := Scalar.indexCast v208
  let c256_123 : Index := 256#32
  ![0, v265.toNat, 256]
def k0_off15 (c0_i32_32 : BitVec 32) : Fin 3 → Nat :=
  let c1_135 : Index := 1#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v287 : Index := Scalar.indexCast v208
  let c384_136 : Index := 384#32
  ![1, v287.toNat, 384]
def k0_off16 (c0_i32_32 : BitVec 32) : Fin 3 → Nat :=
  let c0_137 : Index := 0#32
  let c3_i32 : BitVec 32 := 3#32
  let v206 : BitVec 32 := Scalar.subi c3_i32 c0_i32_32
  let c64_i32_89 : BitVec 32 := 64#32
  let v207 : BitVec 32 := Scalar.muli v206 c64_i32_89
  let v208 : BitVec 32 := v207
  let v291 : Index := Scalar.indexCast v208
  let c384_138 : Index := 384#32
  ![0, v291.toNat, 384]
def k0_mult3 : BitVec 32 :=
  let c1_i32_150 : BitVec 32 := 1#32
  let c64_i32_151 : BitVec 32 := 64#32
  let v313 : BitVec 32 := Scalar.muli c1_i32_150 c64_i32_151
  v313
def k0_mult4 : BitVec 32 :=
  let c3_i32_212 : BitVec 32 := 3#32
  let c1_i32_150 : BitVec 32 := 1#32
  let v419 : BitVec 32 := Scalar.subi c3_i32_212 c1_i32_150
  let c64_i32_213 : BitVec 32 := 64#32
  let v420 : BitVec 32 := Scalar.muli v419 c64_i32_213
  v420
def k0_mult5 : BitVec 32 :=
  let c2_i32 : BitVec 32 := 2#32
  let c64_i32_274 : BitVec 32 := 64#32
  let v526 : BitVec 32 := Scalar.muli c2_i32 c64_i32_274
  v526
def k0_mult6 : BitVec 32 :=
  let c3_i32_335 : BitVec 32 := 3#32
  let c2_i32 : BitVec 32 := 2#32
  let v632 : BitVec 32 := Scalar.subi c3_i32_335 c2_i32
  let c64_i32_336 : BitVec 32 := 64#32
  let v633 : BitVec 32 := Scalar.muli v632 c64_i32_336
  v633
def k0_mult7 : BitVec 32 :=
  let c3_i32_397 : BitVec 32 := 3#32
  let c64_i32_398 : BitVec 32 := 64#32
  let v739 : BitVec 32 := Scalar.muli c3_i32_397 c64_i32_398
  v739
def k0_mult8 : BitVec 32 :=
  let c3_i32_459 : BitVec 32 := 3#32
  let c3_i32_397 : BitVec 32 := 3#32
  let v845 : BitVec 32 := Scalar.subi c3_i32_459 c3_i32_397
  let c64_i32_460 : BitVec 32 := 64#32
  let v846 : BitVec 32 := Scalar.muli v845 c64_i32_460
  v846
def k0_cond2 (i : grid0.Coords) : BitVec 1 :=
  let arg1 : BitVec 32 := BitVec.ofNat 32 (i 1).val
  let c0_i32_521 : BitVec 32 := 0#32
  let v952 : BitVec 1 := Scalar.cmpi .eq arg1 c0_i32_521
  let v953 : BitVec 32 := Scalar.extui v952
  let c0_i32_522 : BitVec 32 := 0#32
  let v954 : BitVec 1 := Scalar.cmpi .ne v953 c0_i32_522
  v954

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c0_i32_0 : BitVec 32 := 0#32
  let c0_i32_1 : BitVec 32 := 0#32
  ![arg0.toNat, v0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi c0_i32 arg1
  let c1_i32 : BitVec 32 := 1#32
  let c0_i32_0 : BitVec 32 := 0#32
  ![arg0.toNat, v0.toNat, c1_i32.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference6Ideal.lean ====
abbrev S8x256x512 : Shape := ⟨3, ![8, 256, 512]⟩
abbrev S8x256x1024 : Shape := ⟨3, ![8, 256, 1024]⟩
abbrev S2x8x4x128x128 : Shape := ⟨5, ![2, 8, 4, 128, 128]⟩
abbrev S1x8x4x128x128 : Shape := ⟨5, ![1, 8, 4, 128, 128]⟩
abbrev S8x4x128x128 : Shape := ⟨4, ![8, 4, 128, 128]⟩
abbrev S8x4x64x4x128 : Shape := ⟨5, ![8, 4, 64, 4, 128]⟩
abbrev S8x4x4x64x128 : Shape := ⟨5, ![8, 4, 4, 64, 128]⟩
abbrev S_ : Shape := ⟨0, ![]⟩
abbrev S8x4x4x1x128 : Shape := ⟨5, ![8, 4, 4, 1, 128]⟩
abbrev S8x4x4x128x128 : Shape := ⟨5, ![8, 4, 4, 128, 128]⟩
abbrev S8x4x1x1x128 : Shape := ⟨5, ![8, 4, 1, 1, 128]⟩
abbrev S8x4x1x128 : Shape := ⟨4, ![8, 4, 1, 128]⟩
abbrev S8x4x1x128x128 : Shape := ⟨5, ![8, 4, 1, 128, 128]⟩

abbrev nBuf : Space → Nat
  | .hbm => 108
  | .vmem => 0
  | .smem => 0
  | _ => 0

abbrev bufTy : (tb : Table) → Fin (tcTables nBuf tb) → BufTy
  | .hbm, ⟨0, _⟩ => ⟨S8x256x512, .bf16⟩
  | .hbm, ⟨1, _⟩ => ⟨S8x256x512, .bf16⟩
  | .hbm, ⟨2, _⟩ => ⟨S8x256x1024, .f32⟩
  | .hbm, ⟨3, _⟩ => ⟨S2x8x4x128x128, .f32⟩
  | .hbm, ⟨4, _⟩ => ⟨S8x256x512, .f32⟩
  | .hbm, ⟨5, _⟩ => ⟨S8x256x512, .f32⟩
  | .hbm, ⟨6, _⟩ => ⟨S1x8x4x128x128, .f32⟩
  | .hbm, ⟨7, _⟩ => ⟨S8x4x128x128, .f32⟩
  | .hbm, ⟨8, _⟩ => ⟨S8x256x512, .f32⟩
  | .hbm, ⟨9, _⟩ => ⟨S8x4x64x4x128, .f32⟩
  | .hbm, ⟨10, _⟩ => ⟨S8x4x4x64x128, .f32⟩
  | .hbm, ⟨11, _⟩ => ⟨S8x256x512, .f32⟩
  | .hbm, ⟨12, _⟩ => ⟨S8x4x64x4x128, .f32⟩
  | .hbm, ⟨13, _⟩ => ⟨S8x4x4x64x128, .f32⟩
  | .hbm, ⟨14, _⟩ => ⟨S8x4x64x4x128, .f32⟩
  | .hbm, ⟨15, _⟩ => ⟨S8x4x4x64x128, .f32⟩
  | .hbm, ⟨16, _⟩ => ⟨S_, .f32⟩
  | .hbm, ⟨17, _⟩ => ⟨S_, .f32⟩
  | .hbm, ⟨18, _⟩ => ⟨S8x4x4x64x128, .f32⟩
  | .hbm, ⟨19, _⟩ => ⟨S8x4x4x1x128, .f32⟩
  | .hbm, ⟨20, _⟩ => ⟨S8x4x4x64x128, .f32⟩
  | .hbm, ⟨21, _⟩ => ⟨S8x4x4x64x128, .f32⟩
  | .hbm, ⟨22, _⟩ => ⟨S8x4x4x64x128, .f32⟩
  | .hbm, ⟨23, _⟩ => ⟨S8x4x4x64x128, .f32⟩
  | .hbm, ⟨24, _⟩ => ⟨S8x4x4x128x128, .f32⟩
  | .hbm, ⟨25, _⟩ => ⟨S8x4x4x1x128, .f32⟩
  | .hbm, ⟨26, _⟩ => ⟨S8x4x1x1x128, .f32⟩
  | .hbm, ⟨27, _⟩ => ⟨S8x4x1x128, .f32⟩
  | .hbm, ⟨28, _⟩ => ⟨S8x4x128x128, .f32⟩
  | .hbm, ⟨29, _⟩ => ⟨S8x4x128x128, .f32⟩
  | .hbm, ⟨30, _⟩ => ⟨S8x4x1x128x128, .f32⟩
  | .hbm, ⟨31, _⟩ => ⟨S8x4x128x128, .f32⟩
  | .hbm, ⟨32, _⟩ => ⟨S8x4x128x128, .f32⟩
  | .hbm, ⟨33, _⟩ => ⟨S8x4x1x1x128, .f32⟩
  | .hbm, ⟨34, _⟩ => ⟨S8x4x1x128, .f32⟩
  | .hbm, ⟨35, _⟩ => ⟨S8x4x128x128, .f32⟩
  | .hbm, ⟨36, _⟩ => ⟨S8x4x128x128, .f32⟩
  | .hbm, ⟨37, _⟩ => ⟨S8x4x1x128x128, .f32⟩
  | .hbm, ⟨38, _⟩ => ⟨S8x4x128x128, .f32⟩
  | .hbm, ⟨39, _⟩ => ⟨S8x4x128x128, .f32⟩
  | .hbm, ⟨40, _⟩ => ⟨S8x4x1x1x128, .f32⟩
  | .hbm, ⟨41, _⟩ => ⟨S8x4x1x128, .f32⟩
  | .hbm, ⟨42, _⟩ => ⟨S8x4x128x128, .f32⟩
  | .hbm, ⟨43, _⟩ => ⟨S8x4x128x128, .f32⟩
  | .hbm, ⟨44, _⟩ => ⟨S8x4x1x128x128, .f32⟩
  | .hbm, ⟨45, _⟩ => ⟨S8x4x128x128, .f32⟩
  | .hbm, ⟨46, _⟩ => ⟨S8x4x128x128, .f32⟩
  | .hbm, ⟨47, _⟩ => ⟨S8x4x1x1x128, .f32⟩
  | .hbm, ⟨48, _⟩ => ⟨S8x4x1x128, .f32⟩
  | .hbm, ⟨49, _⟩ => ⟨S8x4x128x128, .f32⟩
  | .hbm, ⟨50, _⟩ => ⟨S8x4x128x128, .f32⟩
  | .hbm, ⟨51, _⟩ => ⟨S8x4x1x128x128, .f32⟩
  | .hbm, ⟨52, _⟩ => ⟨S8x4x128x128, .f32⟩
  | .hbm, ⟨53, _⟩ => ⟨S8x4x128x128, .f32⟩
  | .hbm, ⟨54, _⟩ => ⟨S8x256x512, .bf16⟩
  | .hbm, ⟨55, _⟩ => ⟨S8x256x512, .bf16⟩
  | .hbm, ⟨56, _⟩ => ⟨S8x256x512, .f32⟩
  | .hbm, ⟨57, _⟩ => ⟨S1x8x4x128x128, .f32⟩
  | .hbm, ⟨58, _⟩ => ⟨S8x4x128x128, .f32⟩
  | .hbm, ⟨59, _⟩ => ⟨S8x256x512, .f32⟩
  | .hbm, ⟨60, _⟩ => ⟨S8x4x64x4x128, .f32⟩
  | .hbm, ⟨61, _⟩ => ⟨S8x4x4x64x128, .f32⟩
  | .hbm, ⟨62, _⟩ => ⟨S8x256x512, .f32⟩
  | .hbm, ⟨63, _⟩ => ⟨S8x4x64x4x128, .f32⟩
  | .hbm, ⟨64, _⟩ => ⟨S8x4x4x64x128, .f32⟩
  | .hbm, ⟨65, _⟩ => ⟨S8x4x64x4x128, .f32⟩
  | .hbm, ⟨66, _⟩ => ⟨S8x4x4x64x128, .f32⟩
  | .hbm, ⟨67, _⟩ => ⟨S_, .f32⟩
  | .hbm, ⟨68, _⟩ => ⟨S_, .f32⟩
  | .hbm, ⟨69, _⟩ => ⟨S8x4x4x64x128, .f32⟩
  | .hbm, ⟨70, _⟩ => ⟨S8x4x4x1x128, .f32⟩
  | .hbm, ⟨71, _⟩ => ⟨S8x4x4x64x128, .f32⟩
  | .hbm, ⟨72, _⟩ => ⟨S8x4x4x64x128, .f32⟩
  | .hbm, ⟨73, _⟩ => ⟨S8x4x4x64x128, .f32⟩
  | .hbm, ⟨74, _⟩ => ⟨S8x4x4x64x128, .f32⟩
  | .hbm, ⟨75, _⟩ => ⟨S8x4x4x128x128, .f32⟩
  | .hbm, ⟨76, _⟩ => ⟨S8x4x4x1x128, .f32⟩
  | .hbm, ⟨77, _⟩ => ⟨S8x4x1x1x128, .f32⟩
  | .hbm, ⟨78, _⟩ => ⟨S8x4x1x128, .f32⟩
  | .hbm, ⟨79, _⟩ => ⟨S8x4x128x128, .f32⟩
  | .hbm, ⟨80, _⟩ => ⟨S8x4x128x128, .f32⟩
  | .hbm, ⟨81, _⟩ => ⟨S8x4x1x128x128, .f32⟩
  | .hbm, ⟨82, _⟩ => ⟨S8x4x128x128, .f32⟩
  | .hbm, ⟨83, _⟩ => ⟨S8x4x128x128, .f32⟩
  | .hbm, ⟨84, _⟩ => ⟨S8x4x1x1x128, .f32⟩
  | .hbm, ⟨85, _⟩ => ⟨S8x4x1x128, .f32⟩
  | .hbm, ⟨86, _⟩ => ⟨S8x4x128x128, .f32⟩
  | .hbm, ⟨87, _⟩ => ⟨S8x4x128x128, .f32⟩
  | .hbm, ⟨88, _⟩ => ⟨S8x4x1x128x128, .f32⟩
  | .hbm, ⟨89, _⟩ => ⟨S8x4x128x128, .f32⟩
  | .hbm, ⟨90, _⟩ => ⟨S8x4x128x128, .f32⟩
  | .hbm, ⟨91, _⟩ => ⟨S8x4x1x1x128, .f32⟩
  | .hbm, ⟨92, _⟩ => ⟨S8x4x1x128, .f32⟩
  | .hbm, ⟨93, _⟩ => ⟨S8x4x128x128, .f32⟩
  | .hbm, ⟨94, _⟩ => ⟨S8x4x128x128, .f32⟩
  | .hbm, ⟨95, _⟩ => ⟨S8x4x1x128x128, .f32⟩
  | .hbm, ⟨96, _⟩ => ⟨S8x4x128x128, .f32⟩
  | .hbm, ⟨97, _⟩ => ⟨S8x4x128x128, .f32⟩
  | .hbm, ⟨98, _⟩ => ⟨S8x4x1x1x128, .f32⟩
  | .hbm, ⟨99, _⟩ => ⟨S8x4x1x128, .f32⟩
  | .hbm, ⟨100, _⟩ => ⟨S8x4x128x128, .f32⟩
  | .hbm, ⟨101, _⟩ => ⟨S8x4x128x128, .f32⟩
  | .hbm, ⟨102, _⟩ => ⟨S8x4x1x128x128, .f32⟩
  | .hbm, ⟨103, _⟩ => ⟨S8x4x128x128, .f32⟩
  | .hbm, ⟨104, _⟩ => ⟨S8x4x128x128, .f32⟩
  | .hbm, ⟨105, _⟩ => ⟨S1x8x4x128x128, .f32⟩
  | .hbm, ⟨106, _⟩ => ⟨S1x8x4x128x128, .f32⟩
  | .hbm, ⟨107, _⟩ => ⟨S2x8x4x128x128, .f32⟩
  | _, _ => ⟨S8x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_call0_cst : Ref sig .tc := ⟨.hbm, 16, rfl⟩
abbrev main_call0_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_call4_call0_cst : Ref sig .tc := ⟨.hbm, 67, rfl⟩
abbrev main_call4_call0_v0 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩

abbrev nD : Nat := 1
abbrev τ : Topo := Topo.v7x

variable {F : FTy → Type} [FloatOps F]
-- ==== Proof.Attn.Fold.lean ====
/-
  The attention kernel's block as a fold over tiles of keys, in closed form.

  The body keeps, for each of its two heads, a running column maximum and an accumulator whose first 64 rows are the
  weighted values and whose row 64 on are the sum of the weights.  `step` is one tile's effect on that pair of pairs,
  `carry j` what they are after the first `j` of the eight latent tiles, `out` the block the body stores.
-/
module

public import proofs.«01_k».proof.Proof.Gen.KernelIdeal.Skeleton
public import Idealize.ShloMosaic.Lib.Pipeline.FrameBody
public import Idealize.ShloMosaic.Lib.Pipeline.Value

@[expose] public section

set_option maxRecDepth 16384

noncomputable section

namespace Cert.Attn

open Idealize.ShloMosaic Idealize.ShloMosaic.TcCoe
open Cert.KernelIdeal Cert.KernelIdeal.Gen

variable {F : FTy → Type} [FloatOps F]

/-- The running maximum and accumulator of head 0, then those of head 1. -/
abbrev Carry (F : FTy → Type) [FloatOps F] : Type :=
  FVec F S1x1024 .f32 × FVec F S80x1024 .f32 × FVec F S1x1024 .f32 × FVec F S80x1024 .f32

/-- The queries of head 0 of the pair: columns 0 to 127 of the query block. -/
abbrev q0 (x0 : Vec F S1x1024x256 .bf16) : Vec F S1x1024x128 .bf16 :=
  View.ld x0 (Rect.unit (s := S1x1024x256) ![0, 0, 0] S1x1024x128.size inb_S1x1024x256_S1x1024x128_0_0_0)

/-- The queries of head 1 of the pair: columns 128 to 255. -/
abbrev q1 (x0 : Vec F S1x1024x256 .bf16) : Vec F S1x1024x128 .bf16 :=
  View.ld x0 (Rect.unit (s := S1x1024x256) ![0, 0, 128] S1x1024x128.size inb_S1x1024x256_S1x1024x128_0_0_128)

/-- Tile `j % 8` of the latent keys lies inside them. -/
theorem inb_k (j : ℕ) : ∀ a : Fin 3, (![0, 512 * (j % 8), 0] : Fin 3 → ℕ) a + S1x512x256.size a ≤ S1x4096x256.size a := by
  have h : j % 8 < 8 := Nat.mod_lt _ (by decide)
  intro a
  match a with
  | 0 => show 0 + 1 ≤ 1; omega
  | 1 => show 512 * (j % 8) + 512 ≤ 4096; omega
  | 2 => show 0 + 256 ≤ 256; omega

/-- Tile `j % 8` of the latent values lies inside them. -/
theorem inb_v (j : ℕ) : ∀ a : Fin 4, (![0, j % 8, 0, 0] : Fin 4 → ℕ) a + S1x1x128x512.size a ≤ S1x8x128x512.size a := by
  have h : j % 8 < 8 := Nat.mod_lt _ (by decide)
  intro a
  match a with
  | 0 => show 0 + 1 ≤ 1; omega
  | 1 => show j % 8 + 1 ≤ 8; omega
  | 2 => show 0 + 128 ≤ 128; omega
  | 3 => show 0 + 512 ≤ 512; omega

/-- Tile `j` of the latent keys: 512 tokens, both heads' columns. -/
def kT (x1 : Vec F S1x4096x256 .bf16) (j : ℕ) : Vec F S1x512x256 .bf16 :=
  View.ld x1 (Rect.unit (s := S1x4096x256) ![0, 512 * (j % 8), 0] S1x512x256.size (inb_k j))

/-- Tile `j` of the latent values: both heads' rows, 512 tokens. -/
def vT (x3 : Vec F S1x8x128x512 .bf16) (j : ℕ) : Vec F S1x1x128x512 .bf16 :=
  View.ld x3 (Rect.unit (s := S1x8x128x512) ![0, j % 8, 0, 0] S1x1x128x512.size (inb_v j))

/-- Head 0's scores on a tile, and its column maxima; -/
def sc0 (x0 : Vec F S1x1024x256 .bf16) (x1 : Vec F S1x4096x256 .bf16) (j : ℕ) : Vec F S1x512x1024 .f32 := k0_pay4 (kT x1 j) (q0 x0)
def mx0 (x0 : Vec F S1x1024x256 .bf16) (x1 : Vec F S1x4096x256 .bf16) (j : ℕ) : Vec F S1x1x1024 .f32 := k0_pay5 (kT x1 j) (q0 x0)
/-- head 1's. -/
def sc1 (x0 : Vec F S1x1024x256 .bf16) (x1 : Vec F S1x4096x256 .bf16) (j : ℕ) : Vec F S1x512x1024 .f32 := k0_pay7 (kT x1 j) (q1 x0)
def mx1 (x0 : Vec F S1x1024x256 .bf16) (x1 : Vec F S1x4096x256 .bf16) (j : ℕ) : Vec F S1x1x1024 .f32 := k0_pay9 (k0_pay8 (kT x1 j) (q1 x0))

/-- One tile consumed: each head's maximum raised to the tile's, its accumulator rescaled and the tile's added. -/
def step (x0 : Vec F S1x1024x256 .bf16) (x1 : Vec F S1x4096x256 .bf16) (x3 : Vec F S1x8x128x512 .bf16) (j : ℕ) (c : Carry F) : Carry F :=
  (k0_pay12 c.1 (mx0 x0 x1 j), k0_pay13 c.1 c.2.1 (vT x3 j) (mx0 x0 x1 j) (sc0 x0 x1 j),
    k0_pay14 c.2.2.1 (mx1 x0 x1 j), k0_pay15 c.2.2.1 c.2.2.2 (vT x3 j) (mx1 x0 x1 j) (sc1 x0 x1 j))

/-- What the two heads carry after the first `j` latent tiles. -/
def carry (x0 : Vec F S1x1024x256 .bf16) (x1 : Vec F S1x4096x256 .bf16) (x3 : Vec F S1x8x128x512 .bf16) : ℕ → Carry F
  | 0 => (k0_pay29, k0_pay30, k0_pay29, k0_pay30)
  | j + 1 => step x0 x1 x3 j (carry x0 x1 x3 j)

theorem carry_succ (x0 : Vec F S1x1024x256 .bf16) (x1 : Vec F S1x4096x256 .bf16) (x3 : Vec F S1x8x128x512 .bf16) (j : ℕ) :
    carry x0 x1 x3 (j + 1) = step x0 x1 x3 j (carry x0 x1 x3 j) := rfl

/-- The block the body stores: the context tile consumed after the eight latent ones, each head's weighted values
    divided by its sum of weights. -/
def out (x0 : Vec F S1x1024x256 .bf16) (x1 : Vec F S1x4096x256 .bf16) (x2 : Vec F S1x256x256 .bf16)
    (x3 : Vec F S1x8x128x512 .bf16) (x4 : Vec F S1x1x128x256 .bf16) : Vec F S1x1024x128 .bf16 :=
  k0_pay1 (k0_pay70 (carry x0 x1 x3 8).1 (carry x0 x1 x3 8).2.1 (carry x0 x1 x3 8).2.2.1 (carry x0 x1 x3 8).2.2.2
    (k0_pay69 x4) (k0_pay59 x2 (q0 x0)) (k0_pay58 x2 (q0 x0)) (k0_pay62 x2 (q1 x0)) (k0_pay61 x2 (q1 x0)))

/-- Equal offsets, equal loads. -/
theorem ld_congr {S : Shape} {e : EltTy} {Val : EltTy → Type} (X : S.Idx → Val e) {o o' size : Fin S.rank → ℕ} (h : o = o')
    (i : ∀ a, o a + size a ≤ S.size a) (i' : ∀ a, o' a + size a ≤ S.size a) :
    View.ld X (Rect.unit o size i) = View.ld X (Rect.unit o' size i') := by subst h; rfl

/-- Two stores through disjoint rectangles: a load through either reads its payload. -/
theorem readAt_pair {sig : RefSig} {κ : Kind} {sp : Space} {s : Shape} {e : EltTy} {Val : EltTy → Type} [∀ e, Nonempty (Val e)]
    (v : View sig κ sp s e) (f : v.ty.Contents Val) (r r' : Rect s) (w : r.shape.Idx → Val e) (w' : r'.shape.Idx → Val e)
    (hd : Disjoint r'.set r.set) :
    v.readAt Val r.toLoadRect (v.writes Val f [⟨r', w'⟩, ⟨r, w⟩]) = w
      ∧ v.readAt Val r'.toLoadRect (v.writes Val f [⟨r', w'⟩, ⟨r, w⟩]) = w' := by
  constructor
  · have hc : ∀ y : r.toLoadRect.shape.Idx, ∃ p ∈ ([⟨r', w'⟩, ⟨r, w⟩] : List (View.Piece Val s e)), r.toLoadRect.idx y ∈ p.1.set :=
      fun y => ⟨⟨r, w⟩, List.mem_cons_of_mem _ (List.mem_singleton_self _), r.toLoadRect.idx_mem y⟩
    rw [View.readAt_writes_of_cover v f _ _ hc, View.readCov_cons_of_disjoint v ⟨r', w'⟩ _ _ hd]
    exact View.readCov_cons_toLoadRect v r w []
  · have hc : ∀ y : r'.toLoadRect.shape.Idx, ∃ p ∈ ([⟨r', w'⟩, ⟨r, w⟩] : List (View.Piece Val s e)), r'.toLoadRect.idx y ∈ p.1.set :=
      fun y => ⟨⟨r', w'⟩, List.mem_cons_self .., r'.toLoadRect.idx_mem y⟩
    rw [View.readAt_writes_of_cover v f _ _ hc]
    exact View.readCov_cons_toLoadRect v r' w' [⟨r, w⟩]

end Cert.Attn

end
-- ==== Proof.Attn.Body.lean ====
/-
  The Hoare triple of the attention body: run on its five input blocks it leaves them unchanged and the output block at
  `out` of them (Fold.lean).  The loop over pairs of latent tiles is proved by an invariant, one trip at a time.
-/
module

public import proofs.«01_k».proof.Proof.Attn.Fold
public import Idealize.ShloMosaic.Lib.Exec
public import Idealize.ShloMosaic.Lib.Tactic
public import Idealize.ShloMosaic.Lib.Pipeline.Kit
public import Idealize.ShloMosaic.Lib.WholeRead

@[expose] public section

set_option maxRecDepth 16384
set_option maxHeartbeats 400000

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The two slabs of a score buffer, and of a maximum buffer. -/
abbrev s0 : Rect S2x512x1024 := Rect.unit (s := S2x512x1024) ![0, 0, 0] S1x512x1024.size inb_S2x512x1024_S1x512x1024_0_0_0
abbrev s1 : Rect S2x512x1024 := Rect.unit (s := S2x512x1024) ![1, 0, 0] S1x512x1024.size inb_S2x512x1024_S1x512x1024_1_0_0
abbrev c0 : Rect S2x256x1024 := Rect.unit (s := S2x256x1024) ![0, 0, 0] S1x256x1024.size inb_S2x256x1024_S1x256x1024_0_0_0
abbrev c1 : Rect S2x256x1024 := Rect.unit (s := S2x256x1024) ![1, 0, 0] S1x256x1024.size inb_S2x256x1024_S1x256x1024_1_0_0
abbrev m0 : Rect S2x1x1024 := Rect.unit (s := S2x1x1024) ![0, 0, 0] S1x1x1024.size inb_S2x1x1024_S1x1x1024_0_0_0
abbrev m1 : Rect S2x1x1024 := Rect.unit (s := S2x1x1024) ![1, 0, 0] S1x1x1024.size inb_S2x1x1024_S1x1x1024_1_0_0

/-- A load from a whole memref at known contents reads them at the rectangle. -/
theorem rd {κ : Kind} {sp : Space} {s : Shape} {e : EltTy} {m : Memref sig κ sp s e} (h : m.IsWhole)
    (X : s.Idx → Elt F e) (r : Rect s) : View.readAt (Elt F) m.view r.toLoadRect (h.unread X) = View.ld X r :=
  funext fun x => h.readAt_unread X r.toLoadRect x

/-- The first latent key tile a trip reads is tile `2 k + 1`, the second tile `2 k + 2`; -/
theorem off1_1 : ∀ k : Fin k0_t1_loop.trips, k0_off1 k 1#32 = ![0, 512 * ((2 * k.val + 1) % 8), 0] := by decide +kernel
theorem off1_2 : ∀ k : Fin k0_t1_loop.trips, k0_off1 k 2#32 = ![0, 512 * ((2 * (k.val + 1)) % 8), 0] := by decide +kernel
/-- its value tiles are `2 k` and `2 k + 1`. -/
theorem off2 : ∀ k : Fin k0_t1_loop.trips, k0_off2 k = ![0, (2 * k.val) % 8, 0, 0] := by decide +kernel
theorem off3 : ∀ k : Fin k0_t1_loop.trips, k0_off3 k = ![0, (2 * k.val + 1) % 8, 0, 0] := by decide +kernel

/-- The slabs of a buffer are disjoint. -/
theorem s_disj : Disjoint s1.set s0.set := by
  rw [Finset.disjoint_left]; intro y hy hz
  obtain ⟨a, rfl⟩ := s1.exists_idx_of_mem hy
  obtain ⟨b, hb⟩ := s0.exists_idx_of_mem hz
  have h := congrArg (fun z : S2x512x1024.Idx => (z 0).val) hb
  have ha : (a 0).val < 1 := (a 0).isLt
  have hb' : (b 0).val < 1 := (b 0).isLt
  replace h : 0 + 1 * (b 0).val = 1 + 1 * (a 0).val := h
  omega
theorem m_disj : Disjoint m1.set m0.set := by
  rw [Finset.disjoint_left]; intro y hy hz
  obtain ⟨a, rfl⟩ := m1.exists_idx_of_mem hy
  obtain ⟨b, hb⟩ := m0.exists_idx_of_mem hz
  have h := congrArg (fun z : S2x1x1024.Idx => (z 0).val) hb
  have ha : (a 0).val < 1 := (a 0).isLt
  have hb' : (b 0).val < 1 := (b 0).isLt
  replace h : 0 + 1 * (b 0).val = 1 + 1 * (a 0).val := h
  omega

theorem c_disj : Disjoint c1.set c0.set := by
  rw [Finset.disjoint_left]; intro y hy hz
  obtain ⟨a, rfl⟩ := c1.exists_idx_of_mem hy
  obtain ⟨b, hb⟩ := c0.exists_idx_of_mem hz
  have h := congrArg (fun z : S2x256x1024.Idx => (z 0).val) hb
  have ha : (a 0).val < 1 := (a 0).isLt
  have hb' : (b 0).val < 1 := (b 0).isLt
  replace h : 0 + 1 * (b 0).val = 1 + 1 * (a 0).val := h
  omega

/-- The two slabs read back after both were stored. -/
theorem cov_s0 {κ : Kind} {sp : Space} (v : View sig κ sp S2x512x1024 .f32) (w w' : Vec F S1x512x1024 .f32) :
    v.readCov (Val := Elt F) [⟨s1, w'⟩, ⟨s0, w⟩] s0.toLoadRect = w := by
  rw [View.readCov_cons_of_disjoint v ⟨s1, w'⟩ _ _ s_disj]; exact View.readCov_cons_toLoadRect v s0 w []
theorem cov_s1 {κ : Kind} {sp : Space} (v : View sig κ sp S2x512x1024 .f32) (w w' : Vec F S1x512x1024 .f32) :
    v.readCov (Val := Elt F) [⟨s1, w'⟩, ⟨s0, w⟩] s1.toLoadRect = w' := View.readCov_cons_toLoadRect v s1 w' _
theorem cov_m0 {κ : Kind} {sp : Space} (v : View sig κ sp S2x1x1024 .f32) (w w' : Vec F S1x1x1024 .f32) :
    v.readCov (Val := Elt F) [⟨m1, w'⟩, ⟨m0, w⟩] m0.toLoadRect = w := by
  rw [View.readCov_cons_of_disjoint v ⟨m1, w'⟩ _ _ m_disj]; exact View.readCov_cons_toLoadRect v m0 w []
theorem cov_m1 {κ : Kind} {sp : Space} (v : View sig κ sp S2x1x1024 .f32) (w w' : Vec F S1x1x1024 .f32) :
    v.readCov (Val := Elt F) [⟨m1, w'⟩, ⟨m0, w⟩] m1.toLoadRect = w' := View.readCov_cons_toLoadRect v m1 w' _

theorem cov_c0 {κ : Kind} {sp : Space} (v : View sig κ sp S2x256x1024 .f32) (w w' : Vec F S1x256x1024 .f32) :
    v.readCov (Val := Elt F) [⟨c1, w'⟩, ⟨c0, w⟩] c0.toLoadRect = w := by
  rw [View.readCov_cons_of_disjoint v ⟨c1, w'⟩ _ _ c_disj]; exact View.readCov_cons_toLoadRect v c0 w []
theorem cov_c1 {κ : Kind} {sp : Space} (v : View sig κ sp S2x256x1024 .f32) (w w' : Vec F S1x256x1024 .f32) :
    v.readCov (Val := Elt F) [⟨c1, w'⟩, ⟨c0, w⟩] c1.toLoadRect = w' := View.readCov_cons_toLoadRect v c1 w' _

/-- One store over a whole block: it reads back as the payload. -/
theorem read_stored {κ : Kind} {sp : Space} {S : Shape} {e : EltTy} (v : View sig κ sp S e) (f : v.ty.Contents (Elt F)) {off : Fin S.rank → ℕ}
    (h : off = fun _ => 0) (inb : ∀ a, off a + S.size a ≤ S.size a) (w : Vec F S e) :
    v.read (Elt F) (v.writes (Elt F) f [⟨Rect.unit off S.size inb, w⟩]) = w := by
  rw [View.read_writes_eq_canon v f _ (fun y => ⟨_, List.mem_singleton_self _, View.mem_set_unit_zero h inb y⟩)]
  exact View.canon_unit_zero h inb w

/-- What the loop holds before trip `k`: the inputs it reads at their contents; the first score buffer and its maxima at
    tile `2 k`'s; the second ones at anything; the carried values the fold's after `2 k` tiles. -/
def inv (c : Dev nD) (arg3 : Memref sig .tc .vmem S1x1024x256 .bf16) (harg3 : arg3.IsWhole) (arg4 : Memref sig .tc .vmem S1x4096x256 .bf16) (harg4 : arg4.IsWhole) (arg6 : Memref sig .tc .vmem S1x8x128x512 .bf16) (harg6 : arg6.IsWhole)
    (arg9 arg10 : Memref sig .tc .vmem S2x512x1024 .f32) (arg12 arg13 : Memref sig .tc .vmem S2x1x1024 .f32)
    (x0 : Vec F S1x1024x256 .bf16) (x1 : Vec F S1x4096x256 .bf16) (x3 : Vec F S1x8x128x512 .bf16) (k : ℕ) (acc : Carry F) : sProp 𝕄 :=
  iprop(⌜acc = carry x0 x1 x3 (2 * k)⌝
    ∗ (arg3.view.loc (c : Thread nD τ) ↦[arg3.view.set]{fullShare} harg3.unread x0)
    ∗ (arg4.view.loc (c : Thread nD τ) ↦[arg4.view.set]{fullShare} harg4.unread x1)
    ∗ (arg6.view.loc (c : Thread nD τ) ↦[arg6.view.set]{fullShare} harg6.unread x3)
    ∗ (∃ f, ⌜arg9.view.readAt (Elt F) s0.toLoadRect f = sc0 x0 x1 (2 * k) ∧ arg9.view.readAt (Elt F) s1.toLoadRect f = sc1 x0 x1 (2 * k)⌝
        ∗ (arg9.view.loc (c : Thread nD τ) ↦[arg9.view.set]{fullShare} f))
    ∗ (∃ f, (arg10.view.loc (c : Thread nD τ) ↦[arg10.view.set]{fullShare} f))
    ∗ (∃ f, ⌜arg12.view.readAt (Elt F) m0.toLoadRect f = mx0 x0 x1 (2 * k) ∧ arg12.view.readAt (Elt F) m1.toLoadRect f = mx1 x0 x1 (2 * k)⌝
        ∗ (arg12.view.loc (c : Thread nD τ) ↦[arg12.view.set]{fullShare} f))
    ∗ (∃ f, (arg13.view.loc (c : Thread nD τ) ↦[arg13.view.set]{fullShare} f)))

/-- ONE TRIP keeps the invariant. -/
theorem trip (c : Dev nD) (E : Set ℕ) (i : grid0.Coords)
    (arg3 : Memref sig .tc .vmem S1x1024x256 .bf16) (harg3 : arg3.IsWhole)
    (arg4 : Memref sig .tc .vmem S1x4096x256 .bf16) (harg4 : arg4.IsWhole)
    (arg5 : Memref sig .tc .vmem S1x256x256 .bf16) (harg5 : arg5.IsWhole)
    (arg6 : Memref sig .tc .vmem S1x8x128x512 .bf16) (harg6 : arg6.IsWhole)
    (arg7 : Memref sig .tc .vmem S1x1x128x256 .bf16) (harg7 : arg7.IsWhole)
    (arg8 : Memref sig .tc .vmem S1x1024x128 .bf16) (harg8 : arg8.IsWhole)
    (arg9 : Memref sig .tc .vmem S2x512x1024 .f32) (harg9 : arg9.IsWhole)
    (arg10 : Memref sig .tc .vmem S2x512x1024 .f32) (harg10 : arg10.IsWhole)
    (arg11 : Memref sig .tc .vmem S2x256x1024 .f32) (harg11 : arg11.IsWhole)
    (arg12 : Memref sig .tc .vmem S2x1x1024 .f32) (harg12 : arg12.IsWhole)
    (arg13 : Memref sig .tc .vmem S2x1x1024 .f32) (harg13 : arg13.IsWhole)
    (arg14 : Memref sig .tc .vmem S2x1x1024 .f32) (harg14 : arg14.IsWhole)
    (v0 : FVec F S1x1024 .f32) (v1 : FVec F S80x1024 .f32) (v26 : FVec F S1x1024 .f32)
    (x0 : Vec F S1x1024x256 .bf16) (x1 : Vec F S1x4096x256 .bf16) (x3 : Vec F S1x8x128x512 .bf16)
    (k : Fin k0_t1_loop.trips) (acc : Carry F) :
    inv c arg3 harg3 arg4 harg4 arg6 harg6 arg9 arg10 arg12 arg13 x0 x1 x3 k.val acc
      ⊢ wp frame (wpE (defs₀ (F := F)) Variants.none c none) E (k0_t1_body (F := F) i arg3 harg3 arg4 harg4 arg5 harg5 arg6 harg6 arg7 harg7 arg8 harg8 arg9 harg9 arg10 harg10 arg11 harg11 arg12 harg12 arg13 harg13 arg14 harg14 v0 v1 v26 k acc)
          (inv c arg3 harg3 arg4 harg4 arg6 harg6 arg9 arg10 arg12 arg13 x0 x1 x3 (k.val + 1)) := by
  unfold inv
  simp only [k0_t1_body, k0_part4_eq_skeleton]
  iintro ⟨%hacc, H3, H4, H6, ⟨%f9, %h9, H9⟩, ⟨%f10, H10⟩, ⟨%f12, %h12, H12⟩, ⟨%f13, H13⟩⟩
  obtain ⟨h90, h91⟩ := h9
  obtain ⟨h120, h121⟩ := h12
  sl_exec
  sl_step
  subst hacc
  isplitr
  · ipureintro
    sl_unfold_words
    have hk := ld_congr x1 (off1_1 k) (k0_off1_inb k 0) (inb_k _)
    have hv := ld_congr x3 (off2 k) (k0_off2_inb k) (inb_v _)
    have hv' := ld_congr x3 (off3 k) (k0_off3_inb k) (inb_v _)
    unfold k0_off1 at hk
    unfold k0_off2 at hv
    unfold k0_off3 at hv'
    rw [rd, rd, rd, rd, rd, cov_m0, cov_m1, cov_s0, cov_s1]
    rw [hk, hv, hv', show 2 * (k.val + 1) = 2 * k.val + 1 + 1 from by omega, carry_succ, carry_succ]
    unfold step
    dsimp only
    rfl
  isplitl [H3]; · iexact H3
  isplitl [H4]; · iexact H4
  isplitl [H6]; · iexact H6
  isplitl [H9]
  · iexists _; isplitr; swap; · iexact H9
    ipureintro
    have e := readAt_pair arg9.view f9 s0 s1 (sc0 x0 x1 (2 * (k.val + 1))) (sc1 x0 x1 (2 * (k.val + 1))) s_disj
    have hk := ld_congr x1 (off1_2 k) (k0_off1_inb k 1) (inb_k _)
    rw [rd, rd, rd]
    erw [hk]
    exact e
  isplitl [H10]; · iexists _; iexact H10
  isplitl [H12]
  · iexists _; isplitr; swap; · iexact H12
    ipureintro
    have e := readAt_pair arg12.view f12 m0 m1 (mx0 x0 x1 (2 * (k.val + 1))) (mx1 x0 x1 (2 * (k.val + 1))) m_disj
    have hk := ld_congr x1 (off1_2 k) (k0_off1_inb k 1) (inb_k _)
    rw [rd, rd, rd]
    erw [hk]
    exact e
  iexists _; iexact H13

/-- THE BODY: from the input blocks, any output block and any scratch it runs to the inputs unchanged, the output block at
    `out` of them, the scratch at something. -/
theorem body (c : Dev nD) (i : grid0.Coords)
    (arg3 : Memref sig .tc .vmem S1x1024x256 .bf16) (harg3 : arg3.IsWhole)
    (arg4 : Memref sig .tc .vmem S1x4096x256 .bf16) (harg4 : arg4.IsWhole)
    (arg5 : Memref sig .tc .vmem S1x256x256 .bf16) (harg5 : arg5.IsWhole)
    (arg6 : Memref sig .tc .vmem S1x8x128x512 .bf16) (harg6 : arg6.IsWhole)
    (arg7 : Memref sig .tc .vmem S1x1x128x256 .bf16) (harg7 : arg7.IsWhole)
    (arg8 : Memref sig .tc .vmem S1x1024x128 .bf16) (harg8 : arg8.IsWhole)
    (arg9 : Memref sig .tc .vmem S2x512x1024 .f32) (harg9 : arg9.IsWhole)
    (arg10 : Memref sig .tc .vmem S2x512x1024 .f32) (harg10 : arg10.IsWhole)
    (arg11 : Memref sig .tc .vmem S2x256x1024 .f32) (harg11 : arg11.IsWhole)
    (arg12 : Memref sig .tc .vmem S2x1x1024 .f32) (harg12 : arg12.IsWhole)
    (arg13 : Memref sig .tc .vmem S2x1x1024 .f32) (harg13 : arg13.IsWhole)
    (arg14 : Memref sig .tc .vmem S2x1x1024 .f32) (harg14 : arg14.IsWhole)
    (x0 : Vec F S1x1024x256 .bf16) (x1 : Vec F S1x4096x256 .bf16) (x2 : Vec F S1x256x256 .bf16) (x3 : Vec F S1x8x128x512 .bf16) (x4 : Vec F S1x1x128x256 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (out x0 x1 x2 x3 x4) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_attn i arg3 harg3 arg4 harg4 arg5 harg5 arg6 harg6 arg7 harg7 arg8 harg8 arg9 harg9 arg10 harg10 arg11 harg11 arg12 harg12 arg13 harg13 arg14 harg14) K := by
  simp only [cc0_attn_eq_skeleton]; unfold cc0_attn_skel
  simp only [k0_part5_eq_skeleton, k0_part6_eq_skeleton, k0_part7_eq_skeleton, k0_part8_eq_skeleton, k0_part9_eq_skeleton, k0_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
  obtain rfl := harg3.eq_unread hf0; obtain rfl := harg4.eq_unread hf1; obtain rfl := harg5.eq_unread hf2; obtain rfl := harg6.eq_unread hf3; obtain rfl := harg7.eq_unread hf4
  sl_exec
  sl_for (fun k acc => inv c arg3 harg3 arg4 harg4 arg6 harg6 arg9 arg10 arg12 arg13 x0 x1 x3 k acc) $$ [H0 H1 H3 HS0 HS1 HS3 HS4]
  · intro k acc
    exact trip c E i arg3 harg3 arg4 harg4 arg5 harg5 arg6 harg6 arg7 harg7 arg8 harg8 arg9 harg9 arg10 harg10 arg11 harg11 arg12 harg12 arg13 harg13 arg14 harg14 _ _ _ x0 x1 x3 k acc
  · unfold inv
    isplitr; · ipureintro; rfl
    isplitl [H0]; · iexact H0
    isplitl [H1]; · iexact H1
    isplitl [H3]; · iexact H3
    isplitl [HS0]
    · iexists _; isplitr; swap; · iexact HS0
      ipureintro
      sl_unfold_words
      rw [rd, rd, rd]
      exact readAt_pair arg9.view _ s0 s1 (sc0 x0 x1 0) (sc1 x0 x1 0) s_disj
    isplitl [HS1]; · iexists _; iexact HS1
    isplitl [HS3]
    · iexists _; isplitr; swap; · iexact HS3
      ipureintro
      sl_unfold_words
      rw [rd, rd, rd]
      exact readAt_pair arg12.view _ m0 m1 (mx0 x0 x1 0) (mx1 x0 x1 0) m_disj
    iexists _; iexact HS4
  iintro %acc HI
  unfold inv
  icases HI with ⟨%hacc, H0, H1, H3, ⟨%f9, %h9, HS0⟩, ⟨%f10, HS1⟩, ⟨%f12, %h12, HS3⟩, ⟨%f13, HS4⟩⟩
  have ht : Scf.trips k0_t1_loop.lb k0_t1_loop.ub k0_t1_loop.st = 3 := by decide +kernel
  rw [ht] at hacc h9 h12
  obtain ⟨h90, h91⟩ := h9
  obtain ⟨h120, h121⟩ := h12
  sl_exec
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; swap; · iexact H5
    ipureintro
    subst hacc
    sl_unfold_words
    have z3 : (![0, 0, 0] : Fin 3 → ℕ) = fun _ => 0 := by decide
    refine (read_stored (S := S1x1024x128) arg8.view _ z3 inb_S1x1024x128_S1x1024x128_0_0_0 _).trans ?_
    rw [rd, rd, rd, rd, rd, rd, rd, cov_m0, cov_m1, cov_s0, cov_s1, cov_m0, cov_m1, cov_c0, cov_c1]
    have z4 : (![0, 0, 0, 0] : Fin 4 → ℕ) = fun _ => 0 := by decide
    have e2 := View.ld_unit_zero (S := S1x256x256) z3 inb_S1x256x256_S1x256x256_0_0_0 x2
    have e4 := View.ld_unit_zero (S := S1x1x128x256) z4 inb_S1x1x128x256_S1x1x128x256_0_0_0_0 x4
    rw [e2, e4]
    unfold out
    rw [carry_succ, carry_succ]
    unfold step
    dsimp only
    rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  iexists _, _; isplitr; swap; · iexact HS5
  ipureintro; rfl

end Cert.Attn

end
-- ==== Proof.Attn.Frame.lean ====
/- The launch of the attention call around the body's own triple (Body.lean): the proof data of the pipeline, the
   obligation at a grid point, the run, and the frame. The set-up is the one such launches share; what is
   particular is the contents of the output's staging block, `out` of the point's five input blocks. -/
module

public import proofs.«01_k».proof.Proof.Attn.Body
public import proofs.«01_k».proof.Proof.Gen.KernelIdeal.Frame.Runs
public import Idealize.ShloMosaic.Lib.Claim

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging block holds after the body at point `t`. -/
def outsAt0 (c : Dev nD) (t : Fin cfg0.N) : Vec F S1x1024x128 .bf16 :=
  out (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩⟩
  iapply (body c (grid0.coords t) _ (hs0_0 t) _ (hs0_1 t) _ (hs0_2 t) _ (hs0_3 t) _ (hs0_4 t) _ (hs0_5 t) _ (Memref.isWhole_whole _) _ (Memref.isWhole_whole _) _ (Memref.isWhole_whole _) _ (Memref.isWhole_whole _) _ (Memref.isWhole_whole _) _ (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- **The frame**: every run ends, the five arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Attn

end
-- ==== Proof.Attn.Math.lean ====
/-
  The arithmetic of a softmax computed tile by tile, over the extended reals.

  One query against a sequence of keys: `s k` is the score of key `k` (in powers of two), `v k` one coordinate of its
  value.  `IsState` says what a running maximum and a running weighted sum are after the first `n` keys; a tile's update
  keeps it; and the quotient of two such sums is what a softmax followed by a weighted sum gives.  The values may be
  infinite; the scores are real.
-/
module

public import Idealize.ShloMosaic.PureOps.Ideal

@[expose] public section

noncomputable section

namespace Cert.Attn

open Idealize.ShloMosaic

/-- A sum times a real that is not negative is the sum of the products, whatever its terms. -/
theorem sum_mul_real {ι : Type*} (t : Finset ι) (f : ι → EReal) {α : ℝ} (hα : 0 ≤ α) :
    (∑ k ∈ t, f k) * (α : EReal) = ∑ k ∈ t, f k * (α : EReal) := by
  classical
  induction t using Finset.induction_on with
  | empty => simp
  | insert a t ha ih =>
    rw [Finset.sum_insert ha, Finset.sum_insert ha,
      EReal.right_distrib_of_nonneg_of_ne_top (EReal.coe_nonneg.2 hα) (EReal.coe_ne_top α), ih]

/-- The running maximum `m` and weighted sum `acc` are those of the first `n` keys. -/
def IsState (s v : ℕ → EReal) (n : ℕ) (m acc : EReal) : Prop :=
  m = (Finset.range n).sup s ∧ acc = ∑ k ∈ Finset.range n, v k * Ideal.exp2 (s k - m)

theorem isState_zero (s v : ℕ → EReal) : IsState s v 0 ⊥ 0 := ⟨by simp, by simp⟩

/-- The maximum of real scores is real once there is one. -/
theorem sup_real {s : ℕ → EReal} {r : ℕ → ℝ} (hs : ∀ k, s k = (r k : EReal)) {n : ℕ} (hn : 0 < n) :
    ∃ R : ℝ, (Finset.range n).sup s = (R : EReal) := by
  obtain ⟨i, _, hi⟩ := Finset.exists_mem_eq_sup (Finset.range n) ⟨0, Finset.mem_range.2 hn⟩ s
  exact ⟨r i, hi.trans (hs i)⟩

/-- One tile of `N` keys: the maximum raised to the tile's, the sum rescaled and the tile's terms added. -/
theorem isState_step {s v : ℕ → EReal} {r : ℕ → ℝ} (hs : ∀ k, s k = (r k : EReal)) {n N : ℕ} {m acc m' acc' : EReal}
    (h : IsState s v n m acc) (hN : 0 < N)
    (hm : m' = max m ((Finset.univ : Finset (Fin N)).sup fun k => s (n + k.val)))
    (ha : acc' = acc * Ideal.exp2 (m - m') + ∑ k : Fin N, v (n + k.val) * Ideal.exp2 (s (n + k.val) - m')) :
    IsState s v (n + N) m' acc' := by
  have hm' : m' = (Finset.range (n + N)).sup s := by
    rw [hm, h.1]
    apply le_antisymm
    · refine max_le (Finset.sup_mono (Finset.range_subset_range.2 (Nat.le_add_right n N))) (Finset.sup_le fun k _ => ?_)
      exact Finset.le_sup (f := s) (Finset.mem_range.2 (Nat.add_lt_add_left k.isLt n))
    · refine Finset.sup_le fun k hk => ?_
      rcases Nat.lt_or_ge k n with hlt | hge
      · exact le_max_of_le_left (Finset.le_sup (f := s) (Finset.mem_range.2 hlt))
      · obtain ⟨j, rfl⟩ := Nat.exists_eq_add_of_le hge
        have hj : j < N := by have := Finset.mem_range.1 hk; omega
        exact le_max_of_le_right (Finset.le_sup (f := fun k : Fin N => s (n + k.val)) (Finset.mem_univ (⟨j, hj⟩ : Fin N)))
  refine ⟨hm', ?_⟩
  rw [ha, Finset.sum_range_add, ← Finset.sum_range (fun k => v (n + k) * Ideal.exp2 (s (n + k) - m'))]
  congr 1
  obtain ⟨R', hR'⟩ := sup_real hs (n := n + N) (by omega)
  rw [← hm'] at hR'
  rcases Nat.eq_zero_or_pos n with rfl | hn
  · rw [h.2]; simp
  · obtain ⟨R, hR⟩ := sup_real hs hn
    rw [← h.1] at hR
    have h2 : (0 : ℝ) ≤ Real.rpow 2 (R - R') := Real.rpow_nonneg (by norm_num) _
    rw [h.2, hR, hR', ← EReal.coe_sub, Ideal.exp2_coe, sum_mul_real _ _ h2]
    refine Finset.sum_congr rfl fun k _ => ?_
    rw [hs k, ← EReal.coe_sub, ← EReal.coe_sub, Ideal.exp2_coe, Ideal.exp2_coe, mul_assoc, ← EReal.coe_mul]
    congr 2
    show (2 : ℝ) ^ (r k - R) * (2 : ℝ) ^ (R - R') = (2 : ℝ) ^ (r k - R')
    rw [← Real.rpow_add (by norm_num)]
    congr 1; ring

/-- The maximum of the scores scaled by a positive real is the scaled maximum. -/
theorem sup_mul_real {ι : Type*} (t : Finset ι) (f : ι → EReal) {c : ℝ} (hc : 0 < c) :
    t.sup (fun k => f k * (c : EReal)) = t.sup f * (c : EReal) := by
  have hmono : Monotone fun x : EReal => x * (c : EReal) :=
    fun x y h => mul_le_mul_of_nonneg_right h (EReal.coe_nonneg.2 hc.le)
  exact (Finset.comp_sup_eq_sup_comp (s := t) (f := f) (fun x : EReal => x * (c : EReal))
    (fun x y => hmono.map_max) (by show (⊥ : EReal) * (c : EReal) = ⊥; exact EReal.bot_mul_coe_of_pos hc)).symm

/-- The quotient of the two running sums is the softmax (in natural exponentials, of the scores times log 2) followed
    by the weighted sum: division of each weight by their total, then the products summed. -/
theorem quotient_eq {s v : ℕ → EReal} {r : ℕ → ℝ} (hs : ∀ k, s k = (r k : EReal)) {n : ℕ} (hn : 0 < n) {m a l M : EReal}
    (ha : IsState s v n m a) (hl : IsState s (fun _ => 1) n m l)
    (hM : M = (Finset.range n).sup fun k => s k * ((Real.log 2 : ℝ) : EReal)) :
    Ideal.div a l = ∑ k ∈ Finset.range n,
      Ideal.div (Ideal.exp (s k * ((Real.log 2 : ℝ) : EReal) - M))
        (∑ j ∈ Finset.range n, Ideal.exp (s j * ((Real.log 2 : ℝ) : EReal) - M)) * v k := by
  have hlog : (0 : ℝ) < Real.log 2 := Real.log_pos (by norm_num)
  obtain ⟨R, hR⟩ := sup_real hs hn
  have hmR : m = (R : EReal) := ha.1.trans hR
  rw [sup_mul_real _ _ hlog, hR, ← EReal.coe_mul] at hM
  have he : ∀ k, Ideal.exp (s k * ((Real.log 2 : ℝ) : EReal) - M) = ((2 : ℝ) ^ (r k - R) : ℝ) := by
    intro k
    rw [hs k, hM, ← EReal.coe_mul, ← EReal.coe_sub, Ideal.exp_coe, Real.rpow_def_of_pos (by norm_num)]
    congr 2; ring
  have hw : ∀ k, Ideal.exp2 (s k - m) = ((2 : ℝ) ^ (r k - R) : ℝ) := by
    intro k
    rw [hs k, hmR, ← EReal.coe_sub, Ideal.exp2_coe]; rfl
  have hsum : (∑ k ∈ Finset.range n, (((2 : ℝ) ^ (r k - R) : ℝ) : EReal)) = ((∑ k ∈ Finset.range n, (2 : ℝ) ^ (r k - R) : ℝ) : EReal) := by
    generalize Finset.range n = t
    classical
    induction t using Finset.induction_on with
    | empty => simp
    | insert a t ha ih => rw [Finset.sum_insert ha, Finset.sum_insert ha, ih, EReal.coe_add]
  have hL : (0 : ℝ) < ∑ k ∈ Finset.range n, (2 : ℝ) ^ (r k - R) :=
    Finset.sum_pos (fun k _ => Real.rpow_pos_of_pos (by norm_num) _) ⟨0, Finset.mem_range.2 hn⟩
  have hl' : l = ((∑ k ∈ Finset.range n, (2 : ℝ) ^ (r k - R) : ℝ) : EReal) := by
    rw [hl.2, ← hsum]
    exact Finset.sum_congr rfl fun k _ => by rw [hw k, one_mul]
  rw [hl', Ideal.div_coe hL.ne', ha.2, sum_mul_real _ _ (by positivity)]
  refine Finset.sum_congr rfl fun k _ => ?_
  rw [Finset.sum_congr rfl (fun j _ => he j), hsum, he k, hw k, Ideal.div_coe hL.ne', mul_assoc, mul_comm]

end Cert.Attn

end
-- ==== Proof.Attn.Read.lean ====
/-
  The attention block read at an index, over the extended reals: each payload of the body at an entry, the carries as
  the running state (Math.lean) of one query against the keys in order, and the stored block as a quotient of two of
  them.
-/
module

public import proofs.«01_k».proof.Proof.Attn.Fold
public import proofs.«01_k».proof.Proof.Attn.Math
public import Idealize.ShloMosaic.Lib.Pointwise

@[expose] public section

set_option maxRecDepth 16384

noncomputable section

namespace Cert.Attn

open Idealize.ShloMosaic Idealize.ShloMosaic.TcCoe
open Cert.KernelIdeal Cert.KernelIdeal.Gen

/-- The single-precision pattern of minus infinity denotes the least extended real. -/
theorem ofBits_neg_inf : Ideal.ofBits FTy.f32 0xFF800000#32 = (⊥ : EReal) := by
  simp [Ideal.ofBits, Ideal.ieee]

theorem fold_max_sup {ι : Type*} (t : Finset ι) (f : ι → EReal) : t.fold max (⊥ : EReal) f = t.sup f := rfl

/-! ## The tiles and the payloads at an entry -/

theorem q0_apply (x0 : Vec Ideal S1x1024x256 .bf16) (a : Fin 1024) (d : Fin 128) :
    q0 x0 (ix3 0 a d) = x0 (ix3 0 a ⟨d.val, by omega⟩) :=
  congrArg x0 (funext fun i => Fin.ext (by
    match i with
    | 0 => rfl
    | 1 => show 0 + 1 * a.val = a.val; omega
    | 2 => show 0 + 1 * d.val = d.val; omega))

theorem q1_apply (x0 : Vec Ideal S1x1024x256 .bf16) (a : Fin 1024) (d : Fin 128) :
    q1 x0 (ix3 0 a d) = x0 (ix3 0 a ⟨128 + d.val, by omega⟩) :=
  congrArg x0 (funext fun i => Fin.ext (by
    match i with
    | 0 => rfl
    | 1 => show 0 + 1 * a.val = a.val; omega
    | 2 => show 128 + 1 * d.val = 128 + d.val; omega))

theorem kT_apply (x1 : Vec Ideal S1x4096x256 .bf16) (j : ℕ) (k : Fin 512) (d : Fin 256) :
    kT x1 j (ix3 0 k d) = x1 (ix3 0 ⟨512 * (j % 8) + k.val, by omega⟩ d) :=
  congrArg x1 (funext fun i => Fin.ext (by
    match i with
    | 0 => rfl
    | 1 => show 512 * (j % 8) + 1 * k.val = 512 * (j % 8) + k.val; omega
    | 2 => show 0 + 1 * d.val = d.val; omega))

theorem vT_apply (x3 : Vec Ideal S1x8x128x512 .bf16) (j : ℕ) (r : Fin 128) (k : Fin 512) :
    vT x3 j (ix4 0 0 r k) = x3 (ix4 0 ⟨j % 8, by omega⟩ r k) :=
  congrArg x3 (funext fun i => Fin.ext (by
    match i with
    | 0 => rfl
    | 1 => show j % 8 + 1 * 0 = j % 8; omega
    | 2 => show 0 + 1 * r.val = r.val; omega
    | 3 => show 0 + 1 * k.val = k.val; omega))

theorem pay4_apply (x : Vec Ideal S1x512x256 .bf16) (q : Vec Ideal S1x1024x128 .bf16) (k : Fin 512) (a : Fin 1024) :
    k0_pay4 x q (ix3 0 k a) = ∑ d : Fin 128, x (ix3 0 k ⟨d.val, by omega⟩) * q (ix3 0 a d) := by
  pointwise [k0_pay4, k0_pay3, k0_pay2]

theorem pay7_apply (x : Vec Ideal S1x512x256 .bf16) (q : Vec Ideal S1x1024x128 .bf16) (k : Fin 512) (a : Fin 1024) :
    k0_pay7 x q (ix3 0 k a) = ∑ d : Fin 128, x (ix3 0 k ⟨128 + d.val, by omega⟩) * q (ix3 0 a d) := by
  pointwise [k0_pay7, k0_pay6, k0_pay2]

theorem pay5_apply (x : Vec Ideal S1x512x256 .bf16) (q : Vec Ideal S1x1024x128 .bf16) (a : Fin 1024) :
    k0_pay5 x q (ix3 0 0 a) = Finset.univ.sup fun k : Fin 512 => k0_pay4 x q (ix3 0 k a) := by
  pointwise [k0_pay5, k0_pay4]
  rw [ofBits_neg_inf, fold_max_sup]

theorem pay9_apply (x : Vec Ideal S1x512x256 .bf16) (q : Vec Ideal S1x1024x128 .bf16) (a : Fin 1024) :
    k0_pay9 (k0_pay8 x q) (ix3 0 0 a) = Finset.univ.sup fun k : Fin 512 => k0_pay7 x q (ix3 0 k a) := by
  pointwise [k0_pay9, k0_pay8, k0_pay7]
  rw [ofBits_neg_inf, fold_max_sup]

theorem pay58_apply (x : Vec Ideal S1x256x256 .bf16) (q : Vec Ideal S1x1024x128 .bf16) (k : Fin 256) (a : Fin 1024) :
    k0_pay58 x q (ix3 0 k a) = ∑ d : Fin 128, x (ix3 0 k ⟨d.val, by omega⟩) * q (ix3 0 a d) := by
  pointwise [k0_pay58, k0_pay57, k0_pay56]

theorem pay61_apply (x : Vec Ideal S1x256x256 .bf16) (q : Vec Ideal S1x1024x128 .bf16) (k : Fin 256) (a : Fin 1024) :
    k0_pay61 x q (ix3 0 k a) = ∑ d : Fin 128, x (ix3 0 k ⟨128 + d.val, by omega⟩) * q (ix3 0 a d) := by
  pointwise [k0_pay61, k0_pay60, k0_pay56]

theorem pay59_apply (x : Vec Ideal S1x256x256 .bf16) (q : Vec Ideal S1x1024x128 .bf16) (a : Fin 1024) :
    k0_pay59 x q (ix3 0 0 a) = Finset.univ.sup fun k : Fin 256 => k0_pay58 x q (ix3 0 k a) := by
  pointwise [k0_pay59, k0_pay58]
  rw [ofBits_neg_inf, fold_max_sup]

theorem pay62_apply (x : Vec Ideal S1x256x256 .bf16) (q : Vec Ideal S1x1024x128 .bf16) (a : Fin 1024) :
    k0_pay62 x q (ix3 0 0 a) = Finset.univ.sup fun k : Fin 256 => k0_pay61 x q (ix3 0 k a) := by
  pointwise [k0_pay62, k0_pay61]
  rw [ofBits_neg_inf, fold_max_sup]

theorem pay12_apply (m : FVec Ideal S1x1024 .f32) (t : Vec Ideal S1x1x1024 .f32) (a : Fin 1024) :
    k0_pay12 m t (ix2 0 a) = max (m (ix2 0 a)) (t (ix3 0 0 a)) := by
  pointwise [k0_pay12]

theorem pay14_apply (m : FVec Ideal S1x1024 .f32) (t : Vec Ideal S1x1x1024 .f32) (a : Fin 1024) :
    k0_pay14 m t (ix2 0 a) = max (m (ix2 0 a)) (t (ix3 0 0 a)) := by
  pointwise [k0_pay14]

theorem pay13_apply (m : FVec Ideal S1x1024 .f32) (c : FVec Ideal S80x1024 .f32) (v : Vec Ideal S1x1x128x512 .bf16)
    (t : Vec Ideal S1x1x1024 .f32) (s : Vec Ideal S1x512x1024 .f32) (r : Fin 80) (a : Fin 1024) :
    k0_pay13 m c v t s (ix2 r a) = c (ix2 r a) * Ideal.exp2 (m (ix2 0 a) - max (m (ix2 0 a)) (t (ix3 0 0 a)))
      + ∑ k : Fin 512, (if h : r.val < 64 then v (ix4 0 0 ⟨r.val, by omega⟩ k) else 1)
          * Ideal.exp2 (s (ix3 0 k a) - max (m (ix2 0 a)) (t (ix3 0 0 a))) := by
  pointwise [k0_pay13, k0_pay12, k0_pay11, k0_pay10]
  rfl

theorem pay15_apply (m : FVec Ideal S1x1024 .f32) (c : FVec Ideal S80x1024 .f32) (v : Vec Ideal S1x1x128x512 .bf16)
    (t : Vec Ideal S1x1x1024 .f32) (s : Vec Ideal S1x512x1024 .f32) (r : Fin 80) (a : Fin 1024) :
    k0_pay15 m c v t s (ix2 r a) = c (ix2 r a) * Ideal.exp2 (m (ix2 0 a) - max (m (ix2 0 a)) (t (ix3 0 0 a)))
      + ∑ k : Fin 512, (if h : r.val < 64 then v (ix4 0 0 ⟨64 + r.val, by omega⟩ k) else 1)
          * Ideal.exp2 (s (ix3 0 k a) - max (m (ix2 0 a)) (t (ix3 0 0 a))) := by
  pointwise [k0_pay15, k0_pay14, k0_pay11, k0_pay10]
  rfl

/-! ## One query against the keys in order -/

/-- The score of key `k` (latent tokens, then context tokens) for query row `a` of head `h` of the pair. -/
def sc (x0 : Vec Ideal S1x1024x256 .bf16) (x1 : Vec Ideal S1x4096x256 .bf16) (x2 : Vec Ideal S1x256x256 .bf16)
    (h : Fin 2) (a : Fin 1024) (k : ℕ) : EReal :=
  if k < 4096 then ∑ d : Fin 128, x1 (ix3 0 ⟨k % 4096, by omega⟩ ⟨128 * h.val + d.val, by omega⟩) * x0 (ix3 0 a ⟨128 * h.val + d.val, by omega⟩)
  else ∑ d : Fin 128, x2 (ix3 0 ⟨(k - 4096) % 256, by omega⟩ ⟨128 * h.val + d.val, by omega⟩) * x0 (ix3 0 a ⟨128 * h.val + d.val, by omega⟩)

/-- Row `r` of head `h`'s values at key `k`; the rows from 64 on are ones. -/
def vl (x3 : Vec Ideal S1x8x128x512 .bf16) (x4 : Vec Ideal S1x1x128x256 .bf16) (h : Fin 2) (r : Fin 80) (k : ℕ) : EReal :=
  if hr : r.val < 64 then
    if k < 4096 then x3 (ix4 0 ⟨k / 512 % 8, by omega⟩ ⟨64 * h.val + r.val, by omega⟩ ⟨k % 512, by omega⟩)
    else x4 (ix4 0 0 ⟨64 * h.val + r.val, by omega⟩ ⟨(k - 4096) % 256, by omega⟩)
  else 1

section
variable (x0 : Vec Ideal S1x1024x256 .bf16) (x1 : Vec Ideal S1x4096x256 .bf16) (x2 : Vec Ideal S1x256x256 .bf16)
  (x3 : Vec Ideal S1x8x128x512 .bf16) (x4 : Vec Ideal S1x1x128x256 .bf16)

theorem sc0_eq (j : ℕ) (hj : j < 8) (k : Fin 512) (a : Fin 1024) :
    sc0 x0 x1 j (ix3 0 k a) = sc x0 x1 x2 0 a (512 * j + k.val) := by
  unfold sc0 sc
  rw [if_pos (by omega), pay4_apply]
  refine Finset.sum_congr rfl fun d _ => ?_
  rw [q0_apply, kT_apply]
  congr 3 <;> (apply Fin.ext; show _ = _; dsimp only; omega)

theorem sc1_eq (j : ℕ) (hj : j < 8) (k : Fin 512) (a : Fin 1024) :
    sc1 x0 x1 j (ix3 0 k a) = sc x0 x1 x2 1 a (512 * j + k.val) := by
  unfold sc1 sc
  rw [if_pos (by omega), pay7_apply]
  refine Finset.sum_congr rfl fun d _ => ?_
  rw [q1_apply, kT_apply]
  congr 3 <;> (apply Fin.ext; show _ = _; dsimp only; omega)

theorem v0_eq (j : ℕ) (hj : j < 8) (r : Fin 80) (k : Fin 512) :
    (if h : r.val < 64 then vT x3 j (ix4 0 0 ⟨r.val, by omega⟩ k) else (1 : EReal)) = vl x3 x4 0 r (512 * j + k.val) := by
  unfold vl
  split
  · rw [if_pos (by omega), vT_apply]
    congr 2 <;> (apply Fin.ext; show _ = _; dsimp only; omega)
  · rfl

theorem v1_eq (j : ℕ) (hj : j < 8) (r : Fin 80) (k : Fin 512) :
    (if h : r.val < 64 then vT x3 j (ix4 0 0 ⟨64 + r.val, by omega⟩ k) else (1 : EReal)) = vl x3 x4 1 r (512 * j + k.val) := by
  unfold vl
  split
  · rw [if_pos (by omega), vT_apply]
    congr 2 <;> (apply Fin.ext; show _ = _; dsimp only; omega)
  · rfl

/-- After `j` latent tiles head 0 carries the state of its first `512 j` keys; -/
theorem carry0 (a : Fin 1024) (r : Fin 80) {ρ : ℕ → ℝ} (hs : ∀ k, sc x0 x1 x2 0 a k = (ρ k : EReal)) : ∀ j : ℕ, j ≤ 8 →
    IsState (sc x0 x1 x2 0 a) (vl x3 x4 0 r) (512 * j) ((carry x0 x1 x3 j).1 (ix2 0 a)) ((carry x0 x1 x3 j).2.1 (ix2 r a))
  | 0, _ => by
    have h := isState_zero (sc x0 x1 x2 0 a) (vl x3 x4 0 r)
    have e1 : (carry x0 x1 x3 0).1 (ix2 0 a) = ⊥ := ofBits_neg_inf
    have e2 : (carry x0 x1 x3 0).2.1 (ix2 r a) = 0 := by
      show k0_pay30 (F := Ideal) (ix2 r a) = 0
      pointwise [k0_pay30]
    rw [e1, e2]; exact h
  | j + 1, hj => by
    have ih := carry0 a r hs j (by omega)
    refine isState_step hs ih (N := 512) (by norm_num) ?_ ?_
    · show k0_pay12 _ _ (ix2 0 a) = _
      rw [pay12_apply]; unfold mx0; rw [pay5_apply]
      congr 2; funext k
      exact sc0_eq x0 x1 x2 j (by omega) k a
    · show k0_pay13 _ _ _ _ _ (ix2 r a) = _
      rw [pay13_apply, ← pay12_apply]
      congr 1
      refine Finset.sum_congr rfl fun k _ => ?_
      rw [v0_eq x3 x4 j (by omega), sc0_eq x0 x1 x2 j (by omega)]
      rfl

/-- head 1 likewise. -/
theorem carry1 (a : Fin 1024) (r : Fin 80) {ρ : ℕ → ℝ} (hs : ∀ k, sc x0 x1 x2 1 a k = (ρ k : EReal)) : ∀ j : ℕ, j ≤ 8 →
    IsState (sc x0 x1 x2 1 a) (vl x3 x4 1 r) (512 * j) ((carry x0 x1 x3 j).2.2.1 (ix2 0 a)) ((carry x0 x1 x3 j).2.2.2 (ix2 r a))
  | 0, _ => by
    have h := isState_zero (sc x0 x1 x2 1 a) (vl x3 x4 1 r)
    have e1 : (carry x0 x1 x3 0).2.2.1 (ix2 0 a) = ⊥ := ofBits_neg_inf
    have e2 : (carry x0 x1 x3 0).2.2.2 (ix2 r a) = 0 := by
      show k0_pay30 (F := Ideal) (ix2 r a) = 0
      pointwise [k0_pay30]
    rw [e1, e2]; exact h
  | j + 1, hj => by
    have ih := carry1 a r hs j (by omega)
    refine isState_step hs ih (N := 512) (by norm_num) ?_ ?_
    · show k0_pay14 _ _ (ix2 0 a) = _
      rw [pay14_apply]; unfold mx1; rw [pay9_apply]
      congr 2; funext k
      exact sc1_eq x0 x1 x2 j (by omega) k a
    · show k0_pay15 _ _ _ _ _ (ix2 r a) = _
      rw [pay15_apply, ← pay14_apply]
      congr 1
      refine Finset.sum_congr rfl fun k _ => ?_
      rw [v1_eq x3 x4 j (by omega), sc1_eq x0 x1 x2 j (by omega)]
      rfl

end

/-- One head's accumulator row after the context tile: the carried row rescaled to the new maximum, plus the tile's
    weighted values (from value row `o + r`), or its weights for the rows from 64 on. -/
def ctxRow (o : ℕ) (ho : o ≤ 64) (m : FVec Ideal S1x1024 .f32) (c : FVec Ideal S80x1024 .f32) (v : Vec Ideal S1x1x128x256 .bf16)
    (t : Vec Ideal S1x1x1024 .f32) (s : Vec Ideal S1x256x1024 .f32) (r : Fin 80) (a : Fin 1024) : EReal :=
  c (ix2 r a) * Ideal.exp2 (m (ix2 0 a) - max (m (ix2 0 a)) (t (ix3 0 0 a)))
    + ∑ k : Fin 256, (if h : r.val < 64 then v (ix4 0 0 ⟨o + r.val, by omega⟩ k) else 1)
        * Ideal.exp2 (s (ix3 0 k a) - max (m (ix2 0 a)) (t (ix3 0 0 a)))

section
variable (o : ℕ) (ho : o ≤ 64) (m : FVec Ideal S1x1024 .f32) (c : FVec Ideal S80x1024 .f32) (v : Vec Ideal S1x1x128x256 .bf16)
    (t : Vec Ideal S1x1x1024 .f32) (s : Vec Ideal S1x256x1024 .f32) (r : Fin 64) (a : Fin 1024)

theorem ctxRow_lt : ctxRow o ho m c v t s ⟨r.val, by omega⟩ a =
    c (ix2 ⟨r.val, by omega⟩ a) * Ideal.exp2 (m (ix2 0 a) - max (m (ix2 0 a)) (t (ix3 0 0 a)))
      + ∑ k : Fin 256, v (ix4 0 0 ⟨o + r.val, by omega⟩ k) * Ideal.exp2 (s (ix3 0 k a) - max (m (ix2 0 a)) (t (ix3 0 0 a))) := by
  unfold ctxRow
  congr 1
  exact Finset.sum_congr rfl fun k _ => by rw [dif_pos r.isLt]

theorem ctxRow_64 : ctxRow o ho m c v t s 64 a =
    c (ix2 64 a) * Ideal.exp2 (m (ix2 0 a) - max (m (ix2 0 a)) (t (ix3 0 0 a)))
      + ∑ k : Fin 256, Ideal.exp2 (s (ix3 0 k a) - max (m (ix2 0 a)) (t (ix3 0 0 a))) := by
  unfold ctxRow
  congr 1
  exact Finset.sum_congr rfl fun k _ => by rw [dif_neg (by decide), one_mul]

end

section
variable (m0 : FVec Ideal S1x1024 .f32) (c0 : FVec Ideal S80x1024 .f32) (m1 : FVec Ideal S1x1024 .f32) (c1 : FVec Ideal S80x1024 .f32)
    (v : Vec Ideal S1x1x128x256 .bf16) (t0 : Vec Ideal S1x1x1024 .f32) (s0 : Vec Ideal S1x256x1024 .f32) (t1 : Vec Ideal S1x1x1024 .f32)
    (s1 : Vec Ideal S1x256x1024 .f32) (a : Fin 1024) (r : Fin 64)

/-- The stored block at an entry of head 0: the accumulator row over the row of ones; -/
theorem pay70_apply0 :
    k0_pay1 (k0_pay70 m0 c0 m1 c1 (k0_pay69 v) t0 s0 t1 s1) (ix3 0 a ⟨r.val, by omega⟩)
      = Ideal.div (ctxRow 0 (by omega) m0 c0 v t0 s0 ⟨r.val, by omega⟩ a) (ctxRow 0 (by omega) m0 c0 v t0 s0 64 a) := by
  pointwise [k0_pay1, k0_pay70, k0_pay69]
  rw [ctxRow_lt, ctxRow_64]
  simp only [Nat.zero_add]
  rfl

/-- of head 1 likewise. -/
theorem pay70_apply1 :
    k0_pay1 (k0_pay70 m0 c0 m1 c1 (k0_pay69 v) t0 s0 t1 s1) (ix3 0 a ⟨64 + r.val, by omega⟩)
      = Ideal.div (ctxRow 64 (by omega) m1 c1 v t1 s1 ⟨r.val, by omega⟩ a) (ctxRow 64 (by omega) m1 c1 v t1 s1 64 a) := by
  pointwise [k0_pay1, k0_pay70, k0_pay69]
  rw [ctxRow_lt, ctxRow_64]
  rfl

end

section
variable (x0 : Vec Ideal S1x1024x256 .bf16) (x1 : Vec Ideal S1x4096x256 .bf16) (x2 : Vec Ideal S1x256x256 .bf16)
  (x3 : Vec Ideal S1x8x128x512 .bf16) (x4 : Vec Ideal S1x1x128x256 .bf16)

theorem vl_one (h : Fin 2) : vl x3 x4 h 64 = fun _ => 1 := by
  funext k; unfold vl; rw [dif_neg (by decide)]

theorem cs0_eq (k : Fin 256) (a : Fin 1024) : k0_pay58 x2 (q0 x0) (ix3 0 k a) = sc x0 x1 x2 0 a (4096 + k.val) := by
  unfold sc
  rw [if_neg (by omega), pay58_apply]
  have e : 4096 + k.val - 4096 = k.val := by omega
  simp only [e, Nat.mod_eq_of_lt k.isLt]
  refine Finset.sum_congr rfl fun d _ => ?_
  rw [q0_apply]
  have e0 : 128 * (0 : Fin 2).val + d.val = d.val := by show 128 * 0 + d.val = d.val; omega
  simp only [e0]

theorem cs1_eq (k : Fin 256) (a : Fin 1024) : k0_pay61 x2 (q1 x0) (ix3 0 k a) = sc x0 x1 x2 1 a (4096 + k.val) := by
  unfold sc
  rw [if_neg (by omega), pay61_apply]
  have e : 4096 + k.val - 4096 = k.val := by omega
  simp only [e, Nat.mod_eq_of_lt k.isLt]
  refine Finset.sum_congr rfl fun d _ => ?_
  rw [q1_apply]
  congr 3

theorem cv0_eq (r : Fin 80) (k : Fin 256) :
    (if h : r.val < 64 then x4 (ix4 0 0 ⟨0 + r.val, by omega⟩ k) else (1 : EReal)) = vl x3 x4 0 r (4096 + k.val) := by
  unfold vl
  split
  · have e : 4096 + k.val - 4096 = k.val := by omega
    rw [if_neg (by omega)]
    simp only [e, Nat.mod_eq_of_lt k.isLt]
    rfl
  · rfl

theorem cv1_eq (r : Fin 80) (k : Fin 256) :
    (if h : r.val < 64 then x4 (ix4 0 0 ⟨64 + r.val, by omega⟩ k) else (1 : EReal)) = vl x3 x4 1 r (4096 + k.val) := by
  unfold vl
  split
  · have e : 4096 + k.val - 4096 = k.val := by omega
    rw [if_neg (by omega)]
    simp only [e, Nat.mod_eq_of_lt k.isLt]
    rfl
  · rfl

/-- After the context tile head 0's rows are the state of all 4352 keys; -/
theorem ctx0 (a : Fin 1024) (r : Fin 80) {ρ : ℕ → ℝ} (hs : ∀ k, sc x0 x1 x2 0 a k = (ρ k : EReal)) :
    IsState (sc x0 x1 x2 0 a) (vl x3 x4 0 r) 4352
      (max ((carry x0 x1 x3 8).1 (ix2 0 a)) (k0_pay59 x2 (q0 x0) (ix3 0 0 a)))
      (ctxRow 0 (by omega) (carry x0 x1 x3 8).1 (carry x0 x1 x3 8).2.1 x4 (k0_pay59 x2 (q0 x0)) (k0_pay58 x2 (q0 x0)) r a) := by
  refine isState_step (n := 4096) hs (carry0 x0 x1 x2 x3 x4 a r hs 8 le_rfl) (N := 256) (by norm_num) ?_ ?_
  · rw [pay59_apply]
    congr 2; funext k
    exact cs0_eq x0 x1 x2 k a
  · unfold ctxRow
    congr 1
    refine Finset.sum_congr rfl fun k _ => ?_
    rw [cv0_eq x3 x4, cs0_eq x0 x1 x2]

/-- head 1's likewise. -/
theorem ctx1 (a : Fin 1024) (r : Fin 80) {ρ : ℕ → ℝ} (hs : ∀ k, sc x0 x1 x2 1 a k = (ρ k : EReal)) :
    IsState (sc x0 x1 x2 1 a) (vl x3 x4 1 r) 4352
      (max ((carry x0 x1 x3 8).2.2.1 (ix2 0 a)) (k0_pay62 x2 (q1 x0) (ix3 0 0 a)))
      (ctxRow 64 (by omega) (carry x0 x1 x3 8).2.2.1 (carry x0 x1 x3 8).2.2.2 x4 (k0_pay62 x2 (q1 x0)) (k0_pay61 x2 (q1 x0)) r a) := by
  refine isState_step (n := 4096) hs (carry1 x0 x1 x2 x3 x4 a r hs 8 le_rfl) (N := 256) (by norm_num) ?_ ?_
  · rw [pay62_apply]
    congr 2; funext k
    exact cs1_eq x0 x1 x2 k a
  · unfold ctxRow
    congr 1
    refine Finset.sum_congr rfl fun k _ => ?_
    rw [cv1_eq x3 x4, cs1_eq x0 x1 x2]

/-- **The block at an entry**: for real scores, entry `(a, 64 h + r)` of the stored block is the softmax of head `h`'s scores
    for query row `a` (base 2 scores, so the exponent is the score times `ln 2`) weighting row `r` of its values. -/
theorem out_apply (a : Fin 1024) (h : Fin 2) (r : Fin 64) {ρ : ℕ → ℝ} (hs : ∀ k, sc x0 x1 x2 h a k = (ρ k : EReal)) {M : EReal}
    (hM : M = (Finset.range 4352).sup fun k => sc x0 x1 x2 h a k * (Real.log 2 : EReal)) :
    out x0 x1 x2 x3 x4 (ix3 0 a ⟨64 * h.val + r.val, by omega⟩)
      = ∑ k ∈ Finset.range 4352, Ideal.div (Ideal.exp (sc x0 x1 x2 h a k * (Real.log 2 : EReal) - M))
          (∑ j ∈ Finset.range 4352, Ideal.exp (sc x0 x1 x2 h a j * (Real.log 2 : EReal) - M))
          * vl x3 x4 h ⟨r.val, by omega⟩ k := by
  match h with
  | 0 =>
    refine Eq.trans ?_ (quotient_eq hs (by norm_num) (ctx0 x0 x1 x2 x3 x4 a ⟨r.val, by omega⟩ hs)
      (by have := ctx0 x0 x1 x2 x3 x4 a 64 hs; rwa [vl_one] at this) hM)
    rw [← pay70_apply0]
    unfold out
    congr 2
    exact Fin.ext (show 64 * 0 + r.val = r.val by omega)
  | 1 =>
    refine Eq.trans ?_ (quotient_eq hs (by norm_num) (ctx1 x0 x1 x2 x3 x4 a ⟨r.val, by omega⟩ hs)
      (by have := ctx1 x0 x1 x2 x3 x4 a 64 hs; rwa [vl_one] at this) hM)
    rw [← pay70_apply1]
    unfold out
    rfl

end

end Cert.Attn

end
-- ==== Proof.Attn.Value.lean ====
/-
  The output array after the run, block by block, and each block's inputs read off the arguments.
-/
module

public import proofs.«01_k».proof.Proof.Attn.Frame
public import proofs.«01_k».proof.Proof.Attn.Read
public import Idealize.ShloMosaic.Lib.Pipeline.Value
public import Idealize.ShloMosaic.Lib.ValueIdxCore

@[expose] public section

set_option maxRecDepth 16384

noncomputable section

namespace Cert.Attn

open Idealize.ShloMosaic Idealize.ShloMosaic.TcCoe Idealize.SL.Sem
open Cert.KernelIdeal Cert.KernelIdeal.Gen
open Idealize.ShloMosaic.Pipeline (Dat)

variable {F : FTy → Type} [FloatOps F]
variable (m : (ℓ : Loc nD τ sig) → Buf (Elt F) ℓ) (ρ : Dev nD → PrngReg)

/-! ## What a point writes back, and the final array block by block -/

/-- Point `t` writes back the staging block after the body. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- Distinct points write distinct blocks. -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- Block `t` of the final array is what point `t` wrote back. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- The run, the output array named and the arguments unchanged. -/
theorem run_blocks : θ_run defs (onTc (τ := τ) (main (F := F))) ⟨m, fun _ => 0, ρ⟩ fun r => ∀ c : Dev nD,
      r.2.mem ((c.tc : Thread nD τ).loc main_v0) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1 5,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

/-! ## The blocks' places -/

theorem idx0 : ∀ t : Fin grid0.N, win0_0.index t = ![t.val / 16, t.val % 4, t.val / 4 % 4] := by decide +kernel
theorem idx1 : ∀ t : Fin grid0.N, win0_1.index t = ![t.val / 16, 0, t.val / 4 % 4] := by decide +kernel
theorem idx2 : ∀ t : Fin grid0.N, win0_2.index t = ![t.val / 16, 0, t.val / 4 % 4] := by decide +kernel
theorem idx3 : ∀ t : Fin grid0.N, win0_3.index t = ![t.val / 16, 0, t.val / 4 % 4, 0] := by decide +kernel
theorem idx4 : ∀ t : Fin grid0.N, win0_4.index t = ![t.val / 16, 0, t.val / 4 % 4, 0] := by decide +kernel
theorem idx5 : ∀ t : Fin grid0.N, win0_5.index t = ![t.val / 16, t.val % 4, t.val / 4 % 4] := by decide +kernel
theorem flush5 : ∀ t : Fin grid0.N, win0_5.flush t = true := by decide +kernel

/-- The grid point of batch `b`, pair of heads `p` and query tile `i`. -/
def pt (b : Fin 8) (p : Fin 4) (i : Fin 4) : Fin cfg0.N := ⟨16 * b.val + 4 * p.val + i.val, by show _ < 128; omega⟩

variable (c : Dev nD) (b : Fin 8) (p : Fin 4) (i : Fin 4)

theorem pt_idx3 (f : Fin grid0.N → Fin 3 → ℕ) (hf : ∀ t, f t = ![t.val / 16, t.val % 4, t.val / 4 % 4]) :
    f (pt b p i) = ![b.val, i.val, p.val] := by
  rw [hf]
  have h1 : (pt b p i).val / 16 = b.val := by show (16 * b.val + 4 * p.val + i.val) / 16 = _; omega
  have h2 : (pt b p i).val % 4 = i.val := by show (16 * b.val + 4 * p.val + i.val) % 4 = _; omega
  have h3 : (pt b p i).val / 4 % 4 = p.val := by show (16 * b.val + 4 * p.val + i.val) / 4 % 4 = _; omega
  rw [h1, h2, h3]

theorem blk0 (a : Fin 1024) (d : Fin 256) : iblk m c 0 (pt b p i) (ix3 0 a d)
    = m ((c.tc : Thread nD τ).loc main_arg0) (ix3 b ⟨1024 * i.val + a.val, by omega⟩ ⟨256 * p.val + d.val, by omega⟩) := by
  have h := pt_idx3 b p i _ idx0
  refine Eq.trans ?_ (congrFun (V_main_arg0 m c) _)
  refine congrArg (V m c main_arg0) (funext fun x => Fin.ext ?_)
  match x with
  | 0 => show win0_0.index (pt b p i) 0 * 1 + 1 * 0 = b.val; rw [h]; show b.val * 1 + 1 * 0 = _; omega
  | 1 => show win0_0.index (pt b p i) 1 * 1024 + 1 * a.val = 1024 * i.val + a.val; rw [h]; show i.val * 1024 + 1 * a.val = _; omega
  | 2 => show win0_0.index (pt b p i) 2 * 256 + 1 * d.val = 256 * p.val + d.val; rw [h]; show p.val * 256 + 1 * d.val = _; omega

theorem pt_idx3z (f : Fin grid0.N → Fin 3 → ℕ) (hf : ∀ t, f t = ![t.val / 16, 0, t.val / 4 % 4]) :
    f (pt b p i) = ![b.val, 0, p.val] := by
  rw [hf]
  have h1 : (pt b p i).val / 16 = b.val := by show (16 * b.val + 4 * p.val + i.val) / 16 = _; omega
  have h3 : (pt b p i).val / 4 % 4 = p.val := by show (16 * b.val + 4 * p.val + i.val) / 4 % 4 = _; omega
  rw [h1, h3]

theorem pt_idx4 (f : Fin grid0.N → Fin 4 → ℕ) (hf : ∀ t, f t = ![t.val / 16, 0, t.val / 4 % 4, 0]) :
    f (pt b p i) = ![b.val, 0, p.val, 0] := by
  rw [hf]
  have h1 : (pt b p i).val / 16 = b.val := by show (16 * b.val + 4 * p.val + i.val) / 16 = _; omega
  have h3 : (pt b p i).val / 4 % 4 = p.val := by show (16 * b.val + 4 * p.val + i.val) / 4 % 4 = _; omega
  rw [h1, h3]

theorem blk1 (k : Fin 4096) (d : Fin 256) : iblk m c 1 (pt b p i) (ix3 0 k d)
    = m ((c.tc : Thread nD τ).loc main_arg1) (ix3 b k ⟨256 * p.val + d.val, by omega⟩) := by
  have h := pt_idx3z b p i _ idx1
  refine Eq.trans ?_ (congrFun (V_main_arg1 m c) _)
  refine congrArg (V m c main_arg1) (funext fun x => Fin.ext ?_)
  match x with
  | 0 => show win0_1.index (pt b p i) 0 * 1 + 1 * 0 = b.val; rw [h]; show b.val * 1 + 1 * 0 = _; omega
  | 1 => show win0_1.index (pt b p i) 1 * 4096 + 1 * k.val = k.val; rw [h]; show 0 * 4096 + 1 * k.val = _; omega
  | 2 => show win0_1.index (pt b p i) 2 * 256 + 1 * d.val = 256 * p.val + d.val; rw [h]; show p.val * 256 + 1 * d.val = _; omega

theorem blk2 (k : Fin 256) (d : Fin 256) : iblk m c 2 (pt b p i) (ix3 0 k d)
    = m ((c.tc : Thread nD τ).loc main_arg2) (ix3 b k ⟨256 * p.val + d.val, by omega⟩) := by
  have h := pt_idx3z b p i _ idx2
  refine Eq.trans ?_ (congrFun (V_main_arg2 m c) _)
  refine congrArg (V m c main_arg2) (funext fun x => Fin.ext ?_)
  match x with
  | 0 => show win0_2.index (pt b p i) 0 * 1 + 1 * 0 = b.val; rw [h]; show b.val * 1 + 1 * 0 = _; omega
  | 1 => show win0_2.index (pt b p i) 1 * 256 + 1 * k.val = k.val; rw [h]; show 0 * 256 + 1 * k.val = _; omega
  | 2 => show win0_2.index (pt b p i) 2 * 256 + 1 * d.val = 256 * p.val + d.val; rw [h]; show p.val * 256 + 1 * d.val = _; omega

theorem blk3 (j : Fin 8) (r : Fin 128) (k : Fin 512) : iblk m c 3 (pt b p i) (ix4 0 j r k)
    = m ((c.tc : Thread nD τ).loc main_arg3) (ix4 b j ⟨128 * p.val + r.val, by omega⟩ k) := by
  have h := pt_idx4 b p i _ idx3
  refine Eq.trans ?_ (congrFun (V_main_arg3 m c) _)
  refine congrArg (V m c main_arg3) (funext fun x => Fin.ext ?_)
  match x with
  | 0 => show win0_3.index (pt b p i) 0 * 1 + 1 * 0 = b.val; rw [h]; show b.val * 1 + 1 * 0 = _; omega
  | 1 => show win0_3.index (pt b p i) 1 * 8 + 1 * j.val = j.val; rw [h]; show 0 * 8 + 1 * j.val = _; omega
  | 2 => show win0_3.index (pt b p i) 2 * 128 + 1 * r.val = 128 * p.val + r.val; rw [h]; show p.val * 128 + 1 * r.val = _; omega
  | 3 => show win0_3.index (pt b p i) 3 * 512 + 1 * k.val = k.val; rw [h]; show 0 * 512 + 1 * k.val = _; omega

theorem blk4 (r : Fin 128) (k : Fin 256) : iblk m c 4 (pt b p i) (ix4 0 0 r k)
    = m ((c.tc : Thread nD τ).loc main_arg4) (ix4 b 0 ⟨128 * p.val + r.val, by omega⟩ k) := by
  have h := pt_idx4 b p i _ idx4
  refine Eq.trans ?_ (congrFun (V_main_arg4 m c) _)
  refine congrArg (V m c main_arg4) (funext fun x => Fin.ext ?_)
  match x with
  | 0 => show win0_4.index (pt b p i) 0 * 1 + 1 * 0 = b.val; rw [h]; show b.val * 1 + 1 * 0 = _; omega
  | 1 => show win0_4.index (pt b p i) 1 * 1 + 1 * 0 = 0; rw [h]; rfl
  | 2 => show win0_4.index (pt b p i) 2 * 128 + 1 * r.val = 128 * p.val + r.val; rw [h]; show p.val * 128 + 1 * r.val = _; omega
  | 3 => show win0_4.index (pt b p i) 3 * 256 + 1 * k.val = k.val; rw [h]; show 0 * 256 + 1 * k.val = _; omega

/-- An entry of the output array after the run is its place in the block of the point it belongs to. -/
theorem entry5 (a : Fin 1024) (w : Fin 128) :
    (dats m 0 c).arrAt 5 cfg0.N (ix3 b ⟨1024 * i.val + a.val, by omega⟩ ⟨128 * p.val + w.val, by omega⟩)
      = outsAt0 m c (pt b p i) (ix3 0 a w) := by
  have hb := (blocks5 m c (pt b p i) (flush5 _)).trans (flushed5 m c (pt b p i))
  have h := pt_idx3 b p i _ idx5
  refine Eq.trans ?_ (congrFun hb (ix3 0 a w))
  refine congrArg ((dats m 0 c).arrAt 5 cfg0.N) (funext fun x => Fin.ext ?_)
  match x with
  | 0 => show b.val = win0_5.index (pt b p i) 0 * 1 + 1 * 0; rw [h]; show _ = b.val * 1 + 1 * 0; omega
  | 1 => show 1024 * i.val + a.val = win0_5.index (pt b p i) 1 * 1024 + 1 * a.val; rw [h]; show _ = i.val * 1024 + 1 * a.val; omega
  | 2 => show 128 * p.val + w.val = win0_5.index (pt b p i) 2 * 128 + 1 * w.val; rw [h]; show _ = p.val * 128 + 1 * w.val; omega

end Cert.Attn

end
-- ==== Proof.Attn.Ref.lean ====
/-
  The reference read at an index, over the extended reals: softmax of the scores times `ln 2`, weighting the values.
-/
module

public import proofs.«01_k».proof.Proof.Gen.ReferenceIdeal.Read
public import Idealize.ShloMosaic.Lib.Pointwise

@[expose] public section

set_option maxRecDepth 16384

noncomputable section

namespace Cert.Attn.Ref

open Idealize.ShloMosaic Idealize.ShloMosaic.TcCoe
open Cert.ReferenceIdeal Cert.ReferenceIdeal.Gen Cert.ReferenceIdeal.Read

variable (q k1 : (⟨S8x4096x1024, .bf16⟩ : BufTy).Contents (Elt Ideal)) (k2 : (⟨S8x256x1024, .bf16⟩ : BufTy).Contents (Elt Ideal))
  (v1 : (⟨S8x8x512x512, .bf16⟩ : BufTy).Contents (Elt Ideal)) (v2 : (⟨S8x1x512x256, .bf16⟩ : BufTy).Contents (Elt Ideal))

/-- A query's score against key `k` of a head: the products over the head's 128 columns, latent keys then context keys. -/
theorem score_read (b : Fin 8) (H : Fin 8) (t : Fin 4096) (k : Fin 4352) :
    val_main_v14 (F := Ideal) q k1 k2 (ix4 b H t k) = ∑ x : Fin 128, q (ix3 b t ⟨H.val * 128 + x.val, by omega⟩) *
      if h : k.val < 4096 then k1 (ix3 b ⟨k.val, h⟩ ⟨H.val * 128 + x.val, by omega⟩)
      else k2 (ix3 b ⟨k.val - 4096, by omega⟩ ⟨H.val * 128 + x.val, by omega⟩) := by
  pointwise [val_main_v14, val_main_v13, val_main_v12, val_main_v4, val_main_v3, val_main_v2, val_main_v1, val_main_v0]

/-- Component `r` of a head's value at key `k`. -/
theorem value_read (b : Fin 8) (H : Fin 8) (r : Fin 64) (k : Fin 4352) :
    val_main_v11 (F := Ideal) v1 v2 (ix4 b k H r)
      = if h : k.val < 4096 then v1 (ix4 b ⟨k.val / 512, by omega⟩ ⟨H.val * 64 + r.val, by omega⟩ ⟨k.val % 512, by omega⟩)
        else v2 (ix4 b 0 ⟨H.val * 64 + r.val, by omega⟩ ⟨k.val - 4096, by omega⟩) := by
  pointwise [val_main_v11, val_main_v10, val_main_v9, val_main_v8, val_main_v7, val_main_v6, val_main_v5]

theorem ln2_read : val_main_v15 (F := Ideal) ix0 = ((Real.log 2 : ℝ) : EReal) := by
  show Ideal.log (Ideal.ofBits .f32 0x40000000#32) = _
  have e : Ideal.ofBits .f32 0x40000000#32 = ((2 : ℝ) : EReal) := by
    simp [Ideal.ofBits, Ideal.ieee, -EReal.coe_mul]; norm_num
  rw [e, Ideal.log_coe, if_neg (by norm_num)]

theorem scaled_read (b : Fin 8) (H : Fin 8) (t : Fin 4096) (k : Fin 4352) :
    val_main_v18 (F := Ideal) q k1 k2 (ix4 b H t k) = val_main_v14 (F := Ideal) q k1 k2 (ix4 b H t k) * ((Real.log 2 : ℝ) : EReal) := by
  rw [← ln2_read]
  pointwise [val_main_v18, val_main_v17, val_main_v16]
  rfl

theorem ofBits_neg_inf : Ideal.ofBits FTy.f32 0xFF800000#32 = (⊥ : EReal) := by
  simp [Ideal.ofBits, Ideal.ieee]

theorem maxReduce_read (b : Fin 8) (H : Fin 8) (t : Fin 4096) :
    val_main_v19 (F := Ideal) q k1 k2 (ix3 b H t) = Finset.univ.sup fun k : Fin 4352 => val_main_v18 (F := Ideal) q k1 k2 (ix4 b H t k) := by
  unfold val_main_v19
  generalize val_main_v18 (F := Ideal) q k1 k2 = y
  pointwise []
  rw [val_main_cst_0_apply, Ideal.ofBits_def, ofBits_neg_inf]
  rfl

theorem max_read (b : Fin 8) (H : Fin 8) (t : Fin 4096) :
    val_main_v21 (F := Ideal) q k1 k2 (ix3 b H t) = Finset.univ.sup fun k : Fin 4352 => val_main_v18 (F := Ideal) q k1 k2 (ix4 b H t k) := by
  rw [← maxReduce_read, val_main_v21_apply, val_main_v20_apply, val_main_cst_1_apply]
  generalize val_main_v19 (F := Ideal) q k1 k2 (ix3 b H t) = y
  rw [Ideal.ofBits_def, ofBits_neg_inf, Ideal.maximumf_def, max_eq_right bot_le]

theorem weight_read (b : Fin 8) (H : Fin 8) (t : Fin 4096) (k : Fin 4352) :
    val_main_v31 (F := Ideal) q k1 k2 (ix4 b H t k)
      = Ideal.div (Ideal.exp (val_main_v18 (F := Ideal) q k1 k2 (ix4 b H t k) - val_main_v21 (F := Ideal) q k1 k2 (ix3 b H t)))
        (∑ j : Fin 4352, Ideal.exp (val_main_v18 (F := Ideal) q k1 k2 (ix4 b H t j) - val_main_v21 (F := Ideal) q k1 k2 (ix3 b H t))) := by
  pointwise [val_main_v31, val_main_v30, val_main_v29, val_main_v28, val_main_v27, val_main_v26, val_main_v25, val_main_v24, val_main_v23, val_main_v22, val_main_cst_2]

theorem out_read (b : Fin 8) (t : Fin 4096) (H : Fin 8) (r : Fin 64) :
    val_main_v35 (F := Ideal) q k1 k2 v1 v2 (ix3 b t ⟨64 * H.val + r.val, by omega⟩)
      = ∑ k : Fin 4352, val_main_v11 (F := Ideal) v1 v2 (ix4 b k H r) * val_main_v31 (F := Ideal) q k1 k2 (ix4 b H t k) := by
  pointwise [val_main_v35, val_main_v34, val_main_v33, val_main_v32]

end Cert.Attn.Ref

end
-- ==== Proof.Attn.Main.lean ====
/-
  The kernel's output array is the reference's result, entry by entry, for real queries and keys.
-/
module

public import proofs.«01_k».proof.Proof.Attn.Value
public import proofs.«01_k».proof.Proof.Attn.Ref
public import proofs.«01_k».proof.Pre_finite

@[expose] public section

set_option maxRecDepth 16384

noncomputable section

namespace Cert.Attn

open Idealize.ShloMosaic Idealize.ShloMosaic.TcCoe Idealize.SL.Sem
open Cert.KernelIdeal Cert.KernelIdeal.Gen
open Cert.ReferenceIdeal.Read

/-! ## Real numbers among the extended reals -/

/-- A sum of products of real numbers is real. -/
theorem real_sum_mul {ι : Type*} (t : Finset ι) (f g : ι → EReal) (hf : ∀ i, ∃ u : ℝ, f i = (u : EReal)) (hg : ∀ i, ∃ u : ℝ, g i = (u : EReal)) :
    ∃ u : ℝ, ∑ i ∈ t, f i * g i = (u : EReal) := by
  refine Finset.sum_induction (fun i => f i * g i) (fun x : EReal => ∃ u : ℝ, x = (u : EReal)) ?_ ⟨0, rfl⟩ fun i _ => ?_
  · rintro _ _ ⟨u, rfl⟩ ⟨w, rfl⟩
    exact ⟨u + w, (EReal.coe_add u w).symm⟩
  · obtain ⟨u, hu⟩ := hf i
    obtain ⟨w, hw⟩ := hg i
    exact ⟨u * w, by rw [hu, hw, EReal.coe_mul]⟩

/-- An extended real whose absolute value is below plus infinity is real. -/
theorem real_of_abs_lt {x : EReal} (h : max x (-x) < ⊤) : ∃ u : ℝ, x = (u : EReal) := by
  induction x with
  | bot => simp at h
  | coe u => exact ⟨u, rfl⟩
  | top => simp at h

theorem ofBits_inf : Ideal.ofBits FTy.bf16 0x7F80#16 = (⊤ : EReal) := by
  simp [Ideal.ofBits, Ideal.ieee]

theorem sup_range_fin (n : ℕ) (f : ℕ → EReal) : (Finset.range n).sup f = Finset.univ.sup fun k : Fin n => f k.val := by
  refine le_antisymm (Finset.sup_le fun k hk => ?_) (Finset.sup_le fun k _ => Finset.le_sup (Finset.mem_range.2 k.isLt))
  exact Finset.le_sup (f := fun k : Fin n => f k.val) (Finset.mem_univ (⟨k, Finset.mem_range.1 hk⟩ : Fin n))

section
variable (m : (ℓ : Loc nD τ sig) → Buf (Elt Ideal) ℓ) (c : Dev nD)

/-- The arguments. -/
abbrev aQ := m ((c.tc : Thread nD τ).loc main_arg0)
abbrev aK1 := m ((c.tc : Thread nD τ).loc main_arg1)
abbrev aK2 := m ((c.tc : Thread nD τ).loc main_arg2)
abbrev aV1 := m ((c.tc : Thread nD τ).loc main_arg3)
abbrev aV2 := m ((c.tc : Thread nD τ).loc main_arg4)

variable (b : Fin 8) (p : Fin 4) (i : Fin 4) (h : Fin 2) (a : Fin 1024) (r : Fin 64)

/-- The block's score is the reference's. -/
theorem sc_eq (k : Fin 4352) :
    sc (iblk m c 0 (pt b p i)) (iblk m c 1 (pt b p i)) (iblk m c 2 (pt b p i)) h a k.val
      = val_main_v14 (F := Ideal) (aQ m c) (aK1 m c) (aK2 m c) (ix4 b ⟨2 * p.val + h.val, by omega⟩ ⟨1024 * i.val + a.val, by omega⟩ k) := by
  rw [Ref.score_read]
  unfold sc
  have e : ∀ d : ℕ, 256 * p.val + (128 * h.val + d) = (2 * p.val + h.val) * 128 + d := fun d => by omega
  split
  · rename_i hk
    refine Finset.sum_congr rfl fun d _ => ?_
    rw [blk0, blk1, mul_comm]
    simp only [e, Nat.mod_eq_of_lt hk]
  · rename_i hk
    have hk' : (k.val - 4096) % 256 = k.val - 4096 := by omega
    refine Finset.sum_congr rfl fun d _ => ?_
    rw [blk0, blk2, mul_comm]
    simp only [e, hk']

/-- The block's values are the reference's. -/
theorem vl_eq (k : Fin 4352) :
    vl (iblk m c 3 (pt b p i)) (iblk m c 4 (pt b p i)) h ⟨r.val, by omega⟩ k.val
      = val_main_v11 (F := Ideal) (aV1 m c) (aV2 m c) (ix4 b k ⟨2 * p.val + h.val, by omega⟩ r) := by
  rw [Ref.value_read]
  unfold vl
  have e : 128 * p.val + (64 * h.val + r.val) = (2 * p.val + h.val) * 64 + r.val := by omega
  rw [dif_pos r.isLt]
  split
  · rename_i hk
    have hk' : k.val / 512 % 8 = k.val / 512 := by omega
    rw [blk3]
    simp only [e, hk']
  · rename_i hk
    have hk' : (k.val - 4096) % 256 = k.val - 4096 := by omega
    rw [blk4]
    simp only [e, hk']

/-- The scores are real when the queries and the keys are. -/
theorem sc_real (hq : ∀ j, ∃ u : ℝ, aQ m c j = (u : EReal)) (hk1 : ∀ j, ∃ u : ℝ, aK1 m c j = (u : EReal)) (hk2 : ∀ j, ∃ u : ℝ, aK2 m c j = (u : EReal)) (k : ℕ) :
    ∃ u : ℝ, sc (iblk m c 0 (pt b p i)) (iblk m c 1 (pt b p i)) (iblk m c 2 (pt b p i)) h a k = (u : EReal) := by
  unfold sc
  split
  · refine real_sum_mul _ _ _ (fun d => ?_) fun d => ?_
    · rw [blk1]; exact hk1 _
    · rw [blk0]; exact hq _
  · refine real_sum_mul _ _ _ (fun d => ?_) fun d => ?_
    · rw [blk2]; exact hk2 _
    · rw [blk0]; exact hq _

/-- **An entry of the output**: the kernel's is the reference's. -/
theorem entry_eq (hq : ∀ j, ∃ u : ℝ, aQ m c j = (u : EReal)) (hk1 : ∀ j, ∃ u : ℝ, aK1 m c j = (u : EReal)) (hk2 : ∀ j, ∃ u : ℝ, aK2 m c j = (u : EReal)) :
    outsAt0 m c (pt b p i) (ix3 0 a ⟨64 * h.val + r.val, by omega⟩)
      = val_main_v35 (F := Ideal) (aQ m c) (aK1 m c) (aK2 m c) (aV1 m c) (aV2 m c)
          (ix3 b ⟨1024 * i.val + a.val, by omega⟩ ⟨64 * (2 * p.val + h.val) + r.val, by omega⟩) := by
  choose ρ hρ using sc_real m c b p i h a hq hk1 hk2
  have hM := Ref.max_read (aQ m c) (aK1 m c) (aK2 m c) b ⟨2 * p.val + h.val, by omega⟩ ⟨1024 * i.val + a.val, by omega⟩
  have hs : ∀ k : Fin 4352, val_main_v18 (F := Ideal) (aQ m c) (aK1 m c) (aK2 m c) (ix4 b ⟨2 * p.val + h.val, by omega⟩ ⟨1024 * i.val + a.val, by omega⟩ k)
      = sc (iblk m c 0 (pt b p i)) (iblk m c 1 (pt b p i)) (iblk m c 2 (pt b p i)) h a k.val * ((Real.log 2 : ℝ) : EReal) := fun k => by
    rw [sc_eq, Ref.scaled_read]
  simp only [hs] at hM
  rw [← sup_range_fin 4352 fun k => sc (iblk m c 0 (pt b p i)) (iblk m c 1 (pt b p i)) (iblk m c 2 (pt b p i)) h a k * ((Real.log 2 : ℝ) : EReal)] at hM
  have e := Ref.out_read (aQ m c) (aK1 m c) (aK2 m c) (aV1 m c) (aV2 m c) b ⟨1024 * i.val + a.val, by omega⟩ ⟨2 * p.val + h.val, by omega⟩ r
  refine Eq.trans ?_ e.symm
  unfold outsAt0
  rw [out_apply _ _ _ _ _ a h r hρ hM, Finset.sum_range]
  refine Finset.sum_congr rfl fun k _ => ?_
  rw [Ref.weight_read, mul_comm, vl_eq, Finset.sum_range]
  simp only [hs]

/-- **The output array**: the kernel's is the reference's result. -/
theorem arr_eq (hq : ∀ j, ∃ u : ℝ, aQ m c j = (u : EReal)) (hk1 : ∀ j, ∃ u : ℝ, aK1 m c j = (u : EReal)) (hk2 : ∀ j, ∃ u : ℝ, aK2 m c j = (u : EReal)) :
    (dats m 0 c).arrAt 5 cfg0.N = val_main_v35 (F := Ideal) (aQ m c) (aK1 m c) (aK2 m c) (aV1 m c) (aV2 m c) := by
  funext j
  have h0 : (j 0).val < 8 := (j 0).isLt
  have h1 : (j 1).val < 4096 := (j 1).isLt
  have h2 : (j 2).val < 512 := (j 2).isLt
  have key := (entry5 m c (j 0) ⟨(j 2).val / 128, by omega⟩ ⟨(j 1).val / 1024, by omega⟩ ⟨(j 1).val % 1024, by omega⟩
      ⟨64 * ((j 2).val % 128 / 64) + (j 2).val % 64, by omega⟩).trans
    (entry_eq m c (j 0) ⟨(j 2).val / 128, by omega⟩ ⟨(j 1).val / 1024, by omega⟩ ⟨(j 2).val % 128 / 64, by omega⟩ ⟨(j 1).val % 1024, by omega⟩
      ⟨(j 2).val % 64, by omega⟩ hq hk1 hk2)
  refine Eq.trans (congrArg _ ?_) (key.trans (congrArg _ ?_))
  · funext x
    refine Fin.ext ?_
    match x with
    | 0 => rfl
    | 1 => show (j 1).val = 1024 * ((j 1).val / 1024) + (j 1).val % 1024; omega
    | 2 => show (j 2).val = 128 * ((j 2).val / 128) + (64 * ((j 2).val % 128 / 64) + (j 2).val % 64); omega
  · funext x
    refine Fin.ext ?_
    match x with
    | 0 => rfl
    | 1 => show 1024 * ((j 1).val / 1024) + (j 1).val % 1024 = (j 1).val; omega
    | 2 => show 64 * (2 * ((j 2).val / 128) + (j 2).val % 128 / 64) + (j 2).val % 64 = (j 2).val; omega

end

/-! ## The precondition -/

/-- The side conditions of the precondition: its constants broadcast to its arrays. -/
theorem preFacts : Cert.Pre_finite.Facts where
  bcast_S_S8x4096x1024 := by decide
  bcast_S_S8x256x1024 := by decide

/-- An array below plus infinity in absolute value, entry by entry, is real. -/
theorem real_of_lt {s : Shape} (x y : FVec Ideal s .bf16) (hy : ∀ j, y j = (⊤ : EReal)) (h : cmpf .olt (Host.absf x) y = fun _ => 1#1) (j : s.Idx) :
    ∃ u : ℝ, x j = (u : EReal) := by
  have hj := congrFun h j
  refine real_of_abs_lt ?_
  rw [← hy j]
  have : BitVec.ofBool (decide (max (x j : EReal) (-(x j)) < y j)) = 1#1 := hj
  by_contra hc
  rw [decide_eq_false hc] at this
  exact absurd this (by decide)

end Cert.Attn

end
-- ==== Proof.Mix.Spec.lean ====
/-
  One row of the branch merge as mathematics over the extended reals: the normalised, modulated token, the gated linear
  attention branch after its head-wise norm and gate, and the gated sum of the two branches added to the residual.
-/
module

public import Idealize.ShloMosaic.Lib.Pointwise

@[expose] public section

noncomputable section

namespace Cert.Mix

open Idealize.ShloMosaic

/-- The root-mean-square norm of `x` times the gain `g`, the mean a sum over `N`. -/
def rms {n : ℕ} (N : EReal) (x g : Fin n → EReal) (d : Fin n) : EReal :=
  x d * Ideal.rsqrt (Ideal.div (∑ e, x e * x e) N + Ideal.ofBits FTy.f32 897988541#32) * g d

/-- The token after its norm, scaled by `1 + sc` and shifted by `sh`. -/
def normed (x sh sc g : Fin 1024 → EReal) (d : Fin 1024) : EReal :=
  rms (Ideal.ofBits FTy.f32 1149239296#32) x g d * (1 + sc d) + sh d

/-- Column `j` of a product of a row and a matrix. -/
def dotRow {n k : ℕ} (h : Fin n → EReal) (w : Fin n → Fin k → EReal) (j : Fin k) : EReal := ∑ e, h e * w e j

/-- `r` times its logistic function. -/
def silu (r : EReal) : EReal := r * Ideal.logistic r

/-- The linear attention output `o` normed head by head, times the activated gate `z`. -/
def gated (o z : Fin 512 → EReal) (g : Fin 128 → EReal) (j : Fin 512) : EReal :=
  rms (Ideal.ofBits FTy.f32 1124073472#32) (fun e : Fin 128 => o ⟨j.val / 128 * 128 + e.val, by omega⟩) g ⟨j.val % 128, by omega⟩
    * silu (z j)

/-- An entry of the head whose columns start at `c`. -/
theorem gated_of (o z : Fin 512 → EReal) (g : Fin 128 → EReal) (j : Fin 512) (c : ℕ) (hc : c % 128 = 0) (hc' : c < 512) (w : Fin 128)
    (hj : j.val = c + w.val) : gated o z g j
      = o j * Ideal.rsqrt (Ideal.div (∑ e : Fin 128, o ⟨c + e.val, by omega⟩ * o ⟨c + e.val, by omega⟩) (Ideal.ofBits FTy.f32 1124073472#32)
          + Ideal.ofBits FTy.f32 897988541#32) * g w * (z j * Ideal.logistic (z j)) := by
  have h1 : j.val / 128 * 128 = c := by omega
  have h2 : (⟨j.val % 128, by omega⟩ : Fin 128) = w := Fin.ext (by show j.val % 128 = w.val; omega)
  have h3 : (⟨c + w.val, by omega⟩ : Fin 512) = j := Fin.ext hj.symm
  unfold gated rms silu
  rw [h2]
  simp only [h1, h3]

/-- The gated sum of the two branches. -/
def merged (om of ob : Fin 512 → EReal) (z : Fin 2560 → EReal) (gn : Fin 128 → EReal) (wm wg : Fin 512 → Fin 1024 → EReal)
    (e : Fin 1024) : EReal :=
  Ideal.logistic (z ⟨512 + e.val, by omega⟩) * dotRow om wm e
    + Ideal.logistic (z ⟨1536 + e.val, by omega⟩)
      * dotRow (gated (fun j => of j + ob j) (fun j => z ⟨j.val, by omega⟩) gn) wg e

/-- The row after the merge: the residual plus the gated output projection. -/
def row (x sh sc gt g : Fin 1024 → EReal) (om of ob : Fin 512 → EReal) (wb : Fin 1024 → Fin 2560 → EReal) (gn : Fin 128 → EReal)
    (wm wg : Fin 512 → Fin 1024 → EReal) (wo : Fin 1024 → Fin 1024 → EReal) (d : Fin 1024) : EReal :=
  x d + gt d * dotRow (merged om of ob (dotRow (normed x sh sc g) wb) gn wm wg) wo d

end Cert.Mix

end
-- ==== Proof.Mix.Body.lean ====
/-
  The merge kernel's block read at an index: a row of the block is the row of the merge (Spec.lean) of the row's inputs.
-/
module

public import proofs.«01_k».proof.Proof.Gen.Kernel2Ideal.Value
public import proofs.«01_k».proof.Proof.Mix.Spec

@[expose] public section

set_option maxRecDepth 16384

noncomputable section

namespace Cert.Mix

open Idealize.ShloMosaic Idealize.ShloMosaic.TcCoe
open Cert.Kernel2Ideal Cert.Kernel2Ideal.Gen

section
variable (v0 : FVec Ideal S1x1024x1024 .f32) (v2 : FVec Ideal S1x1024 .f32) (v15 v21 : FVec Ideal S1x1x1024 .f32)

/-- The normalised, modulated tokens. -/
theorem pay3_read (a d : Fin 1024) : k0_pay3 (F := Ideal) v0 v2 v15 v21 (ix2 a d)
    = normed (fun d => v0 (ix3 0 a d)) (fun d => v21 (ix3 0 0 d)) (fun d => v15 (ix3 0 0 d)) (fun d => v2 (ix2 0 d)) d := by
  pointwise [k0_pay3, k0_pay2]
  rfl

/-- The linear attention branch: four heads normed and gated, side by side, projected. -/
theorem pay14_read (z o1 o2 : FVec Ideal S1024x512 .f32) (g : FVec Ideal S1x128 .f32) (w : FVec Ideal S512x1024 .bf16) (a : Fin 1024) (e : Fin 1024) :
    k0_pay14 (F := Ideal) z (k0_pay7 o1 o2) (k0_pay8 z o1 o2 g) (k0_pay9 z o1 o2 g) (k0_pay10 z) (k0_pay11 o1 o2) g (k0_pay12 o1 o2) (k0_pay13) g w (ix2 a e)
      = dotRow (gated (fun j => o1 (ix2 a j) + o2 (ix2 a j)) (fun j => z (ix2 a j)) (fun d => g (ix2 0 d))) (fun j e => w (ix2 j e)) e := by
  pointwise [k0_pay14, k0_pay13, k0_pay12, k0_pay11, k0_pay10, k0_pay9, k0_pay8, k0_pay7]
  refine Finset.sum_congr rfl fun x _ => ?_
  congr 1
  by_cases h0 : x.val < 128
  · rw [dif_pos h0, gated_of _ _ _ x 0 (by decide) (by decide) ⟨x.val, h0⟩ (Nat.zero_add _).symm]
    simp only [Nat.zero_add]
  rw [dif_neg h0]
  by_cases h1 : x.val - 128 < 128
  · have e1 : (⟨128 + (x.val - 128), by omega⟩ : Fin 512) = x := Fin.ext (by show 128 + (x.val - 128) = x.val; omega)
    rw [dif_pos h1, gated_of _ _ _ x 128 (by decide) (by decide) ⟨x.val - 128, h1⟩ (by show x.val = 128 + (x.val - 128); omega)]
    simp only [e1]
  rw [dif_neg h1]
  by_cases h2 : x.val - 128 - 128 < 128
  · have e1 : (⟨256 + (x.val - 128 - 128), by omega⟩ : Fin 512) = x := Fin.ext (by show 256 + (x.val - 128 - 128) = x.val; omega)
    rw [dif_pos h2, gated_of _ _ _ x 256 (by decide) (by decide) ⟨x.val - 128 - 128, h2⟩ (by show x.val = 256 + (x.val - 128 - 128); omega)]
    simp only [e1]
  rw [dif_neg h2]
  have e1 : (⟨384 + (x.val - 128 - 128 - 128), by omega⟩ : Fin 512) = x := Fin.ext (by show 384 + (x.val - 128 - 128 - 128) = x.val; omega)
  rw [gated_of _ _ _ x 384 (by decide) (by decide) ⟨x.val - 128 - 128 - 128, by omega⟩ (by show x.val = 384 + (x.val - 128 - 128 - 128); omega)]
  simp only [e1]

end

section
variable (x0 : Vec Ideal S1x1024x1024 .f32) (x1 x2 x3 : Vec Ideal S1x1x1024 .f32) (x4 : Vec Ideal S1x1024 .f32)
  (x5 x6 x7 : Vec Ideal S1x1024x512 .bf16) (x8 : Vec Ideal S1024x2560 .bf16) (x9 : Vec Ideal S1x128 .f32) (x10 x11 : Vec Ideal S512x1024 .bf16)
  (x12 : Vec Ideal S1024x1024 .bf16)

theorem zero2 : (![0, 0] : Fin 2 → ℕ) = fun _ => 0 := by funext i; fin_cases i <;> rfl
theorem zero3 : (![0, 0, 0] : Fin 3 → ℕ) = fun _ => 0 := by funext i; fin_cases i <;> rfl

/-- **A row of the block** the body leaves is the row of the merge. -/
theorem out_read (a d : Fin 1024) : out0_13 (F := Ideal) x0 x1 x2 x3 x4 x5 x6 x7 x8 x9 x10 x11 x12 (ix3 0 a d)
    = row (fun d => x0 (ix3 0 a d)) (fun d => x1 (ix3 0 0 d)) (fun d => x2 (ix3 0 0 d)) (fun d => x3 (ix3 0 0 d)) (fun d => x4 (ix2 0 d))
        (fun j => x5 (ix3 0 a j)) (fun j => x6 (ix3 0 a j)) (fun j => x7 (ix3 0 a j)) (fun k j => x8 (ix2 k j)) (fun d => x9 (ix2 0 d))
        (fun j e => x10 (ix2 j e)) (fun j e => x11 (ix2 j e)) (fun k e => x12 (ix2 k e)) d := by
  unfold out0_13 k0_pay20 k0_pay19 k0_pay18 k0_pay17
  rw [View.canon_unit_zero zero3]
  have e0 : View.ld x0 r0_0 = x0 := View.ld_unit_zero zero3 _ x0
  have e1 : View.ld x1 r0_2 = x1 := View.ld_unit_zero zero3 _ x1
  have e2 : View.ld x2 r0_2 = x2 := View.ld_unit_zero zero3 _ x2
  have e3 : View.ld x3 r0_2 = x3 := View.ld_unit_zero zero3 _ x3
  have e4 : View.ld x4 r0_1 = x4 := View.ld_unit_zero zero2 _ x4
  have e5 : View.ld x5 r0_4 = x5 := View.ld_unit_zero zero3 _ x5
  have e6 : View.ld x6 r0_4 = x6 := View.ld_unit_zero zero3 _ x6
  have e7 : View.ld x7 r0_4 = x7 := View.ld_unit_zero zero3 _ x7
  have e9 : View.ld x9 r0_5 = x9 := View.ld_unit_zero zero2 _ x9
  have e10 : View.ld x10 r0_6 = x10 := View.ld_unit_zero zero2 _ x10
  have e11 : View.ld x11 r0_6 = x11 := View.ld_unit_zero zero2 _ x11
  have e12 : View.ld x12 r0_9 = x12 := View.ld_unit_zero zero2 _ x12
  rw [e0, e1, e2, e3, e4, e5, e6, e7, e9, e10, e11, e12]
  rw [View.ld_unit, View.ld_unit, View.ld_unit]
  pointwise [k0_pay1, k0_pay2, k0_pay15, k0_pay16]
  simp only [pay14_read]
  pointwise [k0_pay4, k0_pay5, k0_pay6]
  simp only [pay3_read]
  rfl

end

end Cert.Mix

end
-- ==== Proof.Mix.Ref.lean ====
/-
  The merge's reference read at an index: a row of its result is the row of the merge (Spec.lean) of the row's inputs.
-/
module

public import proofs.«01_k».proof.Proof.Gen.Reference2Ideal.Read
public import proofs.«01_k».proof.Proof.Mix.Spec

@[expose] public section

set_option maxRecDepth 16384

noncomputable section

namespace Cert.Mix.Ref

open Idealize.ShloMosaic Idealize.ShloMosaic.TcCoe
open Cert.Reference2Ideal Cert.Reference2Ideal.Gen Cert.Reference2Ideal.Read

variable (x0 : (⟨S8x4096x1024, .f32⟩ : BufTy).Contents (Elt Ideal)) (x1 : (⟨S16x1x6144, .f32⟩ : BufTy).Contents (Elt Ideal))
  (x2 : (⟨S1x1024, .f32⟩ : BufTy).Contents (Elt Ideal)) (x3 x4 x5 : (⟨S8x4096x512, .bf16⟩ : BufTy).Contents (Elt Ideal))
  (x6 : (⟨S1024x2560, .bf16⟩ : BufTy).Contents (Elt Ideal)) (x7 : (⟨S1x128, .f32⟩ : BufTy).Contents (Elt Ideal))
  (x8 x9 : (⟨S512x1024, .bf16⟩ : BufTy).Contents (Elt Ideal)) (x10 : (⟨S1024x1024, .bf16⟩ : BufTy).Contents (Elt Ideal))

/-- The normalised, modulated tokens. -/
theorem h_read (b : Fin 8) (t : Fin 4096) (d : Fin 1024) : val_main_v27 (F := Ideal) x0 x1 x2 (ix3 b t d)
    = normed (fun d => x0 (ix3 b t d)) (fun d => x1 (ix3 ⟨b.val, by omega⟩ 0 ⟨d.val, by omega⟩)) (fun d => x1 (ix3 ⟨b.val, by omega⟩ 0 ⟨1024 + d.val, by omega⟩))
        (fun d => x2 (ix2 0 d)) d := by
  pointwise [val_main_v27, val_main_v26, val_main_v25, val_main_v24, val_main_v23, val_main_v22, val_main_v21, val_main_v20, val_main_cst_2, val_main_v19, val_main_v18, val_main_v17, val_main_v16, val_main_v15, val_main_v14, val_main_v13, val_main_v12, val_main_cst_1, val_main_v11, val_main_v10, val_main_cst_0, val_main_v9, val_main_v8, val_main_cst, val_main_v7, val_main_v2, val_main_v1, val_main_v0]
  rfl

/-- Gates and gate logits. -/
theorem z_read (b : Fin 8) (t : Fin 4096) (j : Fin 2560) : val_main_v29 (F := Ideal) x0 x1 x2 x6 (ix3 b t j)
    = dotRow (fun d => val_main_v27 (F := Ideal) x0 x1 x2 (ix3 b t d)) (fun k j => x6 (ix2 k j)) j := by
  pointwise [val_main_v29, val_main_v28]
  rfl

/-- The linear attention branch before its projection. -/
theorem y_read (b : Fin 8) (t : Fin 4096) (j : Fin 512) : val_main_v51 (F := Ideal) x0 x1 x2 x4 x5 x6 x7 (ix3 b t j)
    = gated (fun j => x4 (ix3 b t j) + x5 (ix3 b t j)) (fun j => val_main_v29 (F := Ideal) x0 x1 x2 x6 (ix3 b t ⟨j.val, by omega⟩)) (fun d => x7 (ix2 0 d)) j := by
  rw [gated_of _ _ _ j (j.val / 128 * 128) (by omega) (by omega) ⟨j.val % 128, by omega⟩ (by show j.val = j.val / 128 * 128 + j.val % 128; omega)]
  pointwise [val_main_v51, val_main_v50, val_main_call0_v5, val_main_call0_v4, val_main_call0_cst_0, val_main_call0_v3, val_main_call0_v2, val_main_call0_cst, val_main_call0_v1, val_main_call0_v0, val_main_v30, val_main_v49, val_main_v48, val_main_v47, val_main_v46, val_main_v45, val_main_v44, val_main_v43, val_main_v42, val_main_v41, val_main_cst_5, val_main_v40, val_main_v39, val_main_cst_4, val_main_v38, val_main_v37, val_main_cst_3, val_main_v36, val_main_v35, val_main_v34, val_main_v33, val_main_v32]
  rfl

/-- The gated sum of the branches. -/
theorem merged_read (b : Fin 8) (t : Fin 4096) (e : Fin 1024) : val_main_v71 (F := Ideal) x0 x1 x2 x3 x4 x5 x6 x7 x8 x9 (ix3 b t e)
    = merged (fun j => x3 (ix3 b t j)) (fun j => x4 (ix3 b t j)) (fun j => x5 (ix3 b t j)) (fun j => val_main_v29 (F := Ideal) x0 x1 x2 x6 (ix3 b t j))
        (fun d => x7 (ix2 0 d)) (fun j e => x8 (ix2 j e)) (fun j e => x9 (ix2 j e)) e := by
  pointwise [val_main_v71, val_main_v70, val_main_v69, val_main_v68, val_main_v67, val_main_v66, val_main_v65, val_main_v64, val_main_v63, val_main_v62, val_main_v61, val_main_v60, val_main_v59, val_main_v58, val_main_v57, val_main_v56, val_main_cst_7, val_main_v55, val_main_v54, val_main_cst_6, val_main_v53, val_main_v52, val_main_v31]
  simp only [y_read, ← Nat.add_assoc]
  rfl

/-- **A row of the result** is the row of the merge. -/
theorem out_read (b : Fin 8) (t : Fin 4096) (d : Fin 1024) : val_main_v76 (F := Ideal) x0 x1 x2 x3 x4 x5 x6 x7 x8 x9 x10 (ix3 b t d)
    = row (fun d => x0 (ix3 b t d)) (fun d => x1 (ix3 ⟨b.val, by omega⟩ 0 ⟨d.val, by omega⟩)) (fun d => x1 (ix3 ⟨b.val, by omega⟩ 0 ⟨1024 + d.val, by omega⟩))
        (fun d => x1 (ix3 ⟨b.val, by omega⟩ 0 ⟨2048 + d.val, by omega⟩)) (fun d => x2 (ix2 0 d))
        (fun j => x3 (ix3 b t j)) (fun j => x4 (ix3 b t j)) (fun j => x5 (ix3 b t j)) (fun k j => x6 (ix2 k j)) (fun d => x7 (ix2 0 d))
        (fun j e => x8 (ix2 j e)) (fun j e => x9 (ix2 j e)) (fun k e => x10 (ix2 k e)) d := by
  pointwise [val_main_v76, val_main_v75, val_main_v74, val_main_v73, val_main_v72, val_main_v3, val_main_v0]
  simp only [merged_read, z_read, h_read]
  rfl

end Cert.Mix.Ref

end
-- ==== Proof.Mix.Main.lean ====
/-
  The merge kernel's output array is the reference's result, entry by entry.
-/
module

public import proofs.«01_k».proof.Proof.Gen.Kernel2Ideal.Value
public import proofs.«01_k».proof.Proof.Mix.Body
public import proofs.«01_k».proof.Proof.Mix.Ref
public import Idealize.ShloMosaic.Lib.Pipeline.Value
public import Idealize.ShloMosaic.Lib.ValueIdxCore

@[expose] public section

set_option maxRecDepth 16384

noncomputable section

namespace Cert.Mix

open Idealize.ShloMosaic Idealize.ShloMosaic.TcCoe Idealize.SL.Sem
open Cert.Kernel2Ideal Cert.Kernel2Ideal.Gen
open Idealize.ShloMosaic.Pipeline (Dat)

/-! ## The blocks' places -/

theorem idx0 : ∀ t : Fin grid0.N, win0_0.index t = ![t.val / 4, t.val % 4, 0] := by decide +kernel
theorem idx1 : ∀ t : Fin grid0.N, win0_1.index t = ![t.val / 4, 0, 0] := by decide +kernel
theorem idx2 : ∀ t : Fin grid0.N, win0_2.index t = ![t.val / 4, 0, 1] := by decide +kernel
theorem idx3 : ∀ t : Fin grid0.N, win0_3.index t = ![t.val / 4, 0, 2] := by decide +kernel
theorem idx4 : ∀ t : Fin grid0.N, win0_4.index t = ![0, 0] := by decide +kernel
theorem idx5 : ∀ t : Fin grid0.N, win0_5.index t = ![t.val / 4, t.val % 4, 0] := by decide +kernel
theorem idx6 : ∀ t : Fin grid0.N, win0_6.index t = ![t.val / 4, t.val % 4, 0] := by decide +kernel
theorem idx7 : ∀ t : Fin grid0.N, win0_7.index t = ![t.val / 4, t.val % 4, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![t.val / 4, t.val % 4, 0] := by decide +kernel
theorem flush13 : ∀ t : Fin grid0.N, win0_13.flush t = true := by decide +kernel

/-- The grid point of batch `b` and tile `i` of tokens. -/
def pt (b : Fin 8) (i : Fin 4) : Fin cfg0.N := ⟨4 * b.val + i.val, by show _ < 32; omega⟩

theorem pt_div (b : Fin 8) (i : Fin 4) : (pt b i).val / 4 = b.val := by show (4 * b.val + i.val) / 4 = _; omega
theorem pt_mod (b : Fin 8) (i : Fin 4) : (pt b i).val % 4 = i.val := by show (4 * b.val + i.val) % 4 = _; omega

section
variable {F : FTy → Type} [FloatOps F]
variable (m : (ℓ : Loc nD τ sig) → Buf (Elt F) ℓ) (c : Dev nD) (b : Fin 8) (i : Fin 4)

theorem blk0 (a : Fin 1024) (d : Fin 1024) : iblk m c 0 (pt b i) (ix3 0 a d)
    = m ((c.tc : Thread nD τ).loc main_arg0) (ix3 b ⟨1024 * i.val + a.val, by omega⟩ d) := by
  have h := idx0 (pt b i)
  rw [pt_div, pt_mod] at h
  refine Eq.trans ?_ (congrFun (V_main_arg0 m c) _)
  refine congrArg (V m c main_arg0) (funext fun x => Fin.ext ?_)
  match x with
  | 0 => show win0_0.index (pt b i) 0 * 1 + 1 * 0 = b.val; rw [h]; show b.val * 1 + 1 * 0 = _; omega
  | 1 => show win0_0.index (pt b i) 1 * 1024 + 1 * a.val = 1024 * i.val + a.val; rw [h]; show i.val * 1024 + 1 * a.val = _; omega
  | 2 => show win0_0.index (pt b i) 2 * 1024 + 1 * d.val = d.val; rw [h]; show 0 * 1024 + 1 * d.val = _; omega

theorem blk1 (d : Fin 1024) : iblk m c 1 (pt b i) (ix3 0 0 d)
    = m ((c.tc : Thread nD τ).loc main_arg1) (ix3 ⟨b.val, by omega⟩ 0 ⟨d.val, by omega⟩) := by
  have h := idx1 (pt b i)
  rw [pt_div] at h
  refine Eq.trans ?_ (congrFun (V_main_arg1 m c) _)
  refine congrArg (V m c main_arg1) (funext fun x => Fin.ext ?_)
  match x with
  | 0 => show win0_1.index (pt b i) 0 * 1 + 1 * 0 = b.val; rw [h]; show b.val * 1 + 1 * 0 = _; omega
  | 1 => show win0_1.index (pt b i) 1 * 1 + 1 * 0 = 0; rw [h]; rfl
  | 2 => show win0_1.index (pt b i) 2 * 1024 + 1 * d.val = d.val; rw [h]; show 0 * 1024 + 1 * d.val = _; omega

theorem blk2 (d : Fin 1024) : iblk m c 2 (pt b i) (ix3 0 0 d)
    = m ((c.tc : Thread nD τ).loc main_arg1) (ix3 ⟨b.val, by omega⟩ 0 ⟨1024 + d.val, by omega⟩) := by
  have h := idx2 (pt b i)
  rw [pt_div] at h
  refine Eq.trans ?_ (congrFun (V_main_arg1 m c) _)
  refine congrArg (V m c main_arg1) (funext fun x => Fin.ext ?_)
  match x with
  | 0 => show win0_2.index (pt b i) 0 * 1 + 1 * 0 = b.val; rw [h]; show b.val * 1 + 1 * 0 = _; omega
  | 1 => show win0_2.index (pt b i) 1 * 1 + 1 * 0 = 0; rw [h]; rfl
  | 2 => show win0_2.index (pt b i) 2 * 1024 + 1 * d.val = 1024 + d.val; rw [h]; show 1 * 1024 + 1 * d.val = _; omega

theorem blk3 (d : Fin 1024) : iblk m c 3 (pt b i) (ix3 0 0 d)
    = m ((c.tc : Thread nD τ).loc main_arg1) (ix3 ⟨b.val, by omega⟩ 0 ⟨2048 + d.val, by omega⟩) := by
  have h := idx3 (pt b i)
  rw [pt_div] at h
  refine Eq.trans ?_ (congrFun (V_main_arg1 m c) _)
  refine congrArg (V m c main_arg1) (funext fun x => Fin.ext ?_)
  match x with
  | 0 => show win0_3.index (pt b i) 0 * 1 + 1 * 0 = b.val; rw [h]; show b.val * 1 + 1 * 0 = _; omega
  | 1 => show win0_3.index (pt b i) 1 * 1 + 1 * 0 = 0; rw [h]; rfl
  | 2 => show win0_3.index (pt b i) 2 * 1024 + 1 * d.val = 2048 + d.val; rw [h]; show 2 * 1024 + 1 * d.val = _; omega

theorem blk4 (d : Fin 1024) : iblk m c 4 (pt b i) (ix2 0 d)
    = m ((c.tc : Thread nD τ).loc main_arg2) (ix2 0 d) := by
  have h := idx4 (pt b i)
  refine Eq.trans ?_ (congrFun (V_main_arg2 m c) _)
  refine congrArg (V m c main_arg2) (funext fun x => Fin.ext ?_)
  match x with
  | 0 => show win0_4.index (pt b i) 0 * 1 + 1 * 0 = 0; rw [h]; rfl
  | 1 => show win0_4.index (pt b i) 1 * 1024 + 1 * d.val = d.val; rw [h]; show 0 * 1024 + 1 * d.val = _; omega

theorem blk5 (a : Fin 1024) (d : Fin 512) : iblk m c 5 (pt b i) (ix3 0 a d)
    = m ((c.tc : Thread nD τ).loc main_arg3) (ix3 b ⟨1024 * i.val + a.val, by omega⟩ d) := by
  have h := idx5 (pt b i)
  rw [pt_div, pt_mod] at h
  refine Eq.trans ?_ (congrFun (V_main_arg3 m c) _)
  refine congrArg (V m c main_arg3) (funext fun x => Fin.ext ?_)
  match x with
  | 0 => show win0_5.index (pt b i) 0 * 1 + 1 * 0 = b.val; rw [h]; show b.val * 1 + 1 * 0 = _; omega
  | 1 => show win0_5.index (pt b i) 1 * 1024 + 1 * a.val = 1024 * i.val + a.val; rw [h]; show i.val * 1024 + 1 * a.val = _; omega
  | 2 => show win0_5.index (pt b i) 2 * 512 + 1 * d.val = d.val; rw [h]; show 0 * 512 + 1 * d.val = _; omega

theorem blk6 (a : Fin 1024) (d : Fin 512) : iblk m c 6 (pt b i) (ix3 0 a d)
    = m ((c.tc : Thread nD τ).loc main_arg4) (ix3 b ⟨1024 * i.val + a.val, by omega⟩ d) := by
  have h := idx6 (pt b i)
  rw [pt_div, pt_mod] at h
  refine Eq.trans ?_ (congrFun (V_main_arg4 m c) _)
  refine congrArg (V m c main_arg4) (funext fun x => Fin.ext ?_)
  match x with
  | 0 => show win0_6.index (pt b i) 0 * 1 + 1 * 0 = b.val; rw [h]; show b.val * 1 + 1 * 0 = _; omega
  | 1 => show win0_6.index (pt b i) 1 * 1024 + 1 * a.val = 1024 * i.val + a.val; rw [h]; show i.val * 1024 + 1 * a.val = _; omega
  | 2 => show win0_6.index (pt b i) 2 * 512 + 1 * d.val = d.val; rw [h]; show 0 * 512 + 1 * d.val = _; omega

theorem blk7 (a : Fin 1024) (d : Fin 512) : iblk m c 7 (pt b i) (ix3 0 a d)
    = m ((c.tc : Thread nD τ).loc main_arg5) (ix3 b ⟨1024 * i.val + a.val, by omega⟩ d) := by
  have h := idx7 (pt b i)
  rw [pt_div, pt_mod] at h
  refine Eq.trans ?_ (congrFun (V_main_arg5 m c) _)
  refine congrArg (V m c main_arg5) (funext fun x => Fin.ext ?_)
  match x with
  | 0 => show win0_7.index (pt b i) 0 * 1 + 1 * 0 = b.val; rw [h]; show b.val * 1 + 1 * 0 = _; omega
  | 1 => show win0_7.index (pt b i) 1 * 1024 + 1 * a.val = 1024 * i.val + a.val; rw [h]; show i.val * 1024 + 1 * a.val = _; omega
  | 2 => show win0_7.index (pt b i) 2 * 512 + 1 * d.val = d.val; rw [h]; show 0 * 512 + 1 * d.val = _; omega

theorem blk8 (k : Fin 1024) (d : Fin 2560) : iblk m c 8 (pt b i) (ix2 k d)
    = m ((c.tc : Thread nD τ).loc main_arg6) (ix2 k d) := by
  have h := idx8 (pt b i)
  refine Eq.trans ?_ (congrFun (V_main_arg6 m c) _)
  refine congrArg (V m c main_arg6) (funext fun x => Fin.ext ?_)
  match x with
  | 0 => show win0_8.index (pt b i) 0 * 1024 + 1 * k.val = k.val; rw [h]; show 0 * 1024 + 1 * k.val = _; omega
  | 1 => show win0_8.index (pt b i) 1 * 2560 + 1 * d.val = d.val; rw [h]; show 0 * 2560 + 1 * d.val = _; omega

theorem blk9 (d : Fin 128) : iblk m c 9 (pt b i) (ix2 0 d)
    = m ((c.tc : Thread nD τ).loc main_arg7) (ix2 0 d) := by
  have h := idx9 (pt b i)
  refine Eq.trans ?_ (congrFun (V_main_arg7 m c) _)
  refine congrArg (V m c main_arg7) (funext fun x => Fin.ext ?_)
  match x with
  | 0 => show win0_9.index (pt b i) 0 * 1 + 1 * 0 = 0; rw [h]; rfl
  | 1 => show win0_9.index (pt b i) 1 * 128 + 1 * d.val = d.val; rw [h]; show 0 * 128 + 1 * d.val = _; omega

theorem blk10 (k : Fin 512) (d : Fin 1024) : iblk m c 10 (pt b i) (ix2 k d)
    = m ((c.tc : Thread nD τ).loc main_arg8) (ix2 k d) := by
  have h := idx10 (pt b i)
  refine Eq.trans ?_ (congrFun (V_main_arg8 m c) _)
  refine congrArg (V m c main_arg8) (funext fun x => Fin.ext ?_)
  match x with
  | 0 => show win0_10.index (pt b i) 0 * 512 + 1 * k.val = k.val; rw [h]; show 0 * 512 + 1 * k.val = _; omega
  | 1 => show win0_10.index (pt b i) 1 * 1024 + 1 * d.val = d.val; rw [h]; show 0 * 1024 + 1 * d.val = _; omega

theorem blk11 (k : Fin 512) (d : Fin 1024) : iblk m c 11 (pt b i) (ix2 k d)
    = m ((c.tc : Thread nD τ).loc main_arg9) (ix2 k d) := by
  have h := idx11 (pt b i)
  refine Eq.trans ?_ (congrFun (V_main_arg9 m c) _)
  refine congrArg (V m c main_arg9) (funext fun x => Fin.ext ?_)
  match x with
  | 0 => show win0_11.index (pt b i) 0 * 512 + 1 * k.val = k.val; rw [h]; show 0 * 512 + 1 * k.val = _; omega
  | 1 => show win0_11.index (pt b i) 1 * 1024 + 1 * d.val = d.val; rw [h]; show 0 * 1024 + 1 * d.val = _; omega

theorem blk12 (k : Fin 1024) (d : Fin 1024) : iblk m c 12 (pt b i) (ix2 k d)
    = m ((c.tc : Thread nD τ).loc main_arg10) (ix2 k d) := by
  have h := idx12 (pt b i)
  refine Eq.trans ?_ (congrFun (V_main_arg10 m c) _)
  refine congrArg (V m c main_arg10) (funext fun x => Fin.ext ?_)
  match x with
  | 0 => show win0_12.index (pt b i) 0 * 1024 + 1 * k.val = k.val; rw [h]; show 0 * 1024 + 1 * k.val = _; omega
  | 1 => show win0_12.index (pt b i) 1 * 1024 + 1 * d.val = d.val; rw [h]; show 0 * 1024 + 1 * d.val = _; omega

/-- An entry of the output array is the entry of the block its grid point left. -/
theorem entry13 (a d : Fin 1024) :
    (dats m 0 c).arrAt 13 cfg0.N (ix3 b ⟨1024 * i.val + a.val, by omega⟩ d)
      = out0_13 (iblk m c 0 (pt b i)) (iblk m c 1 (pt b i)) (iblk m c 2 (pt b i)) (iblk m c 3 (pt b i)) (iblk m c 4 (pt b i)) (iblk m c 5 (pt b i))
          (iblk m c 6 (pt b i)) (iblk m c 7 (pt b i)) (iblk m c 8 (pt b i)) (iblk m c 9 (pt b i)) (iblk m c 10 (pt b i)) (iblk m c 11 (pt b i))
          (iblk m c 12 (pt b i)) (ix3 0 a d) := by
  have h := idx13 (pt b i)
  rw [pt_div, pt_mod] at h
  refine Eq.trans ?_ (congrFun ((Value.blocks13 m c (pt b i) (flush13 _)).trans (Value.flushed13 m c (pt b i))) (ix3 0 a d))
  refine congrArg ((dats m 0 c).arrAt 13 cfg0.N) (funext fun x => Fin.ext ?_)
  match x with
  | 0 => show b.val = win0_13.index (pt b i) 0 * 1 + 1 * 0; rw [h]; show _ = b.val * 1 + 1 * 0; omega
  | 1 => show 1024 * i.val + a.val = win0_13.index (pt b i) 1 * 1024 + 1 * a.val; rw [h]; show _ = i.val * 1024 + 1 * a.val; omega
  | 2 => show d.val = win0_13.index (pt b i) 2 * 1024 + 1 * d.val; rw [h]; show _ = 0 * 1024 + 1 * d.val; omega

end

section
variable (m : (ℓ : Loc nD τ sig) → Buf (Elt Ideal) ℓ) (c : Dev nD)

/-- **The output array**: the kernel's is the reference's result. -/
theorem arr_eq : (dats m 0 c).arrAt 13 cfg0.N = Cert.Reference2Ideal.Read.val_main_v76 (F := Ideal)
    (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) := by
  funext j
  have h0 : (j 0).val < 8 := (j 0).isLt
  have h1 : (j 1).val < 4096 := (j 1).isLt
  obtain ⟨b, t, d, rfl⟩ : ∃ (b : Fin 8) (t : Fin 4096) (d : Fin 1024), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry13 m c b ⟨t.val / 1024, by omega⟩ ⟨t.val % 1024, by omega⟩ d
  rw [out_read] at key
  simp only [blk0, blk1, blk2, blk3, blk4, blk5, blk6, blk7, blk8, blk9, blk10, blk11, blk12, e] at key
  rw [key, Ref.out_read]

end

end Cert.Mix

end
-- ==== Proof.Proj.Spec.lean ====
/-
  One row of the input projections as mathematics over the extended reals: from a row `z` of the first projection's columns,
  the queries, keys and values of the softmax attention and the log decay of the recurrence.  Two lemmas about sums and the
  log-sigmoid.
-/
module

public import proofs.«01_k».proof.Proof.Mix.Spec
public import Idealize.ShloMosaic.Lib.IdealHost

@[expose] public section

noncomputable section

namespace Cert.Proj

open Idealize.ShloMosaic Cert.Mix

/-- The 384 compressed query columns after their norm. -/
def qNorm (z : Fin 384 → EReal) (g : Fin 384 → EReal) : Fin 384 → EReal := rms (Ideal.ofBits FTy.f32 1136656384#32) z g

/-- The 256 compressed key-value columns after their norm. -/
def kvNorm (z : Fin 256 → EReal) (g : Fin 256 → EReal) : Fin 256 → EReal := rms (Ideal.ofBits FTy.f32 1132462080#32) z g

/-- A query column: a product, scaled by the position table's column of its lane. -/
def query (q : Fin 384 → EReal) (w : Fin 384 → Fin 1024 → EReal) (tab : Fin 128 → EReal) (j : Fin 1024) : EReal :=
  dotRow q w j * tab ⟨j.val % 128, by omega⟩

/-- The shared key columns turned by their position: themselves and their two rolls by eight lanes, each times its table. -/
def rot (u c s n : Fin 128 → EReal) (e : Fin 128) : EReal :=
  u e * c e + u ⟨(e.val + 8) % 128, by omega⟩ * s e + u ⟨(e.val + 120) % 128, by omega⟩ * n e

/-- A key column: the product of the normed columns and the turned columns with the two parts of the matrix. -/
def key (v : Fin 256 → EReal) (r : Fin 128 → EReal) (w : Fin 384 → Fin 1024 → EReal) (j : Fin 1024) : EReal :=
  (∑ x : Fin 256, v x * w ⟨x.val, by omega⟩ j) + ∑ x : Fin 128, r x * w ⟨256 + x.val, by omega⟩ j

/-- A value column, the matrix transposed. -/
def value (v : Fin 256 → EReal) (w : Fin 512 → Fin 256 → EReal) (r : Fin 512) : EReal := ∑ x, v x * w r x

/-- The log decay at the gate `u`: the log-sigmoid of `u` over sixteen. -/
def decay (u : EReal) : EReal :=
  (min u 0 - Ideal.log1p (Ideal.exp (-(max u (-u))))) * ((1 / 16 : ℝ) : EReal)

/-- The gate: a row of a product plus a bias. -/
def gate (u : Fin 128 → EReal) (w : Fin 128 → Fin 1024 → EReal) (b : Fin 1024 → EReal) (j : Fin 1024) : EReal := dotRow u w j + b j

/-- A token's queries from its normed row `h`: the first 384 columns, normed, through the query matrix and the table. -/
def rowQ (h : Fin 1024 → EReal) (wa : Fin 1024 → Fin 2304 → EReal) (qg : Fin 384 → EReal) (wuq : Fin 384 → Fin 1024 → EReal)
    (tab : Fin 512 → EReal) : Fin 1024 → EReal :=
  query (qNorm (fun e => dotRow h wa ⟨e.val, by omega⟩) qg) wuq (fun l => tab ⟨l.val, by omega⟩)

/-- A token's normed key-value columns. -/
def rowKV (h : Fin 1024 → EReal) (wa : Fin 1024 → Fin 2304 → EReal) (kvg : Fin 256 → EReal) : Fin 256 → EReal :=
  kvNorm (fun e => dotRow h wa ⟨512 + e.val, by omega⟩) kvg

/-- A token's keys. -/
def rowK (h : Fin 1024 → EReal) (wa : Fin 1024 → Fin 2304 → EReal) (kvg : Fin 256 → EReal) (tab : Fin 512 → EReal)
    (wk : Fin 384 → Fin 1024 → EReal) : Fin 1024 → EReal :=
  key (rowKV h wa kvg) (rot (fun e => dotRow h wa ⟨384 + e.val, by omega⟩) (fun e => tab ⟨128 + e.val, by omega⟩)
    (fun e => tab ⟨256 + e.val, by omega⟩) (fun e => tab ⟨384 + e.val, by omega⟩)) wk

/-- A token's log decays. -/
def rowG (h : Fin 1024 → EReal) (wa : Fin 1024 → Fin 2304 → EReal) (wd : Fin 128 → Fin 1024 → EReal) (bd : Fin 1024 → EReal)
    (j : Fin 1024) : EReal :=
  decay (gate (fun e => dotRow h wa ⟨384 + e.val, by omega⟩) wd bd j)

/-- A sum over 384 is the sum over the first 256 and the sum over the last 128. -/
theorem sum_split (f : Fin 384 → EReal) :
    ∑ x, f x = (∑ x : Fin 256, f ⟨x.val, by omega⟩) + ∑ x : Fin 128, f ⟨256 + x.val, by omega⟩ :=
  Fin.sum_univ_add (a := 256) (b := 128) f

theorem ofBits_sixteen : Ideal.ofBits FTy.f32 1098907648#32 = ((16 : ℝ) : EReal) := by
  simp [Ideal.ofBits, Ideal.ieee, -EReal.coe_mul]; norm_num

theorem ofBits_sixteenth : Ideal.ofBits FTy.f32 1031798784#32 = ((1 / 16 : ℝ) : EReal) := by
  simp [Ideal.ofBits, Ideal.ieee, -EReal.coe_mul]; norm_num

/-- `log (1 + exp (-|u|))` is a real number. -/
theorem log1p_exp_real (u : EReal) : ∃ r : ℝ, Ideal.log1p (Ideal.exp (-(max u (-u)))) = r := by
  have h : ∀ y : ℝ, 0 ≤ y → ∃ r : ℝ, Ideal.log1p (y : EReal) = r := by
    intro y hy
    have h1 : (1 : EReal) + (y : EReal) = ((1 + y : ℝ) : EReal) := by push_cast; rfl
    refine ⟨Real.log (1 + y), ?_⟩
    unfold Ideal.log1p
    rw [h1]
    show (if 1 + y ≤ 0 then (⊥ : EReal) else (Real.log (1 + y) : EReal)) = _
    rw [if_neg (by linarith)]
  induction u with
  | bot =>
    have e : Ideal.exp (-(max (⊥ : EReal) (-⊥))) = ((0 : ℝ) : EReal) := by rw [EReal.neg_bot, max_eq_right bot_le, EReal.neg_top]; rfl
    rw [e]
    exact h 0 le_rfl
  | top =>
    have e : Ideal.exp (-(max (⊤ : EReal) (-⊤))) = ((0 : ℝ) : EReal) := by rw [max_eq_left le_top, EReal.neg_top]; rfl
    rw [e]
    exact h 0 le_rfl
  | coe x =>
    have h1 : -(max (x : EReal) (-(x : EReal))) = ((-(max x (-x)) : ℝ) : EReal) := by
      rw [EReal.coe_neg, EReal.coe_strictMono.monotone.map_max, EReal.coe_neg]
    rw [h1]
    exact h (Real.exp (-(max x (-x)))) (Real.exp_pos _).le

/-- The softplus form of the log-sigmoid. -/
theorem decay_softplus (u : EReal) :
    Ideal.div (-(max (-u) 0 + Ideal.log1p (Ideal.exp (-(max (-u) (- -u)))))) (Ideal.ofBits FTy.f32 1098907648#32) = decay u := by
  obtain ⟨r, hr⟩ := log1p_exp_real u
  rw [ofBits_sixteen, Ideal.div_coe (by norm_num), neg_neg, max_comm (-u) u]
  unfold decay
  rw [hr, EReal.neg_add (Or.inr (EReal.coe_ne_top r)) (Or.inr (EReal.coe_ne_bot r))]
  congr 2
  have : max (-u) 0 = -(min u 0) := by
    rcases le_total u 0 with h | h
    · rw [min_eq_left h, max_eq_left (by simpa using EReal.neg_le_neg_iff.mpr h)]
    · rw [min_eq_right h, max_eq_right (by simpa using EReal.neg_le_neg_iff.mpr h), neg_zero]
  rw [this, neg_neg]

end Cert.Proj

end
-- ==== Proof.Proj.Body.lean ====
/-
  The input projections' body at an index: each output block at a row is the row function of Spec.lean of the input blocks' rows.
-/
module

public import proofs.«01_k».proof.Proof.Gen.Kernel3Ideal.Frame
public import proofs.«01_k».proof.Proof.Proj.Spec
public import Idealize.ShloMosaic.Lib.Pipeline.Value

@[expose] public section

set_option maxRecDepth 16384

noncomputable section

namespace Cert.Proj

open Idealize.ShloMosaic Idealize.ShloMosaic.TcCoe Cert.Mix
open Cert.Kernel3Ideal Cert.Kernel3Ideal.Gen

section
variable (v0 : Vec Ideal S1x1024x1024 .f32) (v2 : Vec Ideal S1x1024 .f32) (v15 v21 : Vec Ideal S1x1x1024 .f32)
  (v26 : Vec Ideal S1024x512 .bf16) (v30 : Vec Ideal S1x384 .f32) (v44 : Vec Ideal S384x1024 .bf16) (v46 : Vec Ideal S1024x128 .f32)

/-- The normalised, modulated tokens. -/
theorem pay2_read (a d : Fin 1024) : k0_pay2 v0 v2 v15 v21 (ix2 a d)
    = normed (fun d => v0 (ix3 0 a d)) (fun d => v21 (ix3 0 0 d)) (fun d => v15 (ix3 0 0 d)) (fun d => v2 (ix2 0 d)) d := by
  pointwise [k0_pay2]
  rfl

/-- The queries, for any 512 columns whose first 384 are the compressed queries. -/
def queries (a j : Fin 1024) : EReal :=
  query (qNorm (fun e => dotRow (fun d => k0_pay2 v0 v2 v15 v21 (ix2 a d)) (fun k j => v26 (ix2 k j)) ⟨e.val, by omega⟩) (fun e => v30 (ix2 0 e)))
    (fun k j => v44 (ix2 k j)) (fun l => v46 (ix2 a l)) j

theorem queries_of (a : Fin 1024) (w : Fin 128) (c : ℕ) (hc : c % 128 = 0) (hc' : c + w.val < 1024) :
    queries v0 v2 v15 v21 v26 v30 v44 v46 a ⟨c + w.val, hc'⟩
      = dotRow (qNorm (fun e => dotRow (fun d => k0_pay2 v0 v2 v15 v21 (ix2 a d)) (fun k j => v26 (ix2 k j)) ⟨e.val, by omega⟩) (fun e => v30 (ix2 0 e)))
          (fun k j => v44 (ix2 k j)) ⟨c + w.val, hc'⟩ * v46 (ix2 a w) := by
  have h : (⟨(c + w.val) % 128, by omega⟩ : Fin 128) = w := Fin.ext (by show (c + w.val) % 128 = w.val; omega)
  unfold queries query
  rw [h]

theorem q_read0 (a : Fin 1024) (w : Fin 128) : k0_pay8 (k0_pay5 v0 v2 v15 v21 v26) v30 (k0_pay6 v0 v2 v15 v21 v26) v44 v46 (ix3 0 a w)
    = queries v0 v2 v15 v21 v26 v30 v44 v46 a ⟨0 + w.val, by omega⟩ := by
  rw [queries_of _ _ _ _ _ _ _ _ a w 0 (by decide) (by omega)]
  simp only [Nat.zero_add]
  pointwise [k0_pay8, k0_pay7, k0_pay6, k0_pay5, k0_pay3]
  rfl

theorem q_read1 (a : Fin 1024) (w : Fin 128) : k0_pay9 (k0_pay5 v0 v2 v15 v21 v26) v30 (k0_pay6 v0 v2 v15 v21 v26) v44 v46 (ix3 0 a w)
    = queries v0 v2 v15 v21 v26 v30 v44 v46 a ⟨128 + w.val, by omega⟩ := by
  rw [queries_of _ _ _ _ _ _ _ _ a w 128 (by decide) (by omega)]
  pointwise [k0_pay9, k0_pay7, k0_pay6, k0_pay5, k0_pay3]
  rfl

theorem q_read2 (a : Fin 1024) (w : Fin 128) : k0_pay10 (k0_pay5 v0 v2 v15 v21 v26) v30 (k0_pay6 v0 v2 v15 v21 v26) v44 v46 (ix3 0 a w)
    = queries v0 v2 v15 v21 v26 v30 v44 v46 a ⟨256 + w.val, by omega⟩ := by
  rw [queries_of _ _ _ _ _ _ _ _ a w 256 (by decide) (by omega)]
  pointwise [k0_pay10, k0_pay7, k0_pay6, k0_pay5, k0_pay3]
  rfl

theorem q_read3 (a : Fin 1024) (w : Fin 128) : k0_pay11 (k0_pay5 v0 v2 v15 v21 v26) v30 (k0_pay6 v0 v2 v15 v21 v26) v44 v46 (ix3 0 a w)
    = queries v0 v2 v15 v21 v26 v30 v44 v46 a ⟨384 + w.val, by omega⟩ := by
  rw [queries_of _ _ _ _ _ _ _ _ a w 384 (by decide) (by omega)]
  pointwise [k0_pay11, k0_pay7, k0_pay6, k0_pay5, k0_pay3]
  rfl

theorem q_read4 (a : Fin 1024) (w : Fin 128) : k0_pay13 (k0_pay12 (k0_pay5 v0 v2 v15 v21 v26) v30 (k0_pay6 v0 v2 v15 v21 v26) v44 v46) (ix3 0 a w)
    = queries v0 v2 v15 v21 v26 v30 v44 v46 a ⟨512 + w.val, by omega⟩ := by
  rw [queries_of _ _ _ _ _ _ _ _ a w 512 (by decide) (by omega)]
  pointwise [k0_pay13, k0_pay12, k0_pay7, k0_pay6, k0_pay5, k0_pay3]
  rfl

theorem q_read5 (a : Fin 1024) (w : Fin 128) : k0_pay14 (k0_pay7 (k0_pay5 v0 v2 v15 v21 v26) v30 (k0_pay6 v0 v2 v15 v21 v26) v44) v46 (ix3 0 a w)
    = queries v0 v2 v15 v21 v26 v30 v44 v46 a ⟨640 + w.val, by omega⟩ := by
  rw [queries_of _ _ _ _ _ _ _ _ a w 640 (by decide) (by omega)]
  pointwise [k0_pay14, k0_pay7, k0_pay6, k0_pay5, k0_pay3]
  rfl

theorem q_read6 (a : Fin 1024) (w : Fin 128) : k0_pay15 (k0_pay7 (k0_pay5 v0 v2 v15 v21 v26) v30 (k0_pay6 v0 v2 v15 v21 v26) v44) v46 (ix3 0 a w)
    = queries v0 v2 v15 v21 v26 v30 v44 v46 a ⟨768 + w.val, by omega⟩ := by
  rw [queries_of _ _ _ _ _ _ _ _ a w 768 (by decide) (by omega)]
  pointwise [k0_pay15, k0_pay7, k0_pay6, k0_pay5, k0_pay3]
  rfl

theorem q_read7 (a : Fin 1024) (w : Fin 128) : k0_pay16 (k0_pay7 (k0_pay5 v0 v2 v15 v21 v26) v30 (k0_pay6 v0 v2 v15 v21 v26) v44) v46 (ix3 0 a w)
    = queries v0 v2 v15 v21 v26 v30 v44 v46 a ⟨896 + w.val, by omega⟩ := by
  rw [queries_of _ _ _ _ _ _ _ _ a w 896 (by decide) (by omega)]
  pointwise [k0_pay16, k0_pay7, k0_pay6, k0_pay5, k0_pay3]
  rfl

end

section
variable (v28 : FVec Ideal S1024x128 .f32) (v104 : FVec Ideal S1024x256 .f32) (v105 : Vec Ideal S1x256 .f32) (v119 v122 v126 : Vec Ideal S1024x128 .f32)
  (v131 : Vec Ideal S384x1024 .bf16) (v137 : Vec Ideal S512x256 .bf16) (v161 : Vec Ideal S128x1024 .bf16) (v163 : Vec Ideal S1x1024 .f32)

/-- The keys, from the compressed columns. -/
theorem k_read (a j : Fin 1024) : k0_pay20 v28 v104 v105 v119 v122 v126 v131 (ix3 0 a j)
    = key (kvNorm (fun e => v104 (ix2 a e)) (fun e => v105 (ix2 0 e)))
        (rot (fun e => v28 (ix2 a e)) (fun e => v119 (ix2 a e)) (fun e => v122 (ix2 a e)) (fun e => v126 (ix2 a e))) (fun k j => v131 (ix2 k j)) j := by
  pointwise [k0_pay20, k0_pay19]
  rfl

/-- The values of the second half of the block's tokens. -/
theorem v_read1 (r w : Fin 512) : k0_pay24 (k0_pay21 v104 v105 v137) (ix4 0 0 r w)
    = value (kvNorm (fun e => v104 (ix2 ⟨512 + w.val, by omega⟩ e)) (fun e => v105 (ix2 0 e))) (fun r k => v137 (ix2 r k)) r := by
  pointwise [k0_pay24, k0_pay21, k0_pay19]
  exact Finset.sum_congr rfl fun x _ => mul_comm _ _

/-- The values of the first half of the block's tokens. -/
theorem v_read0 (r w : Fin 512) : k0_pay23 (k0_pay22 v104 v105 v137) (ix4 0 0 r w)
    = value (kvNorm (fun e => v104 (ix2 ⟨0 + w.val, by omega⟩ e)) (fun e => v105 (ix2 0 e))) (fun r k => v137 (ix2 r k)) r := by
  simp only [Nat.zero_add]
  pointwise [k0_pay23, k0_pay22, k0_pay21, k0_pay19]
  exact Finset.sum_congr rfl fun x _ => mul_comm _ _

/-- The log decays. -/
theorem g_read (a j : Fin 1024) : k0_pay1 (k0_pay28 v28 v161 v163) (k0_pay29 v28 v161 v163) (ix3 0 a j)
    = decay (gate (fun e => v28 (ix2 a e)) (fun k j => v161 (ix2 k j)) (fun j => v163 (ix2 0 j)) j) := by
  pointwise [k0_pay1, k0_pay28, k0_pay29, k0_pay27]
  simp only [Ideal.absf_def, zero_sub]
  rw [ofBits_sixteenth]
  rfl

end

section
variable (x0 : Vec Ideal S1x1024x1024 .f32) (x1 x2 : Vec Ideal S1x1x1024 .f32) (x3 : Vec Ideal S1x1024 .f32) (x4 : Vec Ideal S1024x512 .f32)
  (x5 : Vec Ideal S1024x2304 .bf16) (x6 : Vec Ideal S1x384 .f32) (x7 : Vec Ideal S384x1024 .bf16) (x8 : Vec Ideal S1x256 .f32)
  (x9 : Vec Ideal S384x1024 .bf16) (x10 : Vec Ideal S512x256 .bf16) (x11 : Vec Ideal S128x1024 .bf16) (x12 : Vec Ideal S1x1024 .f32)

theorem zero2 : (![0, 0] : Fin 2 → ℕ) = fun _ => 0 := by funext i; fin_cases i <;> rfl
theorem zero3 : (![0, 0, 0] : Fin 3 → ℕ) = fun _ => 0 := by funext i; fin_cases i <;> rfl

/-- The normed row `a` of the token block. -/
def hRow (a : Fin 1024) : Fin 1024 → EReal :=
  normed (fun d => x0 (ix3 0 a d)) (fun d => x1 (ix3 0 0 d)) (fun d => x2 (ix3 0 0 d)) (fun d => x3 (ix2 0 d))

/-- The kernel's normed tokens are the normed rows. -/
theorem h30 (a d : Fin 1024) : k0_pay30 (F := Ideal) x0 x1 x2 x3 x4 x5 x6 x7 x8 x9 x10 x11 x12 (ix2 a d) = hRow x0 x1 x2 x3 a d := by
  unfold k0_pay30
  rw [pay2_read, View.ld_unit_zero zero3 _ x0, View.ld_unit_zero zero3 _ x1, View.ld_unit_zero zero3 _ x2, View.ld_unit_zero zero2 _ x3]
  rfl

/-- The 128 columns shared by the keys and the decay. -/
theorem h31 (a : Fin 1024) (e : Fin 128) : k0_pay31 (F := Ideal) x0 x1 x2 x3 x4 x5 x6 x7 x8 x9 x10 x11 x12 (ix2 a e)
    = dotRow (hRow x0 x1 x2 x3 a) (fun k j => x5 (ix2 k j)) ⟨384 + e.val, by omega⟩ := by
  unfold k0_pay31
  rw [View.ld_unit_zero zero3 _ x0, View.ld_unit_zero zero3 _ x1, View.ld_unit_zero zero3 _ x2, View.ld_unit_zero zero2 _ x3, View.ld_unit]
  pointwise [k0_pay4, k0_pay3]
  simp only [pay2_read]
  rfl

/-- The compressed key-value columns. -/
theorem h35 (a : Fin 1024) (e : Fin 256) : k0_pay35 (F := Ideal) x0 x1 x2 x3 x4 x5 x6 x7 x8 x9 x10 x11 x12 (ix2 a e)
    = dotRow (hRow x0 x1 x2 x3 a) (fun k j => x5 (ix2 k j)) ⟨512 + e.val, by omega⟩ := by
  unfold k0_pay35
  rw [View.ld_unit]
  pointwise [k0_pay18]
  simp only [h30]
  rfl

/-- **Queries**: a row of the block. -/
theorem q_out (a j : Fin 1024) : out0_13 (F := Ideal) x0 x1 x2 x3 x4 x5 x6 x7 x8 x9 x10 x11 x12 (ix3 0 a j)
    = rowQ (hRow x0 x1 x2 x3 a) (fun k j => x5 (ix2 k j)) (fun e => x6 (ix2 0 e)) (fun k j => x7 (ix2 k j)) (fun l => x4 (ix2 a l)) j := by
  unfold out0_13
  refine (View.canon_apply_of_pieces (fun y => queries (View.ld x0 r0_0) (View.ld x3 r0_1) (View.ld x2 r0_2) (View.ld x1 r0_2) (View.ld x5 r0_3)
    (View.ld x6 r0_4) (View.ld x7 r0_5) (View.ld x4 r0_6) (y 1) (y 2)) _ ?_ _ (cover0_13 _ _ _ _ _ _ _ _ _)).trans ?_
  · intro pc hpc
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read7 _ _ _ _ _ _ _ _ a w).trans ?_
      congr 1
      · exact Fin.ext (by show a.val = 0 + 1 * a.val; omega)
      · exact Fin.ext (by show 896 + w.val = 896 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read6 _ _ _ _ _ _ _ _ a w).trans ?_
      congr 1
      · exact Fin.ext (by show a.val = 0 + 1 * a.val; omega)
      · exact Fin.ext (by show 768 + w.val = 768 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read5 _ _ _ _ _ _ _ _ a w).trans ?_
      congr 1
      · exact Fin.ext (by show a.val = 0 + 1 * a.val; omega)
      · exact Fin.ext (by show 640 + w.val = 640 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read4 _ _ _ _ _ _ _ _ a w).trans ?_
      congr 1
      · exact Fin.ext (by show a.val = 0 + 1 * a.val; omega)
      · exact Fin.ext (by show 512 + w.val = 512 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read3 _ _ _ _ _ _ _ _ a w).trans ?_
      congr 1
      · exact Fin.ext (by show a.val = 0 + 1 * a.val; omega)
      · exact Fin.ext (by show 384 + w.val = 384 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read2 _ _ _ _ _ _ _ _ a w).trans ?_
      congr 1
      · exact Fin.ext (by show a.val = 0 + 1 * a.val; omega)
      · exact Fin.ext (by show 256 + w.val = 256 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read1 _ _ _ _ _ _ _ _ a w).trans ?_
      congr 1
      · exact Fin.ext (by show a.val = 0 + 1 * a.val; omega)
      · exact Fin.ext (by show 128 + w.val = 128 + 1 * w.val; omega)
    rcases List.mem_cons.mp hpc with rfl | hpc
    · intro x
      obtain ⟨a, w, rfl⟩ : ∃ (a : Fin 1024) (w : Fin 128), x = ix3 0 a w :=
        ⟨x 1, x 2, funext fun i => match i with | 0 => Fin.ext (by have : (x 0).val < 1 := (x 0).isLt; show (x 0).val = 0; omega) | 1 => rfl | 2 => rfl⟩
      refine (q_read0 _ _ _ _ _ _ _ _ a w).trans ?_
      congr 1
      · exact Fin.ext (by show a.val = 0 + 1 * a.val; omega)
      · exact Fin.ext (by show 0 + w.val = 0 + 1 * w.val; omega)
    nomatch hpc
  · show queries _ _ _ _ _ _ _ _ a j = _
    unfold queries rowQ
    simp only [pay2_read]
    rw [View.ld_unit_zero zero3 _ x0, View.ld_unit_zero zero3 _ x1, View.ld_unit_zero zero3 _ x2, View.ld_unit_zero zero2 _ x3,
      View.ld_unit_zero zero2 _ x6, View.ld_unit_zero zero2 _ x7, View.ld_unit, View.ld_unit]
    have e1 : ∀ (k : Fin 1024) (e : Fin 384), extractStridedSlice S1024x512 ![0, 0] x5 ⟨rfl, inb_S1024x2304_S1024x512_0_0⟩ (ix2 k ⟨e.val, by omega⟩)
        = x5 (ix2 k ⟨e.val, by omega⟩) := fun k e => by pointwise []
    have e2 : ∀ l : Fin 128, extractStridedSlice S1024x128 ![0, 0] x4 ⟨rfl, inb_S1024x512_S1024x128_0_0⟩ (ix2 a l) = x4 (ix2 a ⟨l.val, by omega⟩) :=
      fun l => by pointwise []
    unfold query dotRow
    simp only [e1, e2]
    rfl

/-- **Keys**: a row of the block. -/
theorem k_out (a j : Fin 1024) : out0_14 (F := Ideal) x0 x1 x2 x3 x4 x5 x6 x7 x8 x9 x10 x11 x12 (ix3 0 a j)
    = rowK (hRow x0 x1 x2 x3 a) (fun k j => x5 (ix2 k j)) (fun e => x8 (ix2 0 e)) (fun l => x4 (ix2 a l)) (fun k j => x9 (ix2 k j)) j := by
  unfold out0_14
  rw [View.canon_unit_zero zero3, k_read, View.ld_unit_zero zero2 _ x8, View.ld_unit_zero zero2 _ x9, View.ld_unit, View.ld_unit, View.ld_unit]
  simp only [h31, h35]
  pointwise []
  rfl

/-- **Values**: an entry of the block, the tokens in two halves and the columns first. -/
theorem v_out (u : Fin 2) (r w : Fin 512) : out0_15 (F := Ideal) x0 x1 x2 x3 x4 x5 x6 x7 x8 x9 x10 x11 x12 (ix4 0 u r w)
    = value (rowKV (hRow x0 x1 x2 x3 ⟨512 * u.val + w.val, by omega⟩) (fun k j => x5 (ix2 k j)) (fun e => x8 (ix2 0 e))) (fun r k => x10 (ix2 r k)) r := by
  unfold out0_15
  refine (View.canon_apply_of_pieces (fun y : S1x2x512x512.Idx => value (rowKV (hRow x0 x1 x2 x3 ⟨512 * (y 1).val + (y 3).val, by
      have h1 : (y 1).val < 2 := (y 1).isLt
      have h3 : (y 3).val < 512 := (y 3).isLt
      omega⟩) (fun k j => x5 (ix2 k j)) (fun e => x8 (ix2 0 e))) (fun r k => x10 (ix2 r k)) (y 2)) _ ?_ _ (cover0_15 _ _ _)).trans rfl
  rw [View.ld_unit_zero zero2 _ x8, View.ld_unit_zero zero2 _ x10]
  intro pc hpc
  rcases List.mem_cons.mp hpc with rfl | hpc
  · intro x
    obtain ⟨r, w, rfl⟩ : ∃ r w : Fin 512, x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (v_read1 _ _ _ r w).trans ?_
    simp only [h35]
    unfold rowKV
    congr 3
    · funext e
      congr 2
      exact Fin.ext (by show 512 + w.val = 512 * (1 + 1 * 0) + (0 + 1 * w.val); omega)
    · exact Fin.ext (by show r.val = 0 + 1 * r.val; omega)
  rcases List.mem_cons.mp hpc with rfl | hpc
  · intro x
    obtain ⟨r, w, rfl⟩ : ∃ r w : Fin 512, x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (v_read0 _ _ _ r w).trans ?_
    simp only [h35]
    unfold rowKV
    congr 3
    · funext e
      congr 2
      exact Fin.ext (by show 0 + w.val = 512 * (0 + 1 * 0) + (0 + 1 * w.val); omega)
    · exact Fin.ext (by show r.val = 0 + 1 * r.val; omega)
  nomatch hpc

/-- **The recurrence's queries**: a row of the block. -/
theorem gq_out (a : Fin 1024) (j : Fin 512) : out0_16 (F := Ideal) x0 x1 x2 x3 x4 x5 x6 x7 x8 x9 x10 x11 x12 (ix3 0 a j)
    = dotRow (hRow x0 x1 x2 x3 a) (fun k j => x5 (ix2 k j)) ⟨768 + j.val, by omega⟩ * Ideal.ofBits FTy.f32 1035273459#32 := by
  unfold out0_16
  rw [View.canon_unit_zero zero3, View.ld_unit]
  pointwise [k0_pay17]
  simp only [h30]
  rfl

/-- **The recurrence's keys**: a row of the block. -/
theorem gk_out (a : Fin 1024) (j : Fin 512) : out0_17 (F := Ideal) x0 x1 x2 x3 x4 x5 x6 x7 x8 x9 x10 x11 x12 (ix3 0 a j)
    = dotRow (hRow x0 x1 x2 x3 a) (fun k j => x5 (ix2 k j)) ⟨1280 + j.val, by omega⟩ := by
  unfold out0_17
  rw [View.canon_unit_zero zero3, View.ld_unit]
  pointwise [k0_pay25]
  simp only [h30]
  rfl

/-- **The recurrence's values**: a row of the block. -/
theorem gv_out (a : Fin 1024) (j : Fin 512) : out0_18 (F := Ideal) x0 x1 x2 x3 x4 x5 x6 x7 x8 x9 x10 x11 x12 (ix3 0 a j)
    = dotRow (hRow x0 x1 x2 x3 a) (fun k j => x5 (ix2 k j)) ⟨1792 + j.val, by omega⟩ := by
  unfold out0_18
  rw [View.canon_unit_zero zero3, View.ld_unit]
  pointwise [k0_pay26]
  simp only [h30]
  rfl

/-- **Log decays**: a row of the block. -/
theorem g_out (a j : Fin 1024) : out0_19 (F := Ideal) x0 x1 x2 x3 x4 x5 x6 x7 x8 x9 x10 x11 x12 (ix3 0 a j)
    = rowG (hRow x0 x1 x2 x3 a) (fun k j => x5 (ix2 k j)) (fun k j => x11 (ix2 k j)) (fun j => x12 (ix2 0 j)) j := by
  unfold out0_19
  rw [View.canon_unit_zero zero3, g_read, View.ld_unit_zero zero2 _ x11, View.ld_unit_zero zero2 _ x12]
  simp only [h31]
  rfl

end

end Cert.Proj

end
-- ==== Proof.Proj.Ref.lean ====
/-
  The reference of the input projections read at an index: a row of each result is the row function of Spec.lean.
-/
module

public import proofs.«01_k».proof.Proof.Gen.Reference3Ideal.Read
public import proofs.«01_k».proof.Proof.Proj.Spec

@[expose] public section

set_option maxRecDepth 16384

noncomputable section

namespace Cert.Proj.Ref

open Idealize.ShloMosaic Idealize.ShloMosaic.TcCoe Cert.Mix
open Cert.Reference3Ideal Cert.Reference3Ideal.Gen Cert.Reference3Ideal.Read

variable (x0 : (⟨S8x4096x1024, .f32⟩ : BufTy).Contents (Elt Ideal)) (x1 : (⟨S16x1x6144, .f32⟩ : BufTy).Contents (Elt Ideal))
  (x2 : (⟨S1x1024, .f32⟩ : BufTy).Contents (Elt Ideal)) (x3 : (⟨S4096x512, .f32⟩ : BufTy).Contents (Elt Ideal))
  (x4 : (⟨S1024x2304, .bf16⟩ : BufTy).Contents (Elt Ideal)) (x5 : (⟨S1x384, .f32⟩ : BufTy).Contents (Elt Ideal))
  (x6 : (⟨S384x1024, .bf16⟩ : BufTy).Contents (Elt Ideal)) (x7 : (⟨S1x256, .f32⟩ : BufTy).Contents (Elt Ideal))
  (x8 : (⟨S384x1024, .bf16⟩ : BufTy).Contents (Elt Ideal)) (x9 : (⟨S512x256, .bf16⟩ : BufTy).Contents (Elt Ideal))
  (x10 : (⟨S128x1024, .bf16⟩ : BufTy).Contents (Elt Ideal)) (x11 : (⟨S1x1024, .f32⟩ : BufTy).Contents (Elt Ideal))

/-- The normalised, modulated token. -/
def hRow (b : Fin 8) (t : Fin 4096) : Fin 1024 → EReal :=
  normed (fun d => x0 (ix3 b t d)) (fun d => x1 (ix3 ⟨b.val, by omega⟩ 0 ⟨d.val, by omega⟩)) (fun d => x1 (ix3 ⟨b.val, by omega⟩ 0 ⟨1024 + d.val, by omega⟩)) (fun d => x2 (ix2 0 d))

theorem h_read (b : Fin 8) (t : Fin 4096) (d : Fin 1024) : val_main_v27 (F := Ideal) x0 x1 x2 (ix3 b t d) = hRow x0 x1 x2 b t d := by
  pointwise [val_main_v27, val_main_v26, val_main_v25, val_main_v23, val_main_v19, val_main_v16, val_main_v15, val_main_v14, val_main_v13, val_main_v11, val_main_v9, val_main_v8, val_main_v7, val_main_cst, val_main_v10, val_main_cst_0, val_main_v12, val_main_cst_1, val_main_v18, val_main_v17, val_main_v22, val_main_v21, val_main_v20, val_main_cst_2, val_main_v2, val_main_v0, val_main_v24, val_main_v1]
  rfl

/-- The columns of the first projection. -/
theorem z_read (b : Fin 8) (t : Fin 4096) (j : Fin 2304) : val_main_v29 (F := Ideal) x0 x1 x2 x4 (ix3 b t j)
    = dotRow (hRow x0 x1 x2 b t) (fun k j => x4 (ix2 k j)) j := by
  pointwise [val_main_v29, val_main_v28]
  simp only [h_read]
  rfl

/-- The normed compressed queries. -/
theorem qn_read (b : Fin 8) (t : Fin 4096) (e : Fin 384) : val_main_v51 (F := Ideal) x0 x1 x2 x4 x5 (ix3 b t e)
    = qNorm (fun e => dotRow (hRow x0 x1 x2 b t) (fun k j => x4 (ix2 k j)) ⟨e.val, by omega⟩) (fun e => x5 (ix2 0 e)) e := by
  pointwise [val_main_v51, val_main_v50, val_main_v49, val_main_v46, val_main_v30, val_main_v45, val_main_v44, val_main_v43, val_main_v41, val_main_v39, val_main_v38, val_main_v37, val_main_cst_3, val_main_v40, val_main_cst_4, val_main_v42, val_main_cst_5, val_main_v48, val_main_v47]
  simp only [z_read]
  rfl

/-- **Queries**. -/
theorem q_read (b : Fin 8) (t : Fin 4096) (j : Fin 1024) : val_main_v112 (F := Ideal) x0 x1 x2 x3 x4 x5 x6 (ix3 b t j)
    = rowQ (hRow x0 x1 x2 b t) (fun k j => x4 (ix2 k j)) (fun e => x5 (ix2 0 e)) (fun k j => x6 (ix2 k j)) (fun l => x3 (ix2 t l)) j := by
  pointwise [val_main_v112, val_main_v59, val_main_v58, val_main_v54, val_main_v53, val_main_v52, val_main_v57, val_main_v56, val_main_v55, val_main_v36]
  simp only [qn_read]
  rfl

/-- The normed compressed keys and values. -/
theorem kv_read (b : Fin 8) (t : Fin 4096) (e : Fin 256) : val_main_v76 (F := Ideal) x0 x1 x2 x4 x7 (ix3 b t e)
    = rowKV (hRow x0 x1 x2 b t) (fun k j => x4 (ix2 k j)) (fun e => x7 (ix2 0 e)) e := by
  pointwise [val_main_v76, val_main_v73, val_main_v32, val_main_v72, val_main_v71, val_main_v70, val_main_v68, val_main_v66, val_main_v65, val_main_v64, val_main_cst_6, val_main_v67, val_main_cst_7, val_main_v69, val_main_cst_8, val_main_v75, val_main_v74]
  simp only [z_read]
  rfl

/-- The columns shared by the keys and the decay. -/
theorem misc_read (b : Fin 8) (t : Fin 4096) (e : Fin 128) : val_main_v31 (F := Ideal) x0 x1 x2 x4 (ix3 b t e)
    = dotRow (hRow x0 x1 x2 b t) (fun k j => x4 (ix2 k j)) ⟨384 + e.val, by omega⟩ := by
  pointwise [val_main_v31]
  simp only [z_read]

/-- The first 256 columns the key product reads. -/
theorem cat_kv (b : Fin 8) (t : Fin 4096) (e : Fin 256) : val_main_v92 (F := Ideal) x0 x1 x2 x3 x4 x7 (ix3 b t ⟨e.val, by omega⟩)
    = rowKV (hRow x0 x1 x2 b t) (fun k j => x4 (ix2 k j)) (fun e => x7 (ix2 0 e)) e := by
  pointwise [val_main_v92, val_main_v91, val_main_v90, val_main_v89, val_main_v84, val_main_v79, val_main_v78, val_main_v77, val_main_v61, val_main_v83, val_main_v80, val_main_call0_v0, val_main_call0_v1, val_main_v82, val_main_v81, val_main_v62, val_main_v88, val_main_v85, val_main_call1_v0, val_main_call1_v1, val_main_v87, val_main_v86, val_main_v63]
  exact kv_read x0 x1 x2 x4 x7 b t e

/-- The last 128 columns the key product reads. -/
theorem cat_rot (b : Fin 8) (t : Fin 4096) (e : Fin 128) : val_main_v92 (F := Ideal) x0 x1 x2 x3 x4 x7 (ix3 b t ⟨256 + e.val, by omega⟩)
    = (rot (fun e => dotRow (hRow x0 x1 x2 b t) (fun k j => x4 (ix2 k j)) ⟨384 + e.val, by omega⟩) (fun e => x3 (ix2 t ⟨128 + e.val, by omega⟩)) (fun e => x3 (ix2 t ⟨256 + e.val, by omega⟩)) (fun e => x3 (ix2 t ⟨384 + e.val, by omega⟩)) e) := by
  pointwise [val_main_v92, val_main_v91, val_main_v90, val_main_v89, val_main_v84, val_main_v79, val_main_v78, val_main_v77, val_main_v61, val_main_v83, val_main_v80, val_main_call0_v0, val_main_call0_v1, val_main_v82, val_main_v81, val_main_v62, val_main_v88, val_main_v85, val_main_call1_v0, val_main_call1_v1, val_main_v87, val_main_v86, val_main_v63]
  simp only [misc_read]
  unfold rot
  by_cases h1 : e.val < 120
  · have e1 : (⟨(e.val + 8) % 128, by omega⟩ : Fin 128) = ⟨8 + e.val, by omega⟩ := Fin.ext (by show (e.val + 8) % 128 = 8 + e.val; omega)
    rw [dif_pos h1, e1]
    by_cases h2 : e.val < 8
    · have e2 : (⟨(e.val + 120) % 128, by omega⟩ : Fin 128) = ⟨120 + e.val, by omega⟩ := Fin.ext (by show (e.val + 120) % 128 = 120 + e.val; omega)
      rw [dif_pos h2, e2]
    · have e2 : (⟨(e.val + 120) % 128, by omega⟩ : Fin 128) = ⟨e.val - 8, by omega⟩ := Fin.ext (by show (e.val + 120) % 128 = e.val - 8; omega)
      rw [dif_neg h2, e2]
  · have h2 : ¬ e.val < 8 := by omega
    have e1 : (⟨(e.val + 8) % 128, by omega⟩ : Fin 128) = ⟨e.val - 120, by omega⟩ := Fin.ext (by show (e.val + 8) % 128 = e.val - 120; omega)
    have e2 : (⟨(e.val + 120) % 128, by omega⟩ : Fin 128) = ⟨e.val - 8, by omega⟩ := Fin.ext (by show (e.val + 120) % 128 = e.val - 8; omega)
    rw [dif_neg h1, dif_neg h2, e1, e2]

/-- **Keys**. -/
theorem k_read (b : Fin 8) (t : Fin 4096) (j : Fin 1024) : val_main_v113 (F := Ideal) x0 x1 x2 x3 x4 x7 x8 (ix3 b t j)
    = rowK (hRow x0 x1 x2 b t) (fun k j => x4 (ix2 k j)) (fun e => x7 (ix2 0 e)) (fun l => x3 (ix2 t l)) (fun k j => x8 (ix2 k j)) j := by
  pointwise [val_main_v113, val_main_v94, val_main_v93]
  rw [sum_split]
  simp only [cat_kv, cat_rot]
  rfl

/-- **Values**, the tokens in tiles and the columns first. -/
theorem v_read (b : Fin 8) (u : Fin 8) (r : Fin 512) (w : Fin 512) : val_main_v114 (F := Ideal) x0 x1 x2 x4 x7 x9 (ix4 b u r w)
    = value (rowKV (hRow x0 x1 x2 b ⟨u.val * 512 + w.val, by omega⟩) (fun k j => x4 (ix2 k j)) (fun e => x7 (ix2 0 e))) (fun r k => x9 (ix2 r k)) r := by
  pointwise [val_main_v114, val_main_v101, val_main_v100, val_main_v99, val_main_v97, val_main_v96, val_main_v98, val_main_v95]
  simp only [kv_read]
  rfl

/-- **Log decays**. -/
theorem g_read (b : Fin 8) (t : Fin 4096) (j : Fin 1024) : val_main_v111 (F := Ideal) x0 x1 x2 x4 x10 x11 (ix3 b t j)
    = rowG (hRow x0 x1 x2 b t) (fun k j => x4 (ix2 k j)) (fun k j => x10 (ix2 k j)) (fun j => x11 (ix2 0 j)) j := by
  pointwise [val_main_v111, val_main_v109, val_main_call2_v1, val_main_call2_call0_v4, val_main_call2_call0_v3, val_main_call2_v0, val_main_v108, val_main_v105, val_main_v103, val_main_v102, val_main_v104, val_main_v107, val_main_v106, val_main_call2_call0_v2, val_main_call2_call0_cst, val_main_call2_call0_v6, val_main_call2_call0_v5, val_main_call2_call0_v11, val_main_call2_call0_v1, val_main_call2_call0_v0, val_main_call2_call0_v10, val_main_call2_call0_v9, val_main_call2_call0_v8, val_main_call2_call0_v7, val_main_v110, val_main_cst_9]
  simp only [misc_read]
  have key := decay_softplus (gate (fun e => dotRow (hRow x0 x1 x2 b t) (fun k j => x4 (ix2 k j)) ⟨384 + e.val, by omega⟩) (fun k j => x10 (ix2 k j)) (fun j => x11 (ix2 0 j)) j)
  rw [if_neg (not_not_intro rfl)]
  exact key

/-- **The recurrence's queries**. -/
theorem gq_read (b : Fin 8) (t : Fin 4096) (j : Fin 512) : val_main_v117 (F := Ideal) x0 x1 x2 x4 (ix3 b t j)
    = dotRow (hRow x0 x1 x2 b t) (fun k j => x4 (ix2 k j)) ⟨768 + j.val, by omega⟩ * Ideal.ofBits FTy.f32 1035273459#32 := by
  pointwise [val_main_v117, val_main_v116, val_main_v33, val_main_v115, val_main_cst_10]
  simp only [z_read]

/-- **The recurrence's keys**. -/
theorem gk_read (b : Fin 8) (t : Fin 4096) (j : Fin 512) : val_main_v118 (F := Ideal) x0 x1 x2 x4 (ix3 b t j)
    = dotRow (hRow x0 x1 x2 b t) (fun k j => x4 (ix2 k j)) ⟨1280 + j.val, by omega⟩ := by
  pointwise [val_main_v118, val_main_v34]
  simp only [z_read]

/-- **The recurrence's values**. -/
theorem gv_read (b : Fin 8) (t : Fin 4096) (j : Fin 512) : val_main_v119 (F := Ideal) x0 x1 x2 x4 (ix3 b t j)
    = dotRow (hRow x0 x1 x2 b t) (fun k j => x4 (ix2 k j)) ⟨1792 + j.val, by omega⟩ := by
  pointwise [val_main_v119, val_main_v35]
  simp only [z_read]

end Cert.Proj.Ref

end
-- ==== Proof.Proj.Main.lean ====
/-
  The input projections' output arrays on the latent tokens are the reference's results, entry by entry.
-/
module

public import proofs.«01_k».proof.Proof.Gen.Kernel3Ideal.Value
public import proofs.«01_k».proof.Proof.Proj.Body
public import proofs.«01_k».proof.Proof.Proj.Ref
public import Idealize.ShloMosaic.Lib.Pipeline.Value
public import Idealize.ShloMosaic.Lib.ValueIdxCore

@[expose] public section

set_option maxRecDepth 16384

noncomputable section

namespace Cert.Proj

open Idealize.ShloMosaic Idealize.ShloMosaic.TcCoe Idealize.SL.Sem
open Cert.Kernel3Ideal Cert.Kernel3Ideal.Gen
open Idealize.ShloMosaic.Pipeline (Dat)
open Cert.Mix Cert.Proj

/-! ## The blocks' places -/

theorem idx0 : ∀ t : Fin grid0.N, win0_0.index t = ![t.val / 4, t.val % 4, 0] := by decide +kernel
theorem idx1 : ∀ t : Fin grid0.N, win0_1.index t = ![t.val / 4, 0, 0] := by decide +kernel
theorem idx2 : ∀ t : Fin grid0.N, win0_2.index t = ![t.val / 4, 0, 1] := by decide +kernel
theorem idx3 : ∀ t : Fin grid0.N, win0_3.index t = ![0, 0] := by decide +kernel
theorem idx4 : ∀ t : Fin grid0.N, win0_4.index t = ![t.val % 4, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![t.val / 4, t.val % 4, 0] := by decide +kernel
theorem idx14 : ∀ t : Fin grid0.N, win0_14.index t = ![t.val / 4, t.val % 4, 0] := by decide +kernel
theorem idx15 : ∀ t : Fin grid0.N, win0_15.index t = ![t.val / 4, t.val % 4, 0, 0] := by decide +kernel
theorem idx16 : ∀ t : Fin grid0.N, win0_16.index t = ![t.val / 4, t.val % 4, 0] := by decide +kernel
theorem idx17 : ∀ t : Fin grid0.N, win0_17.index t = ![t.val / 4, t.val % 4, 0] := by decide +kernel
theorem idx18 : ∀ t : Fin grid0.N, win0_18.index t = ![t.val / 4, t.val % 4, 0] := by decide +kernel
theorem idx19 : ∀ t : Fin grid0.N, win0_19.index t = ![t.val / 4, t.val % 4, 0] := by decide +kernel
theorem flush13 : ∀ t : Fin grid0.N, win0_13.flush t = true := by decide +kernel
theorem flush14 : ∀ t : Fin grid0.N, win0_14.flush t = true := by decide +kernel
theorem flush15 : ∀ t : Fin grid0.N, win0_15.flush t = true := by decide +kernel
theorem flush16 : ∀ t : Fin grid0.N, win0_16.flush t = true := by decide +kernel
theorem flush17 : ∀ t : Fin grid0.N, win0_17.flush t = true := by decide +kernel
theorem flush18 : ∀ t : Fin grid0.N, win0_18.flush t = true := by decide +kernel
theorem flush19 : ∀ t : Fin grid0.N, win0_19.flush t = true := by decide +kernel

/-- The grid point of batch `b` and tile `i` of tokens. -/
def pt (b : Fin 8) (i : Fin 4) : Fin cfg0.N := ⟨4 * b.val + i.val, by show _ < 32; omega⟩

theorem pt_div (b : Fin 8) (i : Fin 4) : (pt b i).val / 4 = b.val := by show (4 * b.val + i.val) / 4 = _; omega
theorem pt_mod (b : Fin 8) (i : Fin 4) : (pt b i).val % 4 = i.val := by show (4 * b.val + i.val) % 4 = _; omega

section
variable {F : FTy → Type} [FloatOps F]
variable (m : (ℓ : Loc nD τ sig) → Buf (Elt F) ℓ) (c : Dev nD) (b : Fin 8) (i : Fin 4)

theorem blk0 (a d : Fin 1024) : iblk m c 0 (pt b i) (ix3 0 a d)
    = m ((c.tc : Thread nD τ).loc main_arg0) (ix3 b ⟨1024 * i.val + a.val, by omega⟩ d) := by
  have h := idx0 (pt b i)
  rw [pt_div, pt_mod] at h
  refine Eq.trans ?_ (congrFun (V_main_arg0 m c) _)
  refine congrArg (V m c main_arg0) (funext fun x => Fin.ext ?_)
  match x with
  | 0 => show win0_0.index (pt b i) 0 * 1 + 1 * 0 = b.val; rw [h]; show b.val * 1 + 1 * 0 = _; omega
  | 1 => show win0_0.index (pt b i) 1 * 1024 + 1 * a.val = 1024 * i.val + a.val; rw [h]; show i.val * 1024 + 1 * a.val = _; omega
  | 2 => show win0_0.index (pt b i) 2 * 1024 + 1 * d.val = d.val; rw [h]; show 0 * 1024 + 1 * d.val = _; omega

theorem blk1 (d : Fin 1024) : iblk m c 1 (pt b i) (ix3 0 0 d)
    = m ((c.tc : Thread nD τ).loc main_arg1) (ix3 ⟨b.val, by omega⟩ 0 ⟨d.val, by omega⟩) := by
  have h := idx1 (pt b i)
  rw [pt_div] at h
  refine Eq.trans ?_ (congrFun (V_main_arg1 m c) _)
  refine congrArg (V m c main_arg1) (funext fun x => Fin.ext ?_)
  match x with
  | 0 => show win0_1.index (pt b i) 0 * 1 + 1 * 0 = b.val; rw [h]; show b.val * 1 + 1 * 0 = _; omega
  | 1 => show win0_1.index (pt b i) 1 * 1 + 1 * 0 = 0; rw [h]; rfl
  | 2 => show win0_1.index (pt b i) 2 * 1024 + 1 * d.val = d.val; rw [h]; show 0 * 1024 + 1 * d.val = _; omega

theorem blk2 (d : Fin 1024) : iblk m c 2 (pt b i) (ix3 0 0 d)
    = m ((c.tc : Thread nD τ).loc main_arg1) (ix3 ⟨b.val, by omega⟩ 0 ⟨1024 + d.val, by omega⟩) := by
  have h := idx2 (pt b i)
  rw [pt_div] at h
  refine Eq.trans ?_ (congrFun (V_main_arg1 m c) _)
  refine congrArg (V m c main_arg1) (funext fun x => Fin.ext ?_)
  match x with
  | 0 => show win0_2.index (pt b i) 0 * 1 + 1 * 0 = b.val; rw [h]; show b.val * 1 + 1 * 0 = _; omega
  | 1 => show win0_2.index (pt b i) 1 * 1 + 1 * 0 = 0; rw [h]; rfl
  | 2 => show win0_2.index (pt b i) 2 * 1024 + 1 * d.val = 1024 + d.val; rw [h]; show 1 * 1024 + 1 * d.val = _; omega

theorem blk3 (d : Fin 1024) : iblk m c 3 (pt b i) (ix2 0 d)
    = m ((c.tc : Thread nD τ).loc main_arg2) (ix2 0 d) := by
  have h := idx3 (pt b i)
  refine Eq.trans ?_ (congrFun (V_main_arg2 m c) _)
  refine congrArg (V m c main_arg2) (funext fun x => Fin.ext ?_)
  match x with
  | 0 => show win0_3.index (pt b i) 0 * 1 + 1 * 0 = 0; rw [h]; rfl
  | 1 => show win0_3.index (pt b i) 1 * 1024 + 1 * d.val = d.val; rw [h]; show 0 * 1024 + 1 * d.val = _; omega

theorem blk4 (a : Fin 1024) (d : Fin 512) : iblk m c 4 (pt b i) (ix2 a d)
    = m ((c.tc : Thread nD τ).loc main_arg3) (ix2 ⟨1024 * i.val + a.val, by omega⟩ d) := by
  have h := idx4 (pt b i)
  rw [pt_mod] at h
  refine Eq.trans ?_ (congrFun (V_main_arg3 m c) _)
  refine congrArg (V m c main_arg3) (funext fun x => Fin.ext ?_)
  match x with
  | 0 => show win0_4.index (pt b i) 0 * 1024 + 1 * a.val = 1024 * i.val + a.val; rw [h]; show i.val * 1024 + 1 * a.val = _; omega
  | 1 => show win0_4.index (pt b i) 1 * 512 + 1 * d.val = d.val; rw [h]; show 0 * 512 + 1 * d.val = _; omega

theorem blk5 (r : Fin 1024) (d : Fin 2304) : iblk m c 5 (pt b i) (ix2 r d)
    = m ((c.tc : Thread nD τ).loc main_arg4) (ix2 r d) := by
  have h := idx5 (pt b i)
  refine Eq.trans ?_ (congrFun (V_main_arg4 m c) _)
  refine congrArg (V m c main_arg4) (funext fun x => Fin.ext ?_)
  match x with
  | 0 => show win0_5.index (pt b i) 0 * 1024 + 1 * r.val = r.val; rw [h]; show 0 * 1024 + 1 * r.val = _; omega
  | 1 => show win0_5.index (pt b i) 1 * 2304 + 1 * d.val = d.val; rw [h]; show 0 * 2304 + 1 * d.val = _; omega

theorem blk6 (d : Fin 384) : iblk m c 6 (pt b i) (ix2 0 d)
    = m ((c.tc : Thread nD τ).loc main_arg5) (ix2 0 d) := by
  have h := idx6 (pt b i)
  refine Eq.trans ?_ (congrFun (V_main_arg5 m c) _)
  refine congrArg (V m c main_arg5) (funext fun x => Fin.ext ?_)
  match x with
  | 0 => show win0_6.index (pt b i) 0 * 1 + 1 * 0 = 0; rw [h]; rfl
  | 1 => show win0_6.index (pt b i) 1 * 384 + 1 * d.val = d.val; rw [h]; show 0 * 384 + 1 * d.val = _; omega

theorem blk7 (r : Fin 384) (d : Fin 1024) : iblk m c 7 (pt b i) (ix2 r d)
    = m ((c.tc : Thread nD τ).loc main_arg6) (ix2 r d) := by
  have h := idx7 (pt b i)
  refine Eq.trans ?_ (congrFun (V_main_arg6 m c) _)
  refine congrArg (V m c main_arg6) (funext fun x => Fin.ext ?_)
  match x with
  | 0 => show win0_7.index (pt b i) 0 * 384 + 1 * r.val = r.val; rw [h]; show 0 * 384 + 1 * r.val = _; omega
  | 1 => show win0_7.index (pt b i) 1 * 1024 + 1 * d.val = d.val; rw [h]; show 0 * 1024 + 1 * d.val = _; omega

theorem blk8 (d : Fin 256) : iblk m c 8 (pt b i) (ix2 0 d)
    = m ((c.tc : Thread nD τ).loc main_arg7) (ix2 0 d) := by
  have h := idx8 (pt b i)
  refine Eq.trans ?_ (congrFun (V_main_arg7 m c) _)
  refine congrArg (V m c main_arg7) (funext fun x => Fin.ext ?_)
  match x with
  | 0 => show win0_8.index (pt b i) 0 * 1 + 1 * 0 = 0; rw [h]; rfl
  | 1 => show win0_8.index (pt b i) 1 * 256 + 1 * d.val = d.val; rw [h]; show 0 * 256 + 1 * d.val = _; omega

theorem blk9 (r : Fin 384) (d : Fin 1024) : iblk m c 9 (pt b i) (ix2 r d)
    = m ((c.tc : Thread nD τ).loc main_arg8) (ix2 r d) := by
  have h := idx9 (pt b i)
  refine Eq.trans ?_ (congrFun (V_main_arg8 m c) _)
  refine congrArg (V m c main_arg8) (funext fun x => Fin.ext ?_)
  match x with
  | 0 => show win0_9.index (pt b i) 0 * 384 + 1 * r.val = r.val; rw [h]; show 0 * 384 + 1 * r.val = _; omega
  | 1 => show win0_9.index (pt b i) 1 * 1024 + 1 * d.val = d.val; rw [h]; show 0 * 1024 + 1 * d.val = _; omega

theorem blk10 (r : Fin 512) (d : Fin 256) : iblk m c 10 (pt b i) (ix2 r d)
    = m ((c.tc : Thread nD τ).loc main_arg9) (ix2 r d) := by
  have h := idx10 (pt b i)
  refine Eq.trans ?_ (congrFun (V_main_arg9 m c) _)
  refine congrArg (V m c main_arg9) (funext fun x => Fin.ext ?_)
  match x with
  | 0 => show win0_10.index (pt b i) 0 * 512 + 1 * r.val = r.val; rw [h]; show 0 * 512 + 1 * r.val = _; omega
  | 1 => show win0_10.index (pt b i) 1 * 256 + 1 * d.val = d.val; rw [h]; show 0 * 256 + 1 * d.val = _; omega

theorem blk11 (r : Fin 128) (d : Fin 1024) : iblk m c 11 (pt b i) (ix2 r d)
    = m ((c.tc : Thread nD τ).loc main_arg10) (ix2 r d) := by
  have h := idx11 (pt b i)
  refine Eq.trans ?_ (congrFun (V_main_arg10 m c) _)
  refine congrArg (V m c main_arg10) (funext fun x => Fin.ext ?_)
  match x with
  | 0 => show win0_11.index (pt b i) 0 * 128 + 1 * r.val = r.val; rw [h]; show 0 * 128 + 1 * r.val = _; omega
  | 1 => show win0_11.index (pt b i) 1 * 1024 + 1 * d.val = d.val; rw [h]; show 0 * 1024 + 1 * d.val = _; omega

theorem blk12 (d : Fin 1024) : iblk m c 12 (pt b i) (ix2 0 d)
    = m ((c.tc : Thread nD τ).loc main_arg11) (ix2 0 d) := by
  have h := idx12 (pt b i)
  refine Eq.trans ?_ (congrFun (V_main_arg11 m c) _)
  refine congrArg (V m c main_arg11) (funext fun x => Fin.ext ?_)
  match x with
  | 0 => show win0_12.index (pt b i) 0 * 1 + 1 * 0 = 0; rw [h]; rfl
  | 1 => show win0_12.index (pt b i) 1 * 1024 + 1 * d.val = d.val; rw [h]; show 0 * 1024 + 1 * d.val = _; omega

/-- An entry of the output array of window 13 is the entry of the block its grid point left. -/
theorem entry13 (a : Fin 1024) (d : Fin 1024) :
    (dats m 0 c).arrAt 13 cfg0.N (ix3 b ⟨1024 * i.val + a.val, by omega⟩ d)
      = out0_13 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx13 (pt b i)
  rw [pt_div, pt_mod] at h
  refine Eq.trans ?_ (congrFun ((Value.blocks13 m c (pt b i) (flush13 _)).trans (Value.flushed13 m c (pt b i))) (ix3 0 a d))
  refine congrArg ((dats m 0 c).arrAt 13 cfg0.N) (funext fun x => Fin.ext ?_)
  match x with
  | 0 => show b.val = win0_13.index (pt b i) 0 * 1 + 1 * 0; rw [h]; show _ = b.val * 1 + 1 * 0; omega
  | 1 => show 1024 * i.val + a.val = win0_13.index (pt b i) 1 * 1024 + 1 * a.val; rw [h]; show _ = i.val * 1024 + 1 * a.val; omega
  | 2 => show d.val = win0_13.index (pt b i) 2 * 1024 + 1 * d.val; rw [h]; show _ = 0 * 1024 + 1 * d.val; omega

/-- An entry of the output array of window 14 is the entry of the block its grid point left. -/
theorem entry14 (a : Fin 1024) (d : Fin 1024) :
    (dats m 0 c).arrAt 14 cfg0.N (ix3 b ⟨1024 * i.val + a.val, by omega⟩ d)
      = out0_14 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx14 (pt b i)
  rw [pt_div, pt_mod] at h
  refine Eq.trans ?_ (congrFun ((Value.blocks14 m c (pt b i) (flush14 _)).trans (Value.flushed14 m c (pt b i))) (ix3 0 a d))
  refine congrArg ((dats m 0 c).arrAt 14 cfg0.N) (funext fun x => Fin.ext ?_)
  match x with
  | 0 => show b.val = win0_14.index (pt b i) 0 * 1 + 1 * 0; rw [h]; show _ = b.val * 1 + 1 * 0; omega
  | 1 => show 1024 * i.val + a.val = win0_14.index (pt b i) 1 * 1024 + 1 * a.val; rw [h]; show _ = i.val * 1024 + 1 * a.val; omega
  | 2 => show d.val = win0_14.index (pt b i) 2 * 1024 + 1 * d.val; rw [h]; show _ = 0 * 1024 + 1 * d.val; omega

/-- An entry of the output array of window 15 (the values' panels) is the entry of the block its grid point left. -/
theorem entry15 (u : Fin 2) (r : Fin 512) (w : Fin 512) :
    (dats m 0 c).arrAt 15 cfg0.N (ix4 b ⟨2 * i.val + u.val, by omega⟩ r w)
      = out0_15 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix4 0 u r w) := by
  have h := idx15 (pt b i)
  rw [pt_div, pt_mod] at h
  refine Eq.trans ?_ (congrFun ((Value.blocks15 m c (pt b i) (flush15 _)).trans (Value.flushed15 m c (pt b i))) (ix4 0 u r w))
  refine congrArg ((dats m 0 c).arrAt 15 cfg0.N) (funext fun x => Fin.ext ?_)
  match x with
  | 0 => show b.val = win0_15.index (pt b i) 0 * 1 + 1 * 0; rw [h]; show _ = b.val * 1 + 1 * 0; omega
  | 1 => show 2 * i.val + u.val = win0_15.index (pt b i) 1 * 2 + 1 * u.val; rw [h]; show _ = i.val * 2 + 1 * u.val; omega
  | 2 => show r.val = win0_15.index (pt b i) 2 * 512 + 1 * r.val; rw [h]; show _ = 0 * 512 + 1 * r.val; omega
  | 3 => show w.val = win0_15.index (pt b i) 3 * 512 + 1 * w.val; rw [h]; show _ = 0 * 512 + 1 * w.val; omega

/-- An entry of the output array of window 16 is the entry of the block its grid point left. -/
theorem entry16 (a : Fin 1024) (d : Fin 512) :
    (dats m 0 c).arrAt 16 cfg0.N (ix3 b ⟨1024 * i.val + a.val, by omega⟩ d)
      = out0_16 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx16 (pt b i)
  rw [pt_div, pt_mod] at h
  refine Eq.trans ?_ (congrFun ((Value.blocks16 m c (pt b i) (flush16 _)).trans (Value.flushed16 m c (pt b i))) (ix3 0 a d))
  refine congrArg ((dats m 0 c).arrAt 16 cfg0.N) (funext fun x => Fin.ext ?_)
  match x with
  | 0 => show b.val = win0_16.index (pt b i) 0 * 1 + 1 * 0; rw [h]; show _ = b.val * 1 + 1 * 0; omega
  | 1 => show 1024 * i.val + a.val = win0_16.index (pt b i) 1 * 1024 + 1 * a.val; rw [h]; show _ = i.val * 1024 + 1 * a.val; omega
  | 2 => show d.val = win0_16.index (pt b i) 2 * 512 + 1 * d.val; rw [h]; show _ = 0 * 512 + 1 * d.val; omega

/-- An entry of the output array of window 17 is the entry of the block its grid point left. -/
theorem entry17 (a : Fin 1024) (d : Fin 512) :
    (dats m 0 c).arrAt 17 cfg0.N (ix3 b ⟨1024 * i.val + a.val, by omega⟩ d)
      = out0_17 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx17 (pt b i)
  rw [pt_div, pt_mod] at h
  refine Eq.trans ?_ (congrFun ((Value.blocks17 m c (pt b i) (flush17 _)).trans (Value.flushed17 m c (pt b i))) (ix3 0 a d))
  refine congrArg ((dats m 0 c).arrAt 17 cfg0.N) (funext fun x => Fin.ext ?_)
  match x with
  | 0 => show b.val = win0_17.index (pt b i) 0 * 1 + 1 * 0; rw [h]; show _ = b.val * 1 + 1 * 0; omega
  | 1 => show 1024 * i.val + a.val = win0_17.index (pt b i) 1 * 1024 + 1 * a.val; rw [h]; show _ = i.val * 1024 + 1 * a.val; omega
  | 2 => show d.val = win0_17.index (pt b i) 2 * 512 + 1 * d.val; rw [h]; show _ = 0 * 512 + 1 * d.val; omega

/-- An entry of the output array of window 18 is the entry of the block its grid point left. -/
theorem entry18 (a : Fin 1024) (d : Fin 512) :
    (dats m 0 c).arrAt 18 cfg0.N (ix3 b ⟨1024 * i.val + a.val, by omega⟩ d)
      = out0_18 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx18 (pt b i)
  rw [pt_div, pt_mod] at h
  refine Eq.trans ?_ (congrFun ((Value.blocks18 m c (pt b i) (flush18 _)).trans (Value.flushed18 m c (pt b i))) (ix3 0 a d))
  refine congrArg ((dats m 0 c).arrAt 18 cfg0.N) (funext fun x => Fin.ext ?_)
  match x with
  | 0 => show b.val = win0_18.index (pt b i) 0 * 1 + 1 * 0; rw [h]; show _ = b.val * 1 + 1 * 0; omega
  | 1 => show 1024 * i.val + a.val = win0_18.index (pt b i) 1 * 1024 + 1 * a.val; rw [h]; show _ = i.val * 1024 + 1 * a.val; omega
  | 2 => show d.val = win0_18.index (pt b i) 2 * 512 + 1 * d.val; rw [h]; show _ = 0 * 512 + 1 * d.val; omega

/-- An entry of the output array of window 19 is the entry of the block its grid point left. -/
theorem entry19 (a : Fin 1024) (d : Fin 1024) :
    (dats m 0 c).arrAt 19 cfg0.N (ix3 b ⟨1024 * i.val + a.val, by omega⟩ d)
      = out0_19 (iblk m c 0 (pt b i)) (iblk m c 1 (pt b i)) (iblk m c 2 (pt b i)) (iblk m c 3 (pt b i)) (iblk m c 4 (pt b i)) (iblk m c 5 (pt b i)) (iblk m c 6 (pt b i)) (iblk m c 7 (pt b i)) (iblk m c 8 (pt b i)) (iblk m c 9 (pt b i)) (iblk m c 10 (pt b i)) (iblk m c 11 (pt b i)) (iblk m c 12 (pt b i))
          (ix3 0 a d) := by
  have h := idx19 (pt b i)
  rw [pt_div, pt_mod] at h
  refine Eq.trans ?_ (congrFun ((Value.blocks19 m c (pt b i) (flush19 _)).trans (Value.flushed19 m c (pt b i))) (ix3 0 a d))
  refine congrArg ((dats m 0 c).arrAt 19 cfg0.N) (funext fun x => Fin.ext ?_)
  match x with
  | 0 => show b.val = win0_19.index (pt b i) 0 * 1 + 1 * 0; rw [h]; show _ = b.val * 1 + 1 * 0; omega
  | 1 => show 1024 * i.val + a.val = win0_19.index (pt b i) 1 * 1024 + 1 * a.val; rw [h]; show _ = i.val * 1024 + 1 * a.val; omega
  | 2 => show d.val = win0_19.index (pt b i) 2 * 1024 + 1 * d.val; rw [h]; show _ = 0 * 1024 + 1 * d.val; omega

end

section
variable (m : (ℓ : Loc nD τ sig) → Buf (Elt Ideal) ℓ) (c : Dev nD)

/-- The normed and modulated row a tile reads is the reference's row of that token. -/
theorem hRow_eq (b : Fin 8) (i : Fin 4) (a : Fin 1024) :
    hRow (iblk m c 0 (pt b i)) (iblk m c 1 (pt b i)) (iblk m c 2 (pt b i)) (iblk m c 3 (pt b i)) a
      = Cert.Proj.Ref.hRow (m ((c.tc : Thread nD τ).loc main_arg0)) (m ((c.tc : Thread nD τ).loc main_arg1))
          (m ((c.tc : Thread nD τ).loc main_arg2)) b ⟨1024 * i.val + a.val, by omega⟩ := by
  unfold hRow Cert.Proj.Ref.hRow
  simp only [blk0, blk1, blk2, blk3]

/-- **The queries**: the kernel's array is the reference's result. -/
theorem q_eq : (dats m 0 c).arrAt 13 cfg0.N = Cert.Reference3Ideal.Read.val_main_v112 (F := Ideal)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext j
  have h0 : (j 0).val < 8 := (j 0).isLt
  have h1 : (j 1).val < 4096 := (j 1).isLt
  obtain ⟨b, t, d, rfl⟩ : ∃ (b : Fin 8) (t : Fin 4096) (d : Fin 1024), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry13 m c b ⟨t.val / 1024, by omega⟩ ⟨t.val % 1024, by omega⟩ d
  rw [q_out] at key
  simp only [hRow_eq, blk4, blk5, blk6, blk7, blk8, blk9, blk10, blk11, blk12, e] at key
  rw [key, Cert.Proj.Ref.q_read]

/-- **The keys**: the kernel's array is the reference's result. -/
theorem k_eq : (dats m 0 c).arrAt 14 cfg0.N = Cert.Reference3Ideal.Read.val_main_v113 (F := Ideal)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  funext j
  have h0 : (j 0).val < 8 := (j 0).isLt
  have h1 : (j 1).val < 4096 := (j 1).isLt
  obtain ⟨b, t, d, rfl⟩ : ∃ (b : Fin 8) (t : Fin 4096) (d : Fin 1024), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry14 m c b ⟨t.val / 1024, by omega⟩ ⟨t.val % 1024, by omega⟩ d
  rw [k_out] at key
  simp only [hRow_eq, blk4, blk5, blk6, blk7, blk8, blk9, blk10, blk11, blk12, e] at key
  rw [key, Cert.Proj.Ref.k_read]

/-- **The values' panels**: the kernel's array is the reference's result. -/
theorem v_eq : (dats m 0 c).arrAt 15 cfg0.N = Cert.Reference3Ideal.Read.val_main_v114 (F := Ideal)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg9)) := by
  funext j
  have h0 : (j 0).val < 8 := (j 0).isLt
  obtain ⟨b, u, r, w, rfl⟩ : ∃ (b : Fin 8) (u : Fin 8) (r : Fin 512) (w : Fin 512), j = ix4 b u r w :=
    ⟨j 0, j 1, j 2, j 3, funext fun x => match x with | 0 => rfl | 1 => rfl | 2 => rfl | 3 => rfl⟩
  have e : (⟨2 * (u.val / 2) + u.val % 2, by omega⟩ : Fin 8) = u := Fin.ext (by show 2 * (u.val / 2) + u.val % 2 = u.val; omega)
  have e' : (⟨1024 * (u.val / 2) + (512 * (u.val % 2) + w.val), by omega⟩ : Fin 4096) = ⟨u.val * 512 + w.val, by omega⟩ :=
    Fin.ext (by show 1024 * (u.val / 2) + (512 * (u.val % 2) + w.val) = u.val * 512 + w.val; omega)
  have key := entry15 m c b ⟨u.val / 2, by omega⟩ ⟨u.val % 2, by omega⟩ r w
  rw [v_out] at key
  simp only [hRow_eq, blk4, blk5, blk6, blk7, blk8, blk9, blk10, blk11, blk12, e, e'] at key
  rw [key, Cert.Proj.Ref.v_read]

/-- **The recurrence's queries**: the kernel's array is the reference's result. -/
theorem gq_eq : (dats m 0 c).arrAt 16 cfg0.N = Cert.Reference3Ideal.Read.val_main_v117 (F := Ideal)
    (m ((c.tc : Thread nD τ).loc main_arg0)) (m ((c.tc : Thread nD τ).loc main_arg1)) (m ((c.tc : Thread nD τ).loc main_arg2)) (m ((c.tc : Thread nD τ).loc main_arg4)) := by
  funext j
  have h0 : (j 0).val < 8 := (j 0).isLt
  have h1 : (j 1).val < 4096 := (j 1).isLt
  obtain ⟨b, t, d, rfl⟩ : ∃ (b : Fin 8) (t : Fin 4096) (d : Fin 512), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry16 m c b ⟨t.val / 1024, by omega⟩ ⟨t.val % 1024, by omega⟩ d
  rw [gq_out] at key
  simp only [hRow_eq, blk4, blk5, blk6, blk7, blk8, blk9, blk10, blk11, blk12, e] at key
  rw [key, Cert.Proj.Ref.gq_read]

/-- **The recurrence's keys**: the kernel's array is the reference's result. -/
theorem gk_eq : (dats m 0 c).arrAt 17 cfg0.N = Cert.Reference3Ideal.Read.val_main_v118 (F := Ideal)
    (m ((c.tc : Thread nD τ).loc main_arg0)) (m ((c.tc : Thread nD τ).loc main_arg1)) (m ((c.tc : Thread nD τ).loc main_arg2)) (m ((c.tc : Thread nD τ).loc main_arg4)) := by
  funext j
  have h0 : (j 0).val < 8 := (j 0).isLt
  have h1 : (j 1).val < 4096 := (j 1).isLt
  obtain ⟨b, t, d, rfl⟩ : ∃ (b : Fin 8) (t : Fin 4096) (d : Fin 512), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry17 m c b ⟨t.val / 1024, by omega⟩ ⟨t.val % 1024, by omega⟩ d
  rw [gk_out] at key
  simp only [hRow_eq, blk4, blk5, blk6, blk7, blk8, blk9, blk10, blk11, blk12, e] at key
  rw [key, Cert.Proj.Ref.gk_read]

/-- **The recurrence's values**: the kernel's array is the reference's result. -/
theorem gv_eq : (dats m 0 c).arrAt 18 cfg0.N = Cert.Reference3Ideal.Read.val_main_v119 (F := Ideal)
    (m ((c.tc : Thread nD τ).loc main_arg0)) (m ((c.tc : Thread nD τ).loc main_arg1)) (m ((c.tc : Thread nD τ).loc main_arg2)) (m ((c.tc : Thread nD τ).loc main_arg4)) := by
  funext j
  have h0 : (j 0).val < 8 := (j 0).isLt
  have h1 : (j 1).val < 4096 := (j 1).isLt
  obtain ⟨b, t, d, rfl⟩ : ∃ (b : Fin 8) (t : Fin 4096) (d : Fin 512), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry18 m c b ⟨t.val / 1024, by omega⟩ ⟨t.val % 1024, by omega⟩ d
  rw [gv_out] at key
  simp only [hRow_eq, blk4, blk5, blk6, blk7, blk8, blk9, blk10, blk11, blk12, e] at key
  rw [key, Cert.Proj.Ref.gv_read]

/-- **The log decays**: the kernel's array is the reference's result. -/
theorem g_eq : (dats m 0 c).arrAt 19 cfg0.N = Cert.Reference3Ideal.Read.val_main_v111 (F := Ideal)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg10)) (m ((c.tc : Thread nD τ).loc main_arg11)) := by
  funext j
  have h0 : (j 0).val < 8 := (j 0).isLt
  have h1 : (j 1).val < 4096 := (j 1).isLt
  obtain ⟨b, t, d, rfl⟩ : ∃ (b : Fin 8) (t : Fin 4096) (d : Fin 1024), j = ix3 b t d :=
    ⟨j 0, j 1, j 2, funext fun x => match x with | 0 => rfl | 1 => rfl | 2 => rfl⟩
  have e : (⟨1024 * (t.val / 1024) + t.val % 1024, by omega⟩ : Fin 4096) = t := Fin.ext (by show 1024 * (t.val / 1024) + t.val % 1024 = t.val; omega)
  have key := entry19 m c b ⟨t.val / 1024, by omega⟩ ⟨t.val % 1024, by omega⟩ d
  rw [g_out] at key
  simp only [hRow_eq, blk4, blk5, blk6, blk7, blk8, blk9, blk10, blk11, blk12, e] at key
  rw [key, Cert.Proj.Ref.g_read]

end

end Cert.Proj

end
-- ==== Proof.Proj.BodyCtx.lean ====
/-
  The input projections' body without the queries, as the context's call runs it, at an index: each output block at a row is the row function of Spec.lean of the input blocks' rows.
-/
module

public import proofs.«01_k».proof.Proof.Gen.Kernel4Ideal.Frame
public import proofs.«01_k».proof.Proof.Proj.Spec
public import Idealize.ShloMosaic.Lib.Pipeline.Value

@[expose] public section

set_option maxRecDepth 16384

noncomputable section

namespace Cert.ProjCtx

open Idealize.ShloMosaic Idealize.ShloMosaic.TcCoe Cert.Mix Cert.Proj
open Cert.Kernel4Ideal Cert.Kernel4Ideal.Gen

section
variable (v0 : Vec Ideal S1x1024x1024 .f32) (v2 : Vec Ideal S1x1024 .f32) (v15 v21 : Vec Ideal S1x1x1024 .f32)

/-- The normalised, modulated tokens. -/
theorem pay2_read (a d : Fin 1024) : k0_pay2 v0 v2 v15 v21 (ix2 a d)
    = normed (fun d => v0 (ix3 0 a d)) (fun d => v21 (ix3 0 0 d)) (fun d => v15 (ix3 0 0 d)) (fun d => v2 (ix2 0 d)) d := by
  pointwise [k0_pay2]
  rfl

end

section
variable (v25 : FVec Ideal S1024x1024 .bf16) (v0 : Vec Ideal S1x1024x1024 .f32) (v2 : Vec Ideal S1x1024 .f32) (v15 v21 : Vec Ideal S1x1x1024 .f32)
  (v26 : Vec Ideal S1024x256 .bf16) (v28 : Vec Ideal S1x256 .f32) (v42 : Vec Ideal S1024x128 .bf16) (v44 v47 v51 : Vec Ideal S1024x128 .f32)
  (v56 : Vec Ideal S384x1024 .bf16) (v62 : Vec Ideal S512x256 .bf16) (v94 : Vec Ideal S128x1024 .bf16) (v96 : Vec Ideal S1x1024 .f32)

/-- The normed compressed columns, for any 256 columns. -/
theorem kv_read (a : Fin 1024) (e : Fin 256) : k0_pay6 (k0_pay3 v0 v2 v15 v21 v26) v28 (k0_pay4 v0 v2 v15 v21 v26) (k0_pay5 (F := Ideal)) (ix2 a e)
    = kvNorm (dotRow (fun d => k0_pay2 v0 v2 v15 v21 (ix2 a d)) (fun k j => v26 (ix2 k j))) (fun e => v28 (ix2 0 e)) e := by
  pointwise [k0_pay6, k0_pay5, k0_pay4, k0_pay3]
  rfl

/-- The keys. -/
theorem k_read (a j : Fin 1024) : k0_pay8 v25 (k0_pay3 v0 v2 v15 v21 v26) v28 (k0_pay4 v0 v2 v15 v21 v26) (k0_pay5 (F := Ideal)) v42 v44 v47 v51 v56 (ix3 0 a j)
    = key (kvNorm (dotRow (fun d => k0_pay2 v0 v2 v15 v21 (ix2 a d)) (fun k j => v26 (ix2 k j))) (fun e => v28 (ix2 0 e)))
        (rot (dotRow (fun d => v25 (ix2 a d)) (fun k j => v42 (ix2 k j))) (fun e => v44 (ix2 a e)) (fun e => v47 (ix2 a e)) (fun e => v51 (ix2 a e)))
        (fun k j => v56 (ix2 k j)) j := by
  pointwise [k0_pay8, k0_pay7]
  simp only [kv_read]
  rfl

/-- The values, the columns first. -/
theorem v64_read (r : Fin 512) (w : Fin 1024) : k0_pay9 (k0_pay3 v0 v2 v15 v21 v26) v28 (k0_pay4 v0 v2 v15 v21 v26) (k0_pay5 (F := Ideal)) v62 (ix2 r w)
    = value (kvNorm (dotRow (fun d => k0_pay2 v0 v2 v15 v21 (ix2 w d)) (fun k j => v26 (ix2 k j))) (fun e => v28 (ix2 0 e))) (fun r k => v62 (ix2 r k)) r := by
  pointwise [k0_pay9]
  simp only [kv_read]
  exact Finset.sum_congr rfl fun x _ => mul_comm _ _

/-- The log decays. -/
theorem g_read (a j : Fin 1024) : k0_pay1 (k0_pay16 (k0_pay7 v25 v42) v94) v96 (ix3 0 a j)
    = decay (gate (dotRow (fun d => v25 (ix2 a d)) (fun k j => v42 (ix2 k j))) (fun k j => v94 (ix2 k j)) (fun j => v96 (ix2 0 j)) j) := by
  pointwise [k0_pay1, k0_pay16, k0_pay7]
  simp only [Ideal.absf_def, zero_sub]
  rw [ofBits_sixteenth]
  rfl

end

section
variable (x0 : Vec Ideal S1x1024x1024 .f32) (x1 x2 : Vec Ideal S1x1x1024 .f32) (x3 : Vec Ideal S1x1024 .f32) (x4 : Vec Ideal S1024x512 .f32)
  (x5 : Vec Ideal S1024x2304 .bf16) (x6 : Vec Ideal S1x384 .f32) (x7 : Vec Ideal S384x1024 .bf16) (x8 : Vec Ideal S1x256 .f32)
  (x9 : Vec Ideal S384x1024 .bf16) (x10 : Vec Ideal S512x256 .bf16) (x11 : Vec Ideal S128x1024 .bf16) (x12 : Vec Ideal S1x1024 .f32)

theorem zero2 : (![0, 0] : Fin 2 → ℕ) = fun _ => 0 := by funext i; fin_cases i <;> rfl
theorem zero3 : (![0, 0, 0] : Fin 3 → ℕ) = fun _ => 0 := by funext i; fin_cases i <;> rfl

/-- The normed row `a` of the token block. -/
def hRow (a : Fin 1024) : Fin 1024 → EReal :=
  normed (fun d => x0 (ix3 0 a d)) (fun d => x1 (ix3 0 0 d)) (fun d => x2 (ix3 0 0 d)) (fun d => x3 (ix2 0 d))

/-- The kernel's normed tokens are the normed rows. -/
theorem h17 (a d : Fin 1024) : k0_pay17 (F := Ideal) x0 x1 x2 x3 x4 x5 x6 x7 x8 x9 x10 x11 x12 (ix2 a d) = hRow x0 x1 x2 x3 a d := by
  unfold k0_pay17
  rw [pay2_read, View.ld_unit_zero zero3 _ x0, View.ld_unit_zero zero3 _ x1, View.ld_unit_zero zero3 _ x2, View.ld_unit_zero zero2 _ x3]
  rfl

/-- The 256 columns of the first projection that are the compressed keys and values. -/
theorem cols512 (k : Fin 1024) (e : Fin 256) : extractStridedSlice S1024x256 ![0, 512] x5 ⟨rfl, inb_S1024x2304_S1024x256_0_512⟩ (ix2 k e)
    = x5 (ix2 k ⟨512 + e.val, by omega⟩) := by
  pointwise []

/-- The 128 columns shared by the keys and the decay. -/
theorem cols384 (k : Fin 1024) (e : Fin 128) : extractStridedSlice S1024x128 ![0, 384] x5 ⟨rfl, inb_S1024x2304_S1024x128_0_384⟩ (ix2 k e)
    = x5 (ix2 k ⟨384 + e.val, by omega⟩) := by
  pointwise []

/-- **Keys**: a row of the block. -/
theorem k_out (a j : Fin 1024) : out0_13 (F := Ideal) x0 x1 x2 x3 x4 x5 x6 x7 x8 x9 x10 x11 x12 (ix3 0 a j)
    = rowK (hRow x0 x1 x2 x3 a) (fun k j => x5 (ix2 k j)) (fun e => x8 (ix2 0 e)) (fun l => x4 (ix2 a l)) (fun k j => x9 (ix2 k j)) j := by
  unfold out0_13 k0_pay18 k0_pay19 k0_pay20
  rw [View.canon_unit_zero zero3, k_read, View.ld_unit_zero zero2 _ x8, View.ld_unit_zero zero2 _ x9]
  simp only [h17, pay2_read]
  rw [View.ld_unit_zero zero3 _ x0, View.ld_unit_zero zero3 _ x1, View.ld_unit_zero zero3 _ x2, View.ld_unit_zero zero2 _ x3,
    View.ld_unit, View.ld_unit, View.ld_unit, View.ld_unit, View.ld_unit]
  unfold dotRow
  simp only [cols512 x5, cols384 x5]
  have e1 : ∀ e : Fin 128, extractStridedSlice S1024x128 ![0, 128] x4 ⟨rfl, inb_S1024x512_S1024x128_0_128⟩ (ix2 a e) = x4 (ix2 a ⟨128 + e.val, by omega⟩) :=
    fun e => by pointwise []
  have e2 : ∀ e : Fin 128, extractStridedSlice S1024x128 ![0, 256] x4 ⟨rfl, inb_S1024x512_S1024x128_0_256⟩ (ix2 a e) = x4 (ix2 a ⟨256 + e.val, by omega⟩) :=
    fun e => by pointwise []
  have e3 : ∀ e : Fin 128, extractStridedSlice S1024x128 ![0, 384] x4 ⟨rfl, inb_S1024x512_S1024x128_0_384⟩ (ix2 a e) = x4 (ix2 a ⟨384 + e.val, by omega⟩) :=
    fun e => by pointwise []
  simp only [e1, e2, e3]
  rfl

/-- The block's values, the columns first. -/
theorem v21_read (r : Fin 512) (w : Fin 1024) : k0_pay21 (F := Ideal) x0 x1 x2 x3 x4 x5 x6 x7 x8 x9 x10 x11 x12 (ix2 r w)
    = value (rowKV (hRow x0 x1 x2 x3 w) (fun k j => x5 (ix2 k j)) (fun e => x8 (ix2 0 e))) (fun r k => x10 (ix2 r k)) r := by
  unfold k0_pay21 k0_pay18 k0_pay19 k0_pay20
  rw [v64_read, View.ld_unit_zero zero2 _ x8, View.ld_unit_zero zero2 _ x10]
  simp only [pay2_read]
  rw [View.ld_unit_zero zero3 _ x0, View.ld_unit_zero zero3 _ x1, View.ld_unit_zero zero3 _ x2, View.ld_unit_zero zero2 _ x3, View.ld_unit]
  unfold dotRow
  simp only [cols512 x5]
  rfl

/-- **Values**: an entry of the block, the tokens in quarters and the columns first. -/
theorem v_out (u : Fin 4) (r : Fin 512) (w : Fin 256) : out0_14 (F := Ideal) x0 x1 x2 x3 x4 x5 x6 x7 x8 x9 x10 x11 x12 (ix4 0 u r w)
    = value (rowKV (hRow x0 x1 x2 x3 ⟨256 * u.val + w.val, by omega⟩) (fun k j => x5 (ix2 k j)) (fun e => x8 (ix2 0 e))) (fun r k => x10 (ix2 r k)) r := by
  unfold out0_14
  refine (View.canon_apply_of_pieces (fun y : S1x4x512x256.Idx => value (rowKV (hRow x0 x1 x2 x3 ⟨256 * (y 1).val + (y 3).val, by
      have h1 : (y 1).val < 4 := (y 1).isLt
      have h3 : (y 3).val < 256 := (y 3).isLt
      omega⟩) (fun k j => x5 (ix2 k j)) (fun e => x8 (ix2 0 e))) (fun r k => x10 (ix2 r k)) (y 2)) _ ?_ _ (cover0_14 _ _ _ _ _)).trans rfl
  intro pc hpc
  rcases List.mem_cons.mp hpc with rfl | hpc
  · intro x
    obtain ⟨r, w, rfl⟩ : ∃ (r : Fin 512) (w : Fin 256), x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (show _ = k0_pay21 (F := Ideal) x0 x1 x2 x3 x4 x5 x6 x7 x8 x9 x10 x11 x12 (ix2 r ⟨768 + w.val, by omega⟩) from by pointwise [k0_pay13]).trans ?_
    rw [v21_read]
    congr 3
    · exact Fin.ext (by show 768 + w.val = 256 * (3 + 1 * 0) + (0 + 1 * w.val); omega)
    · exact Fin.ext (by show r.val = 0 + 1 * r.val; omega)
  rcases List.mem_cons.mp hpc with rfl | hpc
  · intro x
    obtain ⟨r, w, rfl⟩ : ∃ (r : Fin 512) (w : Fin 256), x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (show _ = k0_pay21 (F := Ideal) x0 x1 x2 x3 x4 x5 x6 x7 x8 x9 x10 x11 x12 (ix2 r ⟨512 + w.val, by omega⟩) from by pointwise [k0_pay12]).trans ?_
    rw [v21_read]
    congr 3
    · exact Fin.ext (by show 512 + w.val = 256 * (2 + 1 * 0) + (0 + 1 * w.val); omega)
    · exact Fin.ext (by show r.val = 0 + 1 * r.val; omega)
  rcases List.mem_cons.mp hpc with rfl | hpc
  · intro x
    obtain ⟨r, w, rfl⟩ : ∃ (r : Fin 512) (w : Fin 256), x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (show _ = k0_pay21 (F := Ideal) x0 x1 x2 x3 x4 x5 x6 x7 x8 x9 x10 x11 x12 (ix2 r ⟨256 + w.val, by omega⟩) from by pointwise [k0_pay11]).trans ?_
    rw [v21_read]
    congr 3
    · exact Fin.ext (by show 256 + w.val = 256 * (1 + 1 * 0) + (0 + 1 * w.val); omega)
    · exact Fin.ext (by show r.val = 0 + 1 * r.val; omega)
  rcases List.mem_cons.mp hpc with rfl | hpc
  · intro x
    obtain ⟨r, w, rfl⟩ : ∃ (r : Fin 512) (w : Fin 256), x = ix4 0 0 r w :=
      ⟨x 2, x 3, funext fun i => match i with
        | 0 => Fin.ext (by have : (x 0).val < 1 := (x 0).isLt; show (x 0).val = 0; omega)
        | 1 => Fin.ext (by have : (x 1).val < 1 := (x 1).isLt; show (x 1).val = 0; omega)
        | 2 => rfl | 3 => rfl⟩
    refine (show _ = k0_pay21 (F := Ideal) x0 x1 x2 x3 x4 x5 x6 x7 x8 x9 x10 x11 x12 (ix2 r ⟨0 + w.val, by omega⟩) from by
      simp only [Nat.zero_add]
      unfold k0_pay21
      pointwise [k0_pay10]).trans ?_
    rw [v21_read]
    congr 3
    · exact Fin.ext (by show 0 + w.val = 256 * (0 + 1 * 0) + (0 + 1 * w.val); omega)
    · exact Fin.ext (by show r.val = 0 + 1 * r.val; omega)
  nomatch hpc

/-- **The recurrence's keys**: a row of the block. -/
theorem gk_out (a : Fin 1024) (j : Fin 512) : out0_15 (F := Ideal) x0 x1 x2 x3 x4 x5 x6 x7 x8 x9 x10 x11 x12 (ix3 0 a j)
    = dotRow (hRow x0 x1 x2 x3 a) (fun k j => x5 (ix2 k j)) ⟨1280 + j.val, by omega⟩ := by
  unfold out0_15
  rw [View.canon_unit_zero zero3, View.ld_unit]
  pointwise [k0_pay14]
  simp only [h17]
  rfl

/-- **The recurrence's values**: a row of the block. -/
theorem gv_out (a : Fin 1024) (j : Fin 512) : out0_16 (F := Ideal) x0 x1 x2 x3 x4 x5 x6 x7 x8 x9 x10 x11 x12 (ix3 0 a j)
    = dotRow (hRow x0 x1 x2 x3 a) (fun k j => x5 (ix2 k j)) ⟨1792 + j.val, by omega⟩ := by
  unfold out0_16
  rw [View.canon_unit_zero zero3, View.ld_unit]
  pointwise [k0_pay15]
  simp only [h17]
  rfl

/-- **Log decays**: a row of the block. -/
theorem g_out (a j : Fin 1024) : out0_17 (F := Ideal) x0 x1 x2 x3 x4 x5 x6 x7 x8 x9 x10 x11 x12 (ix3 0 a j)
    = rowG (hRow x0 x1 x2 x3 a) (fun k j => x5 (ix2 k j)) (fun k j => x11 (ix2 k j)) (fun j => x12 (ix2 0 j)) j := by
  unfold out0_17
  rw [View.canon_unit_zero zero3, g_read, View.ld_unit_zero zero2 _ x11, View.ld_unit_zero zero2 _ x12, View.ld_unit]
  unfold dotRow
  simp only [h17, cols384 x5]
  rfl

end

end Cert.ProjCtx

end
-- ==== Proof.Proj.RefCtx.lean ====
/-
  The reference of the input projections of the context read at an index: a row of each result is the row function of Spec.lean.
-/
module

public import proofs.«01_k».proof.Proof.Gen.Reference4Ideal.Read
public import proofs.«01_k».proof.Proof.Proj.Spec

@[expose] public section

set_option maxRecDepth 16384

noncomputable section

namespace Cert.Proj.RefCtx

open Idealize.ShloMosaic Idealize.ShloMosaic.TcCoe Cert.Mix
open Cert.Reference4Ideal Cert.Reference4Ideal.Gen Cert.Reference4Ideal.Read

variable (x0 : (⟨S1x2048x1024, .f32⟩ : BufTy).Contents (Elt Ideal)) (x1 : (⟨S16x1x6144, .f32⟩ : BufTy).Contents (Elt Ideal))
  (x2 : (⟨S1x1024, .f32⟩ : BufTy).Contents (Elt Ideal)) (x3 : (⟨S2048x512, .f32⟩ : BufTy).Contents (Elt Ideal))
  (x4 : (⟨S1024x2304, .bf16⟩ : BufTy).Contents (Elt Ideal)) (x7 : (⟨S1x256, .f32⟩ : BufTy).Contents (Elt Ideal))
  (x8 : (⟨S384x1024, .bf16⟩ : BufTy).Contents (Elt Ideal)) (x9 : (⟨S512x256, .bf16⟩ : BufTy).Contents (Elt Ideal))
  (x10 : (⟨S128x1024, .bf16⟩ : BufTy).Contents (Elt Ideal)) (x11 : (⟨S1x1024, .f32⟩ : BufTy).Contents (Elt Ideal))

/-- The normalised, modulated token. -/
def hRow (t : Fin 2048) : Fin 1024 → EReal :=
  normed (fun d => x0 (ix3 0 t d)) (fun d => x1 (ix3 8 0 ⟨d.val, by omega⟩)) (fun d => x1 (ix3 8 0 ⟨1024 + d.val, by omega⟩)) (fun d => x2 (ix2 0 d))

theorem h_read (t : Fin 2048) (d : Fin 1024) : val_main_v27 (F := Ideal) x0 x1 x2 (ix3 0 t d) = hRow x0 x1 x2 t d := by
  pointwise [val_main_v27, val_main_v26, val_main_v25, val_main_v23, val_main_v19, val_main_v16, val_main_v15, val_main_v14, val_main_v13, val_main_v11, val_main_v9, val_main_v8, val_main_v7, val_main_cst, val_main_v10, val_main_cst_0, val_main_v12, val_main_cst_1, val_main_v18, val_main_v17, val_main_v22, val_main_v21, val_main_v20, val_main_cst_2, val_main_v2, val_main_v0, val_main_v24, val_main_v1]
  rfl

/-- The columns of the first projection. -/
theorem z_read (t : Fin 2048) (j : Fin 2304) : val_main_v29 (F := Ideal) x0 x1 x2 x4 (ix3 0 t j)
    = dotRow (hRow x0 x1 x2 t) (fun k j => x4 (ix2 k j)) j := by
  pointwise [val_main_v29, val_main_v28]
  simp only [h_read]
  rfl

/-- The normed compressed keys and values. -/
theorem kv_read (t : Fin 2048) (e : Fin 256) : val_main_v52 (F := Ideal) x0 x1 x2 x4 x7 (ix3 0 t e)
    = rowKV (hRow x0 x1 x2 t) (fun k j => x4 (ix2 k j)) (fun e => x7 (ix2 0 e)) e := by
  pointwise [val_main_v52, val_main_v49, val_main_v32, val_main_v48, val_main_v47, val_main_v46, val_main_v44, val_main_v42, val_main_v41, val_main_v40, val_main_cst_3, val_main_v43, val_main_cst_4, val_main_v45, val_main_cst_5, val_main_v51, val_main_v50]
  simp only [z_read]
  rfl

/-- The columns shared by the keys and the decay. -/
theorem misc_read (t : Fin 2048) (e : Fin 128) : val_main_v31 (F := Ideal) x0 x1 x2 x4 (ix3 0 t e)
    = dotRow (hRow x0 x1 x2 t) (fun k j => x4 (ix2 k j)) ⟨384 + e.val, by omega⟩ := by
  pointwise [val_main_v31]
  simp only [z_read]

/-- The first 256 columns the key product reads. -/
theorem cat_kv (t : Fin 2048) (e : Fin 256) : val_main_v65 (F := Ideal) x0 x1 x2 x3 x4 x7 (ix3 0 t ⟨e.val, by omega⟩)
    = rowKV (hRow x0 x1 x2 t) (fun k j => x4 (ix2 k j)) (fun e => x7 (ix2 0 e)) e := by
  pointwise [val_main_v65, val_main_v64, val_main_v63, val_main_v62, val_main_v58, val_main_v54, val_main_v53, val_main_v37, val_main_v57, val_main_v55, val_main_call0_v0, val_main_call0_v1, val_main_v56, val_main_v38, val_main_v61, val_main_v59, val_main_call1_v0, val_main_call1_v1, val_main_v60, val_main_v39]
  exact kv_read x0 x1 x2 x4 x7 t e

/-- The last 128 columns the key product reads. -/
theorem cat_rot (t : Fin 2048) (e : Fin 128) : val_main_v65 (F := Ideal) x0 x1 x2 x3 x4 x7 (ix3 0 t ⟨256 + e.val, by omega⟩)
    = (rot (fun e => dotRow (hRow x0 x1 x2 t) (fun k j => x4 (ix2 k j)) ⟨384 + e.val, by omega⟩) (fun e => x3 (ix2 t ⟨128 + e.val, by omega⟩)) (fun e => x3 (ix2 t ⟨256 + e.val, by omega⟩)) (fun e => x3 (ix2 t ⟨384 + e.val, by omega⟩)) e) := by
  pointwise [val_main_v65, val_main_v64, val_main_v63, val_main_v62, val_main_v58, val_main_v54, val_main_v53, val_main_v37, val_main_v57, val_main_v55, val_main_call0_v0, val_main_call0_v1, val_main_v56, val_main_v38, val_main_v61, val_main_v59, val_main_call1_v0, val_main_call1_v1, val_main_v60, val_main_v39]
  simp only [misc_read]
  unfold rot
  by_cases h1 : e.val < 120
  · have e1 : (⟨(e.val + 8) % 128, by omega⟩ : Fin 128) = ⟨8 + e.val, by omega⟩ := Fin.ext (by show (e.val + 8) % 128 = 8 + e.val; omega)
    rw [dif_pos h1, e1]
    by_cases h2 : e.val < 8
    · have e2 : (⟨(e.val + 120) % 128, by omega⟩ : Fin 128) = ⟨120 + e.val, by omega⟩ := Fin.ext (by show (e.val + 120) % 128 = 120 + e.val; omega)
      rw [dif_pos h2, e2]
    · have e2 : (⟨(e.val + 120) % 128, by omega⟩ : Fin 128) = ⟨e.val - 8, by omega⟩ := Fin.ext (by show (e.val + 120) % 128 = e.val - 8; omega)
      rw [dif_neg h2, e2]
  · have h2 : ¬ e.val < 8 := by omega
    have e1 : (⟨(e.val + 8) % 128, by omega⟩ : Fin 128) = ⟨e.val - 120, by omega⟩ := Fin.ext (by show (e.val + 8) % 128 = e.val - 120; omega)
    have e2 : (⟨(e.val + 120) % 128, by omega⟩ : Fin 128) = ⟨e.val - 8, by omega⟩ := Fin.ext (by show (e.val + 120) % 128 = e.val - 8; omega)
    rw [dif_neg h1, dif_neg h2, e1, e2]

/-- **Keys**. -/
theorem k_read (t : Fin 2048) (j : Fin 1024) : val_main_v85 (F := Ideal) x0 x1 x2 x3 x4 x7 x8 (ix3 0 t j)
    = rowK (hRow x0 x1 x2 t) (fun k j => x4 (ix2 k j)) (fun e => x7 (ix2 0 e)) (fun l => x3 (ix2 t l)) (fun k j => x8 (ix2 k j)) j := by
  pointwise [val_main_v85, val_main_v67, val_main_v66]
  rw [sum_split]
  simp only [cat_kv, cat_rot]
  rfl

/-- **Values**, the tokens in tiles and the columns first. -/
theorem v_read (u : Fin 8) (r : Fin 512) (w : Fin 256) : val_main_v86 (F := Ideal) x0 x1 x2 x4 x7 x9 (ix4 0 u r w)
    = value (rowKV (hRow x0 x1 x2 ⟨u.val * 256 + w.val, by omega⟩) (fun k j => x4 (ix2 k j)) (fun e => x7 (ix2 0 e))) (fun r k => x9 (ix2 r k)) r := by
  pointwise [val_main_v86, val_main_v74, val_main_v73, val_main_v72, val_main_v70, val_main_v69, val_main_v71, val_main_v68]
  simp only [kv_read]
  rfl

/-- **Log decays**. -/
theorem g_read (t : Fin 2048) (j : Fin 1024) : val_main_v84 (F := Ideal) x0 x1 x2 x4 x10 x11 (ix3 0 t j)
    = rowG (hRow x0 x1 x2 t) (fun k j => x4 (ix2 k j)) (fun k j => x10 (ix2 k j)) (fun j => x11 (ix2 0 j)) j := by
  pointwise [val_main_v84, val_main_v82, val_main_call2_v1, val_main_call2_call0_v4, val_main_call2_call0_v3, val_main_call2_v0, val_main_v81, val_main_v78, val_main_v76, val_main_v75, val_main_v77, val_main_v80, val_main_v79, val_main_call2_call0_v2, val_main_call2_call0_cst, val_main_call2_call0_v6, val_main_call2_call0_v5, val_main_call2_call0_v11, val_main_call2_call0_v1, val_main_call2_call0_v0, val_main_call2_call0_v10, val_main_call2_call0_v9, val_main_call2_call0_v8, val_main_call2_call0_v7, val_main_v83, val_main_cst_6]
  simp only [misc_read]
  have key := decay_softplus (gate (fun e => dotRow (hRow x0 x1 x2 t) (fun k j => x4 (ix2 k j)) ⟨384 + e.val, by omega⟩) (fun k j => x10 (ix2 k j)) (fun j => x11 (ix2 0 j)) j)
  rw [if_neg (not_not_intro rfl)]
  exact key

/-- **The recurrence's keys**. -/
theorem gk_read (t : Fin 2048) (j : Fin 512) : val_main_v87 (F := Ideal) x0 x1 x2 x4 (ix3 0 t j)
    = dotRow (hRow x0 x1 x2 t) (fun k j => x4 (ix2 k j)) ⟨1280 + j.val, by omega⟩ := by
  pointwise [val_main_v87, val_main_v34]
  simp only [z_read]

/-- **The recurrence's values**. -/
theorem gv_read (t : Fin 2048) (j : Fin 512) : val_main_v88 (F := Ideal) x0 x1 x2 x4 (ix3 0 t j)
    = dotRow (hRow x0 x1 x2 t) (fun k j => x4 (ix2 k j)) ⟨1792 + j.val, by omega⟩ := by
  pointwise [val_main_v88, val_main_v35]
  simp only [z_read]

end Cert.Proj.RefCtx

end
-- ==== Proof.Proj.MainCtx.lean ====
/-
  The input projections' output arrays on the context tokens are the reference's results, entry by entry.
-/
module

public import proofs.«01_k».proof.Proof.Gen.Kernel4Ideal.Value
public import proofs.«01_k».proof.Proof.Proj.BodyCtx
public import proofs.«01_k».proof.Proof.Proj.RefCtx
public import Idealize.ShloMosaic.Lib.Pipeline.Value
public import Idealize.ShloMosaic.Lib.ValueIdxCore

@[expose] public section

set_option maxRecDepth 16384

noncomputable section

namespace Cert.ProjCtx

open Idealize.ShloMosaic Idealize.ShloMosaic.TcCoe Idealize.SL.Sem
open Cert.Kernel4Ideal Cert.Kernel4Ideal.Gen
open Idealize.ShloMosaic.Pipeline (Dat)
open Cert.Mix Cert.Proj

/-! ## The blocks' places -/

theorem idx0 : ∀ t : Fin grid0.N, win0_0.index t = ![0, t.val, 0] := by decide +kernel
theorem idx1 : ∀ t : Fin grid0.N, win0_1.index t = ![8, 0, 0] := by decide +kernel
theorem idx2 : ∀ t : Fin grid0.N, win0_2.index t = ![8, 0, 1] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![0, 0] := by decide +kernel
theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel
theorem idx13 : ∀ t : Fin grid0.N, win0_13.index t = ![0, t.val, 0] := by decide +kernel
theorem idx14 : ∀ t : Fin grid0.N, win0_14.index t = ![0, t.val, 0, 0] := by decide +kernel
theorem idx15 : ∀ t : Fin grid0.N, win0_15.index t = ![0, t.val, 0] := by decide +kernel
theorem idx16 : ∀ t : Fin grid0.N, win0_16.index t = ![0, t.val, 0] := by decide +kernel
theorem idx17 : ∀ t : Fin grid0.N, win0_17.index t = ![0, t.val, 0] := by decide +kernel
theorem flush13 : ∀ t : Fin grid0.N, win0_13.flush t = true := by decide +kernel
theorem flush14 : ∀ t : Fin grid0.N, win0_14.flush t = true := by decide +kernel
theorem flush15 : ∀ t : Fin grid0.N, win0_15.flush t = true := by decide +kernel
theorem flush16 : ∀ t : Fin grid0.N, win0_16.flush t = true := by decide +kernel
theorem flush17 : ∀ t : Fin grid0.N, win0_17.flush t = true := by decide +kernel

/-- The grid point of tile `i` of tokens. -/
def pt (i : Fin 2) : Fin cfg0.N := ⟨i.val, by show _ < 2; omega⟩

theorem pt_val (i : Fin 2) : (pt i).val = i.val := rfl

section
variable {F : FTy → Type} [FloatOps F]
variable (m : (ℓ : Loc nD τ sig) → Buf (Elt F) ℓ) (c : Dev nD) (i : Fin 2)

theorem blk0 (a d : Fin 1024) : iblk m c 0 (pt i) (ix3 0 a d)
    = m ((c.tc : Thread nD τ).loc main_arg0) (ix3 0 ⟨1024 * i.val + a.val, by omega⟩ d) := by
  have h := idx0 (pt i)
  rw [pt_val] at h
  refine Eq.trans ?_ (congrFun (V_main_arg0 m c) _)
  refine congrArg (V m c main_arg0) (funext fun x => Fin.ext ?_)
  match x with
  | 0 => show win0_0.index (pt i) 0 * 1 + 1 * 0 = 0; rw [h]; rfl
  | 1 => show win0_0.index (pt i) 1 * 1024 + 1 * a.val = 1024 * i.val + a.val; rw [h]; show i.val * 1024 + 1 * a.val = _; omega
  | 2 => show win0_0.index (pt i) 2 * 1024 + 1 * d.val = d.val; rw [h]; show 0 * 1024 + 1 * d.val = _; omega

theorem blk1 (d : Fin 1024) : iblk m c 1 (pt i) (ix3 0 0 d)
    = m ((c.tc : Thread nD τ).loc main_arg1) (ix3 8 0 ⟨d.val, by omega⟩) := by
  have h := idx1 (pt i)
  refine Eq.trans ?_ (congrFun (V_main_arg1 m c) _)
  refine congrArg (V m c main_arg1) (funext fun x => Fin.ext ?_)
  match x with
  | 0 => show win0_1.index (pt i) 0 * 1 + 1 * 0 = 8; rw [h]; show 8 * 1 + 1 * 0 = _; omega
  | 1 => show win0_1.index (pt i) 1 * 1 + 1 * 0 = 0; rw [h]; rfl
  | 2 => show win0_1.index (pt i) 2 * 1024 + 1 * d.val = d.val; rw [h]; show 0 * 1024 + 1 * d.val = _; omega

theorem blk2 (d : Fin 1024) : iblk m c 2 (pt i) (ix3 0 0 d)
    = m ((c.tc : Thread nD τ).loc main_arg1) (ix3 8 0 ⟨1024 + d.val, by omega⟩) := by
  have h := idx2 (pt i)
  refine Eq.trans ?_ (congrFun (V_main_arg1 m c) _)
  refine congrArg (V m c main_arg1) (funext fun x => Fin.ext ?_)
  match x with
  | 0 => show win0_2.index (pt i) 0 * 1 + 1 * 0 = 8; rw [h]; show 8 * 1 + 1 * 0 = _; omega
  | 1 => show win0_2.index (pt i) 1 * 1 + 1 * 0 = 0; rw [h]; rfl
  | 2 => show win0_2.index (pt i) 2 * 1024 + 1 * d.val = 1024 + d.val; rw [h]; show 1 * 1024 + 1 * d.val = _; omega

theorem blk3 (d : Fin 1024) : iblk m c 3 (pt i) (ix2 0 d)
    = m ((c.tc : Thread nD τ).loc main_arg2) (ix2 0 d) := by
  have h := idx3 (pt i)
  refine Eq.trans ?_ (congrFun (V_main_arg2 m c) _)
  refine congrArg (V m c main_arg2) (funext fun x => Fin.ext ?_)
  match x with
  | 0 => show win0_3.index (pt i) 0 * 1 + 1 * 0 = 0; rw [h]; rfl
  | 1 => show win0_3.index (pt i) 1 * 1024 + 1 * d.val = d.val; rw [h]; show 0 * 1024 + 1 * d.val = _; omega

theorem blk4 (a : Fin 1024) (d : Fin 512) : iblk m c 4 (pt i) (ix2 a d)
    = m ((c.tc : Thread nD τ).loc main_arg3) (ix2 ⟨1024 * i.val + a.val, by omega⟩ d) := by
  have h := idx4 (pt i)
  rw [pt_val] at h
  refine Eq.trans ?_ (congrFun (V_main_arg3 m c) _)
  refine congrArg (V m c main_arg3) (funext fun x => Fin.ext ?_)
  match x with
  | 0 => show win0_4.index (pt i) 0 * 1024 + 1 * a.val = 1024 * i.val + a.val; rw [h]; show i.val * 1024 + 1 * a.val = _; omega
  | 1 => show win0_4.index (pt i) 1 * 512 + 1 * d.val = d.val; rw [h]; show 0 * 512 + 1 * d.val = _; omega

theorem blk5 (r : Fin 1024) (d : Fin 2304) : iblk m c 5 (pt i) (ix2 r d)
    = m ((c.tc : Thread nD τ).loc main_arg4) (ix2 r d) := by
  have h := idx5 (pt i)
  refine Eq.trans ?_ (congrFun (V_main_arg4 m c) _)
  refine congrArg (V m c main_arg4) (funext fun x => Fin.ext ?_)
  match x with
  | 0 => show win0_5.index (pt i) 0 * 1024 + 1 * r.val = r.val; rw [h]; show 0 * 1024 + 1 * r.val = _; omega
  | 1 => show win0_5.index (pt i) 1 * 2304 + 1 * d.val = d.val; rw [h]; show 0 * 2304 + 1 * d.val = _; omega

theorem blk6 (d : Fin 384) : iblk m c 6 (pt i) (ix2 0 d)
    = m ((c.tc : Thread nD τ).loc main_arg5) (ix2 0 d) := by
  have h := idx6 (pt i)
  refine Eq.trans ?_ (congrFun (V_main_arg5 m c) _)
  refine congrArg (V m c main_arg5) (funext fun x => Fin.ext ?_)
  match x with
  | 0 => show win0_6.index (pt i) 0 * 1 + 1 * 0 = 0; rw [h]; rfl
  | 1 => show win0_6.index (pt i) 1 * 384 + 1 * d.val = d.val; rw [h]; show 0 * 384 + 1 * d.val = _; omega

theorem blk7 (r : Fin 384) (d : Fin 1024) : iblk m c 7 (pt i) (ix2 r d)
    = m ((c.tc : Thread nD τ).loc main_arg6) (ix2 r d) := by
  have h := idx7 (pt i)
  refine Eq.trans ?_ (congrFun (V_main_arg6 m c) _)
  refine congrArg (V m c main_arg6) (funext fun x => Fin.ext ?_)
  match x with
  | 0 => show win0_7.index (pt i) 0 * 384 + 1 * r.val = r.val; rw [h]; show 0 * 384 + 1 * r.val = _; omega
  | 1 => show win0_7.index (pt i) 1 * 1024 + 1 * d.val = d.val; rw [h]; show 0 * 1024 + 1 * d.val = _; omega

theorem blk8 (d : Fin 256) : iblk m c 8 (pt i) (ix2 0 d)
    = m ((c.tc : Thread nD τ).loc main_arg7) (ix2 0 d) := by
  have h := idx8 (pt i)
  refine Eq.trans ?_ (congrFun (V_main_arg7 m c) _)
  refine congrArg (V m c main_arg7) (funext fun x => Fin.ext ?_)
  match x with
  | 0 => show win0_8.index (pt i) 0 * 1 + 1 * 0 = 0; rw [h]; rfl
  | 1 => show win0_8.index (pt i) 1 * 256 + 1 * d.val = d.val; rw [h]; show 0 * 256 + 1 * d.val = _; omega

theorem blk9 (r : Fin 384) (d : Fin 1024) : iblk m c 9 (pt i) (ix2 r d)
    = m ((c.tc : Thread nD τ).loc main_arg8) (ix2 r d) := by
  have h := idx9 (pt i)
  refine Eq.trans ?_ (congrFun (V_main_arg8 m c) _)
  refine congrArg (V m c main_arg8) (funext fun x => Fin.ext ?_)
  match x with
  | 0 => show win0_9.index (pt i) 0 * 384 + 1 * r.val = r.val; rw [h]; show 0 * 384 + 1 * r.val = _; omega
  | 1 => show win0_9.index (pt i) 1 * 1024 + 1 * d.val = d.val; rw [h]; show 0 * 1024 + 1 * d.val = _; omega

theorem blk10 (r : Fin 512) (d : Fin 256) : iblk m c 10 (pt i) (ix2 r d)
    = m ((c.tc : Thread nD τ).loc main_arg9) (ix2 r d) := by
  have h := idx10 (pt i)
  refine Eq.trans ?_ (congrFun (V_main_arg9 m c) _)
  refine congrArg (V m c main_arg9) (funext fun x => Fin.ext ?_)
  match x with
  | 0 => show win0_10.index (pt i) 0 * 512 + 1 * r.val = r.val; rw [h]; show 0 * 512 + 1 * r.val = _; omega
  | 1 => show win0_10.index (pt i) 1 * 256 + 1 * d.val = d.val; rw [h]; show 0 * 256 + 1 * d.val = _; omega

theorem blk11 (r : Fin 128) (d : Fin 1024) : iblk m c 11 (pt i) (ix2 r d)
    = m ((c.tc : Thread nD τ).loc main_arg10) (ix2 r d) := by
  have h := idx11 (pt i)
  refine Eq.trans ?_ (congrFun (V_main_arg10 m c) _)
  refine congrArg (V m c main_arg10) (funext fun x => Fin.ext ?_)
  match x with
  | 0 => show win0_11.index (pt i) 0 * 128 + 1 * r.val = r.val; rw [h]; show 0 * 128 + 1 * r.val = _; omega
  | 1 => show win0_11.index (pt i) 1 * 1024 + 1 * d.val = d.val; rw [h]; show 0 * 1024 + 1 * d.val = _; omega

theorem blk12 (d : Fin 1024) : iblk m c 12 (pt i) (ix2 0 d)
    = m ((c.tc : Thread nD τ).loc main_arg11) (ix2 0 d) := by
  have h := idx12 (pt i)
  refine Eq.trans ?_ (congrFun (V_main_arg11 m c) _)
  refine congrArg (V m c main_arg11) (funext fun x => Fin.ext ?_)
  match x with
  | 0 => show win0_12.index (pt i) 0 * 1 + 1 * 0 = 0; rw [h]; rfl
  | 1 => show win0_12.index (pt i) 1 * 1024 + 1 * d.val = d.val; rw [h]; show 0 * 1024 + 1 * d.val = _; omega

/-- An entry of the output array of window 13 is the entry of the block its grid point left. -/
theorem entry13 (a : Fin 1024) (d : Fin 1024) :
    (dats m 0 c).arrAt 13 cfg0.N (ix3 0 ⟨1024 * i.val + a.val, by omega⟩ d)
      = out0_13 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i))
          (ix3 0 a d) := by
  have h := idx13 (pt i)
  rw [pt_val] at h
  refine Eq.trans ?_ (congrFun ((Value.blocks13 m c (pt i) (flush13 _)).trans (Value.flushed13 m c (pt i))) (ix3 0 a d))
  refine congrArg ((dats m 0 c).arrAt 13 cfg0.N) (funext fun x => Fin.ext ?_)
  match x with
  | 0 => show 0 = win0_13.index (pt i) 0 * 1 + 1 * 0; rw [h]; show _ = 0 * 1 + 1 * 0; omega
  | 1 => show 1024 * i.val + a.val = win0_13.index (pt i) 1 * 1024 + 1 * a.val; rw [h]; show _ = i.val * 1024 + 1 * a.val; omega
  | 2 => show d.val = win0_13.index (pt i) 2 * 1024 + 1 * d.val; rw [h]; show _ = 0 * 1024 + 1 * d.val; omega

/-- An entry of the output array of window 14 (the values' panels) is the entry of the block its grid point left. -/
theorem entry14 (u : Fin 4) (r : Fin 512) (w : Fin 256) :
    (dats m 0 c).arrAt 14 cfg0.N (ix4 0 ⟨4 * i.val + u.val, by omega⟩ r w)
      = out0_14 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i))
          (ix4 0 u r w) := by
  have h := idx14 (pt i)
  rw [pt_val] at h
  refine Eq.trans ?_ (congrFun ((Value.blocks14 m c (pt i) (flush14 _)).trans (Value.flushed14 m c (pt i))) (ix4 0 u r w))
  refine congrArg ((dats m 0 c).arrAt 14 cfg0.N) (funext fun x => Fin.ext ?_)
  match x with
  | 0 => show 0 = win0_14.index (pt i) 0 * 1 + 1 * 0; rw [h]; show _ = 0 * 1 + 1 * 0; omega
  | 1 => show 4 * i.val + u.val = win0_14.index (pt i) 1 * 4 + 1 * u.val; rw [h]; show _ = i.val * 4 + 1 * u.val; omega
  | 2 => show r.val = win0_14.index (pt i) 2 * 512 + 1 * r.val; rw [h]; show _ = 0 * 512 + 1 * r.val; omega
  | 3 => show w.val = win0_14.index (pt i) 3 * 256 + 1 * w.val; rw [h]; show _ = 0 * 256 + 1 * w.val; omega

/-- An entry of the output array of window 15 is the entry of the block its grid point left. -/
theorem entry15 (a : Fin 1024) (d : Fin 512) :
    (dats m 0 c).arrAt 15 cfg0.N (ix3 0 ⟨1024 * i.val + a.val, by omega⟩ d)
      = out0_15 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i))
          (ix3 0 a d) := by
  have h := idx15 (pt i)
  rw [pt_val] at h
  refine Eq.trans ?_ (congrFun ((Value.blocks15 m c (pt i) (flush15 _)).trans (Value.flushed15 m c (pt i))) (ix3 0 a d))
  refine congrArg ((dats m 0 c).arrAt 15 cfg0.N) (funext fun x => Fin.ext ?_)
  match x with
  | 0 => show 0 = win0_15.index (pt i) 0 * 1 + 1 * 0; rw [h]; show _ = 0 * 1 + 1 * 0; omega
  | 1 => show 1024 * i.val + a.val = win0_15.index (pt i) 1 * 1024 + 1 * a.val; rw [h]; show _ = i.val * 1024 + 1 * a.val; omega
  | 2 => show d.val = win0_15.index (pt i) 2 * 512 + 1 * d.val; rw [h]; show _ = 0 * 512 + 1 * d.val; omega

/-- An entry of the output array of window 16 is the entry of the block its grid point left. -/
theorem entry16 (a : Fin 1024) (d : Fin 512) :
    (dats m 0 c).arrAt 16 cfg0.N (ix3 0 ⟨1024 * i.val + a.val, by omega⟩ d)
      = out0_16 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i))
          (ix3 0 a d) := by
  have h := idx16 (pt i)
  rw [pt_val] at h
  refine Eq.trans ?_ (congrFun ((Value.blocks16 m c (pt i) (flush16 _)).trans (Value.flushed16 m c (pt i))) (ix3 0 a d))
  refine congrArg ((dats m 0 c).arrAt 16 cfg0.N) (funext fun x => Fin.ext ?_)
  match x with
  | 0 => show 0 = win0_16.index (pt i) 0 * 1 + 1 * 0; rw [h]; show _ = 0 * 1 + 1 * 0; omega
  | 1 => show 1024 * i.val + a.val = win0_16.index (pt i) 1 * 1024 + 1 * a.val; rw [h]; show _ = i.val * 1024 + 1 * a.val; omega
  | 2 => show d.val = win0_16.index (pt i) 2 * 512 + 1 * d.val; rw [h]; show _ = 0 * 512 + 1 * d.val; omega

/-- An entry of the output array of window 17 is the entry of the block its grid point left. -/
theorem entry17 (a : Fin 1024) (d : Fin 1024) :
    (dats m 0 c).arrAt 17 cfg0.N (ix3 0 ⟨1024 * i.val + a.val, by omega⟩ d)
      = out0_17 (iblk m c 0 (pt i)) (iblk m c 1 (pt i)) (iblk m c 2 (pt i)) (iblk m c 3 (pt i)) (iblk m c 4 (pt i)) (iblk m c 5 (pt i)) (iblk m c 6 (pt i)) (iblk m c 7 (pt i)) (iblk m c 8 (pt i)) (iblk m c 9 (pt i)) (iblk m c 10 (pt i)) (iblk m c 11 (pt i)) (iblk m c 12 (pt i))
          (ix3 0 a d) := by
  have h := idx17 (pt i)
  rw [pt_val] at h
  refine Eq.trans ?_ (congrFun ((Value.blocks17 m c (pt i) (flush17 _)).trans (Value.flushed17 m c (pt i))) (ix3 0 a d))
  refine congrArg ((dats m 0 c).arrAt 17 cfg0.N) (funext fun x => Fin.ext ?_)
  match x with
  | 0 => show 0 = win0_17.index (pt i) 0 * 1 + 1 * 0; rw [h]; show _ = 0 * 1 + 1 * 0; omega
  | 1 => show 1024 * i.val + a.val = win0_17.index (pt i) 1 * 1024 + 1 * a.val; rw [h]; show _ = i.val * 1024 + 1 * a.val; omega
  | 2 => show d.val = win0_17.index (pt i) 2 * 1024 + 1 * d.val; rw [h]; show _ = 0 * 1024 + 1 * d.val; omega

end

section
variable (m : (ℓ : Loc nD τ sig) → Buf (Elt Ideal) ℓ) (c : Dev nD)

/-- The normed and modulated row a tile reads is the reference's row of that token. -/
theorem hRow_eq (i : Fin 2) (a : Fin 1024) :
    hRow (iblk m c 0 (pt i)) (iblk m c 1 (pt i)) (iblk m c 2 (pt i)) (iblk m c 3 (pt i)) a
      = Cert.Proj.RefCtx.hRow (m ((c.tc : Thread nD τ).loc main_arg0)) (m ((c.tc : Thread nD τ).loc main_arg1))
          (m ((c.tc : Thread nD τ).loc main_arg2)) ⟨1024 * i.val + a.val, by omega⟩ := by
  unfold hRow Cert.Proj.RefCtx.hRow
  simp only [blk0, blk1, blk2, blk3]

/-- **The keys**: the kernel's array is the reference's result. -/
theorem k_eq : (dats m 0 c).arrAt 13 cfg0.N = Cert.Reference4Ideal.Read.val_main_v85 (F := Ideal)
    (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8)) := by
  funext j
  have h0 : (j 0).val < 1 := (j 0).isLt
  have h1 : (j 1).val < 2048 := (j 1).isLt
  obtain ⟨t, d, rfl⟩ : ∃ (t : Fin 2048) (d : Fin 1024), j = ix3 0 t d :=
    ⟨j 1, j 2, funext fun x => match x with | 0 => Fin.ext (by show (j 0).val = 0; omega) | 1 => rfl | 2 => rfl⟩
  have e : (⟨1024 * (t.val / 1024) + t.val % 1024, by omega⟩ : Fin 2048) = t := Fin.ext (by show 1024 * (t.val / 1024) + t.val % 1024 = t.val; omega)
  have key := entry13 m c ⟨t.val / 1024, by omega⟩ ⟨t.val % 1024, by omega⟩ d
  rw [k_out] at key
  simp only [hRow_eq, blk4, blk5, blk6, blk7, blk8, blk9, blk10, blk11, blk12, e] at key
  rw [key, Cert.Proj.RefCtx.k_read]

/-- **The values' panels**: the kernel's array is the reference's result. -/
theorem v_eq : (dats m 0 c).arrAt 14 cfg0.N = Cert.Reference4Ideal.Read.val_main_v86 (F := Ideal)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg7)) (m ((c.tc : Thread nD τ).loc main_arg9)) := by
  funext j
  have h0 : (j 0).val < 1 := (j 0).isLt
  obtain ⟨u, r, w, rfl⟩ : ∃ (u : Fin 8) (r : Fin 512) (w : Fin 256), j = ix4 0 u r w :=
    ⟨j 1, j 2, j 3, funext fun x => match x with | 0 => Fin.ext (by show (j 0).val = 0; omega) | 1 => rfl | 2 => rfl | 3 => rfl⟩
  have e : (⟨4 * (u.val / 4) + u.val % 4, by omega⟩ : Fin 8) = u := Fin.ext (by show 4 * (u.val / 4) + u.val % 4 = u.val; omega)
  have e' : (⟨1024 * (u.val / 4) + (256 * (u.val % 4) + w.val), by omega⟩ : Fin 2048) = ⟨u.val * 256 + w.val, by omega⟩ :=
    Fin.ext (by show 1024 * (u.val / 4) + (256 * (u.val % 4) + w.val) = u.val * 256 + w.val; omega)
  have key := entry14 m c ⟨u.val / 4, by omega⟩ ⟨u.val % 4, by omega⟩ r w
  rw [v_out] at key
  simp only [hRow_eq, blk4, blk5, blk6, blk7, blk8, blk9, blk10, blk11, blk12, e, e'] at key
  rw [key, Cert.Proj.RefCtx.v_read]

/-- **The recurrence's keys**: the kernel's array is the reference's result. -/
theorem gk_eq : (dats m 0 c).arrAt 15 cfg0.N = Cert.Reference4Ideal.Read.val_main_v87 (F := Ideal)
    (m ((c.tc : Thread nD τ).loc main_arg0)) (m ((c.tc : Thread nD τ).loc main_arg1)) (m ((c.tc : Thread nD τ).loc main_arg2)) (m ((c.tc : Thread nD τ).loc main_arg4)) := by
  funext j
  have h0 : (j 0).val < 1 := (j 0).isLt
  have h1 : (j 1).val < 2048 := (j 1).isLt
  obtain ⟨t, d, rfl⟩ : ∃ (t : Fin 2048) (d : Fin 512), j = ix3 0 t d :=
    ⟨j 1, j 2, funext fun x => match x with | 0 => Fin.ext (by show (j 0).val = 0; omega) | 1 => rfl | 2 => rfl⟩
  have e : (⟨1024 * (t.val / 1024) + t.val % 1024, by omega⟩ : Fin 2048) = t := Fin.ext (by show 1024 * (t.val / 1024) + t.val % 1024 = t.val; omega)
  have key := entry15 m c ⟨t.val / 1024, by omega⟩ ⟨t.val % 1024, by omega⟩ d
  rw [gk_out] at key
  simp only [hRow_eq, blk4, blk5, blk6, blk7, blk8, blk9, blk10, blk11, blk12, e] at key
  rw [key, Cert.Proj.RefCtx.gk_read]

/-- **The recurrence's values**: the kernel's array is the reference's result. -/
theorem gv_eq : (dats m 0 c).arrAt 16 cfg0.N = Cert.Reference4Ideal.Read.val_main_v88 (F := Ideal)
    (m ((c.tc : Thread nD τ).loc main_arg0)) (m ((c.tc : Thread nD τ).loc main_arg1)) (m ((c.tc : Thread nD τ).loc main_arg2)) (m ((c.tc : Thread nD τ).loc main_arg4)) := by
  funext j
  have h0 : (j 0).val < 1 := (j 0).isLt
  have h1 : (j 1).val < 2048 := (j 1).isLt
  obtain ⟨t, d, rfl⟩ : ∃ (t : Fin 2048) (d : Fin 512), j = ix3 0 t d :=
    ⟨j 1, j 2, funext fun x => match x with | 0 => Fin.ext (by show (j 0).val = 0; omega) | 1 => rfl | 2 => rfl⟩
  have e : (⟨1024 * (t.val / 1024) + t.val % 1024, by omega⟩ : Fin 2048) = t := Fin.ext (by show 1024 * (t.val / 1024) + t.val % 1024 = t.val; omega)
  have key := entry16 m c ⟨t.val / 1024, by omega⟩ ⟨t.val % 1024, by omega⟩ d
  rw [gv_out] at key
  simp only [hRow_eq, blk4, blk5, blk6, blk7, blk8, blk9, blk10, blk11, blk12, e] at key
  rw [key, Cert.Proj.RefCtx.gv_read]

/-- **The log decays**: the kernel's array is the reference's result. -/
theorem g_eq : (dats m 0 c).arrAt 17 cfg0.N = Cert.Reference4Ideal.Read.val_main_v84 (F := Ideal)
    (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg10)) (m ((c.tc : Thread nD τ).loc main_arg11)) := by
  funext j
  have h0 : (j 0).val < 1 := (j 0).isLt
  have h1 : (j 1).val < 2048 := (j 1).isLt
  obtain ⟨t, d, rfl⟩ : ∃ (t : Fin 2048) (d : Fin 1024), j = ix3 0 t d :=
    ⟨j 1, j 2, funext fun x => match x with | 0 => Fin.ext (by show (j 0).val = 0; omega) | 1 => rfl | 2 => rfl⟩
  have e : (⟨1024 * (t.val / 1024) + t.val % 1024, by omega⟩ : Fin 2048) = t := Fin.ext (by show 1024 * (t.val / 1024) + t.val % 1024 = t.val; omega)
  have key := entry17 m c ⟨t.val / 1024, by omega⟩ ⟨t.val % 1024, by omega⟩ d
  rw [g_out] at key
  simp only [hRow_eq, blk4, blk5, blk6, blk7, blk8, blk9, blk10, blk11, blk12, e] at key
  rw [key, Cert.Proj.RefCtx.g_read]

end

end Cert.ProjCtx

end
-- ==== Proof.Ada.Main.lean ====
/-
  The modulation call's output array is the reference's result, entry by entry.
-/
module

public import proofs.«01_k».proof.Proof.Gen.Kernel5Ideal.Value
public import proofs.«01_k».proof.Proof.Gen.Reference5Ideal.Read
public import proofs.«01_k».proof.Proof.Mix.Spec
public import Idealize.ShloMosaic.Lib.Claim
public import Idealize.ShloMosaic.Lib.Pipeline.Value
public import Idealize.ShloMosaic.Lib.ValueIdxCore
public import Idealize.ShloMosaic.Lib.ValueLayout

@[expose] public section

set_option maxRecDepth 16384

noncomputable section

namespace Cert.Ada

open Idealize.ShloMosaic Idealize.ShloMosaic.TcCoe Idealize.SL.Sem
open Cert.Mix

/-- A modulation vector's entry: the product of the gated condition `c · sigmoid c` with the weight's column, plus the bias. -/
def modulation (c : Fin 1024 → EReal) (w : Fin 1024 → Fin 6144 → EReal) (b : Fin 6144 → EReal) (j : Fin 6144) : EReal :=
  dotRow (fun d => c d * Ideal.div 1 (1 + Ideal.exp (-c d))) w j + b j

section
open Cert.Reference5Ideal Cert.Reference5Ideal.Gen Cert.Reference5Ideal.Read
variable (x0 : (⟨S16x1024, .f32⟩ : BufTy).Contents (Elt Ideal)) (x1 : (⟨S1024x6144, .f32⟩ : BufTy).Contents (Elt Ideal))
  (x2 : (⟨S6144, .f32⟩ : BufTy).Contents (Elt Ideal))

/-- The reference's result, read at an index. -/
theorem ref_read (r : Fin 16) (j : Fin 6144) : val_main_v4 (F := Ideal) x0 x1 x2 (ix2 r j)
    = modulation (fun d => x0 (ix2 r d)) (fun d j => x1 (ix2 d j)) (fun j => x2 (ix1 j)) j := by
  pointwise [val_main_v4, val_main_v3, val_main_v2, val_main_v1, val_main_v0, val_main_call0_v5, val_main_call0_v4, val_main_call0_cst_0, val_main_call0_v3, val_main_call0_v2, val_main_call0_cst, val_main_call0_v1, val_main_call0_v0]
  rfl

end

open Cert.Kernel5Ideal Cert.Kernel5Ideal.Gen
open Idealize.ShloMosaic.Pipeline (Dat)

/-! ## The block a grid point leaves -/

theorem zero2 : (![0, 0] : Fin 2 → ℕ) = fun _ => 0 := by funext i; fin_cases i <;> rfl

/-- An entry of the block: the product of the gated condition with a column of the weight's block, plus the bias. -/
theorem out_read (x0 : Vec Ideal S16x1024 .f32) (x1 : Vec Ideal S1024x512 .f32) (x2 : Vec Ideal S1x512 .f32) (r : Fin 16) (d : Fin 512) :
    out0_3 (F := Ideal) x0 x1 x2 (ix2 r d)
      = dotRow (fun d => x0 (ix2 r d) * Ideal.div 1 (1 + Ideal.exp (-x0 (ix2 r d)))) (fun k d => x1 (ix2 k d)) d + x2 (ix2 0 d) := by
  unfold out0_3
  rw [View.canon_unit_zero zero2, View.ld_unit_zero zero2 _ x0, View.ld_unit_zero zero2 _ x1, View.ld_unit_zero zero2 _ x2]
  pointwise [k0_pay1]
  rfl

/-! ## The blocks' places -/

theorem idx0 : ∀ t : Fin grid0.N, win0_0.index t = ![0, 0] := by decide +kernel
theorem idx1 : ∀ t : Fin grid0.N, win0_1.index t = ![0, t.val] := by decide +kernel
theorem idx2 : ∀ t : Fin grid0.N, win0_2.index t = ![0, t.val] := by decide +kernel
theorem idx3 : ∀ t : Fin grid0.N, win0_3.index t = ![0, t.val] := by decide +kernel
theorem flush3 : ∀ t : Fin grid0.N, win0_3.flush t = true := by decide +kernel

/-- The grid point of block `i` of 512 columns. -/
def pt (i : Fin 12) : Fin cfg0.N := ⟨i.val, by show _ < 12; omega⟩

theorem pt_val (i : Fin 12) : (pt i).val = i.val := rfl

section
variable {F : FTy → Type} [FloatOps F]
variable (m : (ℓ : Loc nD τ sig) → Buf (Elt F) ℓ) (c : Dev nD) (i : Fin 12)

theorem blk0 (r : Fin 16) (d : Fin 1024) : iblk m c 0 (pt i) (ix2 r d)
    = m ((c.tc : Thread nD τ).loc main_arg0) (ix2 r d) := by
  have h := idx0 (pt i)
  refine Eq.trans ?_ (congrFun (V_main_arg0 m c) _)
  refine congrArg (V m c main_arg0) (funext fun x => Fin.ext ?_)
  match x with
  | 0 => show win0_0.index (pt i) 0 * 16 + 1 * r.val = r.val; rw [h]; show 0 * 16 + 1 * r.val = _; omega
  | 1 => show win0_0.index (pt i) 1 * 1024 + 1 * d.val = d.val; rw [h]; show 0 * 1024 + 1 * d.val = _; omega

theorem blk1 (k : Fin 1024) (d : Fin 512) : iblk m c 1 (pt i) (ix2 k d)
    = m ((c.tc : Thread nD τ).loc main_arg1) (ix2 k ⟨512 * i.val + d.val, by omega⟩) := by
  have h := idx1 (pt i)
  rw [pt_val] at h
  refine Eq.trans ?_ (congrFun (V_main_arg1 m c) _)
  refine congrArg (V m c main_arg1) (funext fun x => Fin.ext ?_)
  match x with
  | 0 => show win0_1.index (pt i) 0 * 1024 + 1 * k.val = k.val; rw [h]; show 0 * 1024 + 1 * k.val = _; omega
  | 1 => show win0_1.index (pt i) 1 * 512 + 1 * d.val = 512 * i.val + d.val; rw [h]; show i.val * 512 + 1 * d.val = _; omega

/-- The bias reaches the call as one row. -/
theorem bias_row : V m c main_v0 = shapeCast S1x6144 (m ((c.tc : Thread nD τ).loc main_arg2)) shapeCasts_S6144_S1x6144 := by
  entry_read
  rfl

theorem blk2 (d : Fin 512) : iblk m c 2 (pt i) (ix2 0 d)
    = m ((c.tc : Thread nD τ).loc main_arg2) (ix1 ⟨512 * i.val + d.val, by omega⟩) := by
  have h := idx2 (pt i)
  rw [pt_val] at h
  have e : iblk m c 2 (pt i) (ix2 0 d) = V m c main_v0 (ix2 0 ⟨512 * i.val + d.val, by omega⟩) := by
    refine congrArg (V m c main_v0) (funext fun x => Fin.ext ?_)
    match x with
    | 0 => show win0_2.index (pt i) 0 * 1 + 1 * 0 = 0; rw [h]; rfl
    | 1 => show win0_2.index (pt i) 1 * 512 + 1 * d.val = 512 * i.val + d.val; rw [h]; show i.val * 512 + 1 * d.val = _; omega
  rw [e, bias_row]
  exact Idealize.ShloMosaic.ValueIdx.shapeCast_a_1a_apply _ _ _ _

/-- An entry of the output array is the entry of the block its grid point left. -/
theorem entry3 (r : Fin 16) (d : Fin 512) :
    (dats m 0 c).arrAt 3 cfg0.N (ix2 r ⟨512 * i.val + d.val, by omega⟩)
      = out0_3 (iblk m c 0 (pt i)) (iblk m c 1 (pt i)) (iblk m c 2 (pt i)) (ix2 r d) := by
  have h := idx3 (pt i)
  rw [pt_val] at h
  refine Eq.trans ?_ (congrFun ((Value.blocks3 m c (pt i) (flush3 _)).trans (Value.flushed3 m c (pt i))) (ix2 r d))
  refine congrArg ((dats m 0 c).arrAt 3 cfg0.N) (funext fun x => Fin.ext ?_)
  match x with
  | 0 => show r.val = win0_3.index (pt i) 0 * 16 + 1 * r.val; rw [h]; show _ = 0 * 16 + 1 * r.val; omega
  | 1 => show 512 * i.val + d.val = win0_3.index (pt i) 1 * 512 + 1 * d.val; rw [h]; show _ = i.val * 512 + 1 * d.val; omega

end

section
variable (m : (ℓ : Loc nD τ sig) → Buf (Elt Ideal) ℓ) (c : Dev nD)

/-- **The modulation vectors**: the kernel's array is the reference's result. -/
theorem arr_eq : (dats m 0 c).arrAt 3 cfg0.N = Cert.Reference5Ideal.Read.val_main_v4 (F := Ideal)
    (m ((c.tc : Thread nD τ).loc main_arg0)) (m ((c.tc : Thread nD τ).loc main_arg1)) (m ((c.tc : Thread nD τ).loc main_arg2)) := by
  funext j
  have h1 : (j 1).val < 6144 := (j 1).isLt
  obtain ⟨r, d, rfl⟩ : ∃ (r : Fin 16) (d : Fin 6144), j = ix2 r d :=
    ⟨j 0, j 1, funext fun x => match x with | 0 => rfl | 1 => rfl⟩
  have e : (⟨512 * (d.val / 512) + d.val % 512, by omega⟩ : Fin 6144) = d := Fin.ext (by show 512 * (d.val / 512) + d.val % 512 = d.val; omega)
  have key := entry3 m c ⟨d.val / 512, by omega⟩ r ⟨d.val % 512, by omega⟩
  rw [out_read] at key
  unfold dotRow at key
  simp only [blk0, blk1, blk2, e] at key
  rw [key, ref_read]
  rfl

end

end Cert.Ada

end
-- ==== Proof.Gla.Run.lean ====
/-
  The context-state call's body: what each head's state holds after the body, as four chunk updates of the state it
  started from.
-/
module

public import proofs.«01_k».proof.Proof.Gen.Kernel6Ideal.Value
public import Idealize.ShloMosaic.Lib.Pipeline.ReadBack

@[expose] public section

set_option maxRecDepth 16384
set_option maxHeartbeats 400000

noncomputable section

namespace Cert.Gla

open Cert.Kernel6Ideal Cert.Kernel6Ideal.Gen Idealize.ShloMosaic Idealize.ShloMosaic.TcCoe Idealize.SL.Sem

variable {F : FTy → Type} [FloatOps F]

/-- A chunk's update of a head's state, from the chunk's running gates, keys and values: tokens in order, -/
def stepF (bc : Vec F S1x64x128 .f32) (kc vc : Vec F S1x64x128 .bf16) (st : Vec F S1x1x128x128 .f32) : Vec F S1x1x128x128 .f32 :=
  k0_pay16 bc kc vc st

/-- and tokens in reverse. -/
def stepB (bc : Vec F S1x64x128 .f32) (kc vc : Vec F S1x64x128 .bf16) (st : Vec F S1x1x128x128 .f32) : Vec F S1x1x128x128 .f32 :=
  k0_pay26 (k0_pay25 bc kc vc st)

theorem inbTok {o p : ℕ} (h : o + 64 ≤ 256 ∧ p + 128 ≤ 512) : ∀ a, (![0, o, p] : Fin 3 → ℕ) a + S1x64x128.size a ≤ S1x256x512.size a := fun a =>
  match a with
  | 0 => by show 0 + 1 ≤ 1; omega
  | 1 => h.1
  | 2 => h.2

theorem inbGate {d o p : ℕ} (h : d < 2 ∧ o + 64 ≤ 256 ∧ p + 128 ≤ 512) : ∀ a, (![d, o, p] : Fin 3 → ℕ) a + S1x64x128.size a ≤ S2x256x512.size a := fun a =>
  match a with
  | 0 => by show d + 1 ≤ 2; omega
  | 1 => h.2.1
  | 2 => h.2.2

/-- A chunk of one head's keys or values. -/
def tok (arg : Memref sig .tc .vmem S1x256x512 .bf16) (harg : arg.IsWhole) (x : Vec F S1x256x512 .bf16) (o p : ℕ)
    (h : o + 64 ≤ 256 ∧ p + 128 ≤ 512) : Vec F S1x64x128 .bf16 :=
  View.readAt (Elt F) arg.view (Rect.unit (s := S1x256x512) ![0, o, p] S1x64x128.size (inbTok h)).toLoadRect (harg.unread x)

variable (c : Dev nD) (arg2 : Memref sig .tc .vmem S1x256x512 .bf16) (harg2 : arg2.IsWhole) (arg3 : Memref sig .tc .vmem S1x256x512 .bf16) (harg3 : arg3.IsWhole) (arg4 : Memref sig .tc .vmem S1x256x512 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .f32) (harg7 : arg7.IsWhole) (arg8 : Memref sig .tc .vmem S2x1x4x128x128 .f32) (harg8 : arg8.IsWhole) (arg10 : Memref sig .tc .vmem S2x4x128x128 .f32) (arg11 : Memref sig .tc .vmem S2x256x512 .f32)
  (x0 : Vec F S1x256x512 .bf16) (x1 : Vec F S1x256x512 .bf16) (x2 : Vec F S1x256x512 .f32) (x3 : Vec F S1x256x512 .bf16) (x4 : Vec F S1x256x512 .bf16) (x5 : Vec F S1x256x512 .f32) (x6 : Vec F S2x1x4x128x128 .f32)

/-- A chunk of one head's running gates, direction `d`. -/
def gate (d o p : ℕ) (h : d < 2 ∧ o + 64 ≤ 256 ∧ p + 128 ≤ 512) : Vec F S1x64x128 .f32 :=
  arg11.view.readCov (kernelRun0_A.sl.HS1_2 c arg4 harg4 arg7 harg7 x2 x5) (Rect.unit (s := S2x256x512) ![d, o, p] S1x64x128.size (inbGate h)).toLoadRect

/-- The states the body starts from. -/
def start : Vec F S2x4x128x128 .f32 :=
  k0_pay3 (View.readAt (Elt F) arg8.view
    (Rect.unit (s := S2x1x4x128x128) ![0, 0, 0, 0, 0] S2x1x4x128x128.size inb_S2x1x4x128x128_S2x1x4x128x128_0_0_0_0_0).toLoadRect (harg8.unread x6))

/-- Head 0, direction 0. -/
theorem fin_0_0 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![0, 0, 0, 0] S1x1x128x128.size inb_S2x4x128x128_S1x1x128x128_0_0_0_0).toLoadRect
    = stepF (gate c arg4 harg4 arg7 harg7 arg11 x2 x5 0 192 0 (by omega)) (tok arg2 harg2 x0 192 0 (by omega)) (tok arg3 harg3 x1 192 0 (by omega))
      (stepF (gate c arg4 harg4 arg7 harg7 arg11 x2 x5 0 128 0 (by omega)) (tok arg2 harg2 x0 128 0 (by omega)) (tok arg3 harg3 x1 128 0 (by omega))
      (stepF (gate c arg4 harg4 arg7 harg7 arg11 x2 x5 0 64 0 (by omega)) (tok arg2 harg2 x0 64 0 (by omega)) (tok arg3 harg3 x1 64 0 (by omega))
      (stepF (gate c arg4 harg4 arg7 harg7 arg11 x2 x5 0 0 0 (by omega)) (tok arg2 harg2 x0 0 0 (by omega)) (tok arg3 harg3 x1 0 0 (by omega))
      (View.ld (start arg8 harg8 x6) (Rect.unit (s := S2x4x128x128) ![0, 0, 0, 0] S1x1x128x128.size inb_S2x4x128x128_S1x1x128x128_0_0_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_skip _ _ _ _ _ (by decide)]
  rw [kernelRun0_A.sl.HS0_30, View.readCov_skip _ _ _ _ _ (by decide)]
  rw [kernelRun0_A.sl.HS0_29, View.readCov_skip _ _ _ _ _ (by decide)]
  rw [kernelRun0_A.sl.HS0_28, View.readCov_skip _ _ _ _ _ (by decide)]
  rw [kernelRun0_A.sl.HS0_27, View.readCov_skip _ _ _ _ _ (by decide)]
  rw [kernelRun0_A.sl.HS0_26, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 192 0 (by omega)) (tok arg2 harg2 x0 192 0 (by omega)) (tok arg3 harg3 x1 192 0 (by omega))) ?_
  unfold kernelRun0_A.sl.v757
  rw [kernelRun0_A.sl.HS0_25, View.readCov_skip _ _ _ _ _ (by decide)]
  rw [kernelRun0_A.sl.HS0_24, View.readCov_skip _ _ _ _ _ (by decide)]
  rw [kernelRun0_A.sl.HS0_23, View.readCov_skip _ _ _ _ _ (by decide)]
  rw [kernelRun0_A.sl.HS0_22, View.readCov_skip _ _ _ _ _ (by decide)]
  rw [kernelRun0_A.sl.HS0_21, View.readCov_skip _ _ _ _ _ (by decide)]
  rw [kernelRun0_A.sl.HS0_20, View.readCov_skip _ _ _ _ _ (by decide)]
  rw [kernelRun0_A.sl.HS0_19, View.readCov_skip _ _ _ _ _ (by decide)]
  rw [kernelRun0_A.sl.HS0_18, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 128 0 (by omega)) (tok arg2 harg2 x0 128 0 (by omega)) (tok arg3 harg3 x1 128 0 (by omega))) ?_
  unfold kernelRun0_A.sl.v544
  rw [kernelRun0_A.sl.HS0_17, View.readCov_skip _ _ _ _ _ (by decide)]
  rw [kernelRun0_A.sl.HS0_16, View.readCov_skip _ _ _ _ _ (by decide)]
  rw [kernelRun0_A.sl.HS0_15, View.readCov_skip _ _ _ _ _ (by decide)]
  rw [kernelRun0_A.sl.HS0_14, View.readCov_skip _ _ _ _ _ (by decide)]
  rw [kernelRun0_A.sl.HS0_13, View.readCov_skip _ _ _ _ _ (by decide)]
  rw [kernelRun0_A.sl.HS0_12, View.readCov_skip _ _ _ _ _ (by decide)]
  rw [kernelRun0_A.sl.HS0_11, View.readCov_skip _ _ _ _ _ (by decide)]
  rw [kernelRun0_A.sl.HS0_10, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 64 0 (by omega)) (tok arg2 harg2 x0 64 0 (by omega)) (tok arg3 harg3 x1 64 0 (by omega))) ?_
  unfold kernelRun0_A.sl.v331
  rw [kernelRun0_A.sl.HS0_9, View.readCov_skip _ _ _ _ _ (by decide)]
  rw [kernelRun0_A.sl.HS0_8, View.readCov_skip _ _ _ _ _ (by decide)]
  rw [kernelRun0_A.sl.HS0_7, View.readCov_skip _ _ _ _ _ (by decide)]
  rw [kernelRun0_A.sl.HS0_6, View.readCov_skip _ _ _ _ _ (by decide)]
  rw [kernelRun0_A.sl.HS0_5, View.readCov_skip _ _ _ _ _ (by decide)]
  rw [kernelRun0_A.sl.HS0_4, View.readCov_skip _ _ _ _ _ (by decide)]
  rw [kernelRun0_A.sl.HS0_3, View.readCov_skip _ _ _ _ _ (by decide)]
  rw [kernelRun0_A.sl.HS0_2, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 0 0 (by omega)) (tok arg2 harg2 x0 0 0 (by omega)) (tok arg3 harg3 x1 0 0 (by omega))) ?_
  unfold kernelRun0_A.sl.v118
  rw [kernelRun0_A.sl.HS0_1]
  exact View.readCov_fill _ _ _ _ _ (by decide)

/-- Head 1, direction 0. -/
theorem fin_0_1 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![0, 1, 0, 0] S1x1x128x128.size inb_S2x4x128x128_S1x1x128x128_0_1_0_0).toLoadRect
    = stepF (gate c arg4 harg4 arg7 harg7 arg11 x2 x5 0 192 128 (by omega)) (tok arg2 harg2 x0 192 128 (by omega)) (tok arg3 harg3 x1 192 128 (by omega))
      (stepF (gate c arg4 harg4 arg7 harg7 arg11 x2 x5 0 128 128 (by omega)) (tok arg2 harg2 x0 128 128 (by omega)) (tok arg3 harg3 x1 128 128 (by omega))
      (stepF (gate c arg4 harg4 arg7 harg7 arg11 x2 x5 0 64 128 (by omega)) (tok arg2 harg2 x0 64 128 (by omega)) (tok arg3 harg3 x1 64 128 (by omega))
      (stepF (gate c arg4 harg4 arg7 harg7 arg11 x2 x5 0 0 128 (by omega)) (tok arg2 harg2 x0 0 128 (by omega)) (tok arg3 harg3 x1 0 128 (by omega))
      (View.ld (start arg8 harg8 x6) (Rect.unit (s := S2x4x128x128) ![0, 1, 0, 0] S1x1x128x128.size inb_S2x4x128x128_S1x1x128x128_0_1_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_skip _ _ _ _ _ (by decide)]
  rw [kernelRun0_A.sl.HS0_30, View.readCov_skip _ _ _ _ _ (by decide)]
  rw [kernelRun0_A.sl.HS0_29, View.readCov_skip _ _ _ _ _ (by decide)]
  rw [kernelRun0_A.sl.HS0_28, View.readCov_skip _ _ _ _ _ (by decide)]
  rw [kernelRun0_A.sl.HS0_27, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 192 128 (by omega)) (tok arg2 harg2 x0 192 128 (by omega)) (tok arg3 harg3 x1 192 128 (by omega))) ?_
  unfold kernelRun0_A.sl.v783
  rw [kernelRun0_A.sl.HS0_26, View.readCov_skip _ _ _ _ _ (by decide)]
  rw [kernelRun0_A.sl.HS0_25, View.readCov_skip _ _ _ _ _ (by decide)]
  rw [kernelRun0_A.sl.HS0_24, View.readCov_skip _ _ _ _ _ (by decide)]
  rw [kernelRun0_A.sl.HS0_23, View.readCov_skip _ _ _ _ _ (by decide)]
  rw [kernelRun0_A.sl.HS0_22, View.readCov_skip _ _ _ _ _ (by decide)]
  rw [kernelRun0_A.sl.HS0_21, View.readCov_skip _ _ _ _ _ (by decide)]
  rw [kernelRun0_A.sl.HS0_20, View.readCov_skip _ _ _ _ _ (by decide)]
  rw [kernelRun0_A.sl.HS0_19, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 128 128 (by omega)) (tok arg2 harg2 x0 128 128 (by omega)) (tok arg3 harg3 x1 128 128 (by omega))) ?_
  unfold kernelRun0_A.sl.v570
  rw [kernelRun0_A.sl.HS0_18, View.readCov_skip _ _ _ _ _ (by decide)]
  rw [kernelRun0_A.sl.HS0_17, View.readCov_skip _ _ _ _ _ (by decide)]
  rw [kernelRun0_A.sl.HS0_16, View.readCov_skip _ _ _ _ _ (by decide)]
  rw [kernelRun0_A.sl.HS0_15, View.readCov_skip _ _ _ _ _ (by decide)]
  rw [kernelRun0_A.sl.HS0_14, View.readCov_skip _ _ _ _ _ (by decide)]
  rw [kernelRun0_A.sl.HS0_13, View.readCov_skip _ _ _ _ _ (by decide)]
  rw [kernelRun0_A.sl.HS0_12, View.readCov_skip _ _ _ _ _ (by decide)]
  rw [kernelRun0_A.sl.HS0_11, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 64 128 (by omega)) (tok arg2 harg2 x0 64 128 (by omega)) (tok arg3 harg3 x1 64 128 (by omega))) ?_
  unfold kernelRun0_A.sl.v357
  rw [kernelRun0_A.sl.HS0_10, View.readCov_skip _ _ _ _ _ (by decide)]
  rw [kernelRun0_A.sl.HS0_9, View.readCov_skip _ _ _ _ _ (by decide)]
  rw [kernelRun0_A.sl.HS0_8, View.readCov_skip _ _ _ _ _ (by decide)]
  rw [kernelRun0_A.sl.HS0_7, View.readCov_skip _ _ _ _ _ (by decide)]
  rw [kernelRun0_A.sl.HS0_6, View.readCov_skip _ _ _ _ _ (by decide)]
  rw [kernelRun0_A.sl.HS0_5, View.readCov_skip _ _ _ _ _ (by decide)]
  rw [kernelRun0_A.sl.HS0_4, View.readCov_skip _ _ _ _ _ (by decide)]
  rw [kernelRun0_A.sl.HS0_3, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 0 128 (by omega)) (tok arg2 harg2 x0 0 128 (by omega)) (tok arg3 harg3 x1 0 128 (by omega))) ?_
  unfold kernelRun0_A.sl.v144
  rw [kernelRun0_A.sl.HS0_2, View.readCov_skip _ _ _ _ _ (by decide)]
  rw [kernelRun0_A.sl.HS0_1]
  exact View.readCov_fill _ _ _ _ _ (by decide)

/-- Head 2, direction 0. -/
theorem fin_0_2 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![0, 2, 0, 0] S1x1x128x128.size inb_S2x4x128x128_S1x1x128x128_0_2_0_0).toLoadRect
    = stepF (gate c arg4 harg4 arg7 harg7 arg11 x2 x5 0 192 256 (by omega)) (tok arg2 harg2 x0 192 256 (by omega)) (tok arg3 harg3 x1 192 256 (by omega))
      (stepF (gate c arg4 harg4 arg7 harg7 arg11 x2 x5 0 128 256 (by omega)) (tok arg2 harg2 x0 128 256 (by omega)) (tok arg3 harg3 x1 128 256 (by omega))
      (stepF (gate c arg4 harg4 arg7 harg7 arg11 x2 x5 0 64 256 (by omega)) (tok arg2 harg2 x0 64 256 (by omega)) (tok arg3 harg3 x1 64 256 (by omega))
      (stepF (gate c arg4 harg4 arg7 harg7 arg11 x2 x5 0 0 256 (by omega)) (tok arg2 harg2 x0 0 256 (by omega)) (tok arg3 harg3 x1 0 256 (by omega))
      (View.ld (start arg8 harg8 x6) (Rect.unit (s := S2x4x128x128) ![0, 2, 0, 0] S1x1x128x128.size inb_S2x4x128x128_S1x1x128x128_0_2_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_skip _ _ _ _ _ (by decide)]
  rw [kernelRun0_A.sl.HS0_30, View.readCov_skip _ _ _ _ _ (by decide)]
  rw [kernelRun0_A.sl.HS0_29, View.readCov_skip _ _ _ _ _ (by decide)]
  rw [kernelRun0_A.sl.HS0_28, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 192 256 (by omega)) (tok arg2 harg2 x0 192 256 (by omega)) (tok arg3 harg3 x1 192 256 (by omega))) ?_
  unfold kernelRun0_A.sl.v809
  rw [kernelRun0_A.sl.HS0_27, View.readCov_skip _ _ _ _ _ (by decide)]
  rw [kernelRun0_A.sl.HS0_26, View.readCov_skip _ _ _ _ _ (by decide)]
  rw [kernelRun0_A.sl.HS0_25, View.readCov_skip _ _ _ _ _ (by decide)]
  rw [kernelRun0_A.sl.HS0_24, View.readCov_skip _ _ _ _ _ (by decide)]
  rw [kernelRun0_A.sl.HS0_23, View.readCov_skip _ _ _ _ _ (by decide)]
  rw [kernelRun0_A.sl.HS0_22, View.readCov_skip _ _ _ _ _ (by decide)]
  rw [kernelRun0_A.sl.HS0_21, View.readCov_skip _ _ _ _ _ (by decide)]
  rw [kernelRun0_A.sl.HS0_20, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 128 256 (by omega)) (tok arg2 harg2 x0 128 256 (by omega)) (tok arg3 harg3 x1 128 256 (by omega))) ?_
  unfold kernelRun0_A.sl.v596
  rw [kernelRun0_A.sl.HS0_19, View.readCov_skip _ _ _ _ _ (by decide)]
  rw [kernelRun0_A.sl.HS0_18, View.readCov_skip _ _ _ _ _ (by decide)]
  rw [kernelRun0_A.sl.HS0_17, View.readCov_skip _ _ _ _ _ (by decide)]
  rw [kernelRun0_A.sl.HS0_16, View.readCov_skip _ _ _ _ _ (by decide)]
  rw [kernelRun0_A.sl.HS0_15, View.readCov_skip _ _ _ _ _ (by decide)]
  rw [kernelRun0_A.sl.HS0_14, View.readCov_skip _ _ _ _ _ (by decide)]
  rw [kernelRun0_A.sl.HS0_13, View.readCov_skip _ _ _ _ _ (by decide)]
  rw [kernelRun0_A.sl.HS0_12, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 64 256 (by omega)) (tok arg2 harg2 x0 64 256 (by omega)) (tok arg3 harg3 x1 64 256 (by omega))) ?_
  unfold kernelRun0_A.sl.v383
  rw [kernelRun0_A.sl.HS0_11, View.readCov_skip _ _ _ _ _ (by decide)]
  rw [kernelRun0_A.sl.HS0_10, View.readCov_skip _ _ _ _ _ (by decide)]
  rw [kernelRun0_A.sl.HS0_9, View.readCov_skip _ _ _ _ _ (by decide)]
  rw [kernelRun0_A.sl.HS0_8, View.readCov_skip _ _ _ _ _ (by decide)]
  rw [kernelRun0_A.sl.HS0_7, View.readCov_skip _ _ _ _ _ (by decide)]
  rw [kernelRun0_A.sl.HS0_6, View.readCov_skip _ _ _ _ _ (by decide)]
  rw [kernelRun0_A.sl.HS0_5, View.readCov_skip _ _ _ _ _ (by decide)]
  rw [kernelRun0_A.sl.HS0_4, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 0 256 (by omega)) (tok arg2 harg2 x0 0 256 (by omega)) (tok arg3 harg3 x1 0 256 (by omega))) ?_
  unfold kernelRun0_A.sl.v170
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

/-- Head 3, direction 0. -/
theorem fin_0_3 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![0, 3, 0, 0] S1x1x128x128.size inb_S2x4x128x128_S1x1x128x128_0_3_0_0).toLoadRect
    = stepF (gate c arg4 harg4 arg7 harg7 arg11 x2 x5 0 192 384 (by omega)) (tok arg2 harg2 x0 192 384 (by omega)) (tok arg3 harg3 x1 192 384 (by omega))
      (stepF (gate c arg4 harg4 arg7 harg7 arg11 x2 x5 0 128 384 (by omega)) (tok arg2 harg2 x0 128 384 (by omega)) (tok arg3 harg3 x1 128 384 (by omega))
      (stepF (gate c arg4 harg4 arg7 harg7 arg11 x2 x5 0 64 384 (by omega)) (tok arg2 harg2 x0 64 384 (by omega)) (tok arg3 harg3 x1 64 384 (by omega))
      (stepF (gate c arg4 harg4 arg7 harg7 arg11 x2 x5 0 0 384 (by omega)) (tok arg2 harg2 x0 0 384 (by omega)) (tok arg3 harg3 x1 0 384 (by omega))
      (View.ld (start arg8 harg8 x6) (Rect.unit (s := S2x4x128x128) ![0, 3, 0, 0] S1x1x128x128.size inb_S2x4x128x128_S1x1x128x128_0_3_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_skip _ _ _ _ _ (by decide)]
  rw [kernelRun0_A.sl.HS0_30, View.readCov_skip _ _ _ _ _ (by decide)]
  rw [kernelRun0_A.sl.HS0_29, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 192 384 (by omega)) (tok arg2 harg2 x0 192 384 (by omega)) (tok arg3 harg3 x1 192 384 (by omega))) ?_
  unfold kernelRun0_A.sl.v835
  rw [kernelRun0_A.sl.HS0_28, View.readCov_skip _ _ _ _ _ (by decide)]
  rw [kernelRun0_A.sl.HS0_27, View.readCov_skip _ _ _ _ _ (by decide)]
  rw [kernelRun0_A.sl.HS0_26, View.readCov_skip _ _ _ _ _ (by decide)]
  rw [kernelRun0_A.sl.HS0_25, View.readCov_skip _ _ _ _ _ (by decide)]
  rw [kernelRun0_A.sl.HS0_24, View.readCov_skip _ _ _ _ _ (by decide)]
  rw [kernelRun0_A.sl.HS0_23, View.readCov_skip _ _ _ _ _ (by decide)]
  rw [kernelRun0_A.sl.HS0_22, View.readCov_skip _ _ _ _ _ (by decide)]
  rw [kernelRun0_A.sl.HS0_21, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 128 384 (by omega)) (tok arg2 harg2 x0 128 384 (by omega)) (tok arg3 harg3 x1 128 384 (by omega))) ?_
  unfold kernelRun0_A.sl.v622
  rw [kernelRun0_A.sl.HS0_20, View.readCov_skip _ _ _ _ _ (by decide)]
  rw [kernelRun0_A.sl.HS0_19, View.readCov_skip _ _ _ _ _ (by decide)]
  rw [kernelRun0_A.sl.HS0_18, View.readCov_skip _ _ _ _ _ (by decide)]
  rw [kernelRun0_A.sl.HS0_17, View.readCov_skip _ _ _ _ _ (by decide)]
  rw [kernelRun0_A.sl.HS0_16, View.readCov_skip _ _ _ _ _ (by decide)]
  rw [kernelRun0_A.sl.HS0_15, View.readCov_skip _ _ _ _ _ (by decide)]
  rw [kernelRun0_A.sl.HS0_14, View.readCov_skip _ _ _ _ _ (by decide)]
  rw [kernelRun0_A.sl.HS0_13, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 64 384 (by omega)) (tok arg2 harg2 x0 64 384 (by omega)) (tok arg3 harg3 x1 64 384 (by omega))) ?_
  unfold kernelRun0_A.sl.v409
  rw [kernelRun0_A.sl.HS0_12, View.readCov_skip _ _ _ _ _ (by decide)]
  rw [kernelRun0_A.sl.HS0_11, View.readCov_skip _ _ _ _ _ (by decide)]
  rw [kernelRun0_A.sl.HS0_10, View.readCov_skip _ _ _ _ _ (by decide)]
  rw [kernelRun0_A.sl.HS0_9, View.readCov_skip _ _ _ _ _ (by decide)]
  rw [kernelRun0_A.sl.HS0_8, View.readCov_skip _ _ _ _ _ (by decide)]
  rw [kernelRun0_A.sl.HS0_7, View.readCov_skip _ _ _ _ _ (by decide)]
  rw [kernelRun0_A.sl.HS0_6, View.readCov_skip _ _ _ _ _ (by decide)]
  rw [kernelRun0_A.sl.HS0_5, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepF (gate c arg4 harg4 arg7 harg7 arg11 x2 x5 0 0 384 (by omega)) (tok arg2 harg2 x0 0 384 (by omega)) (tok arg3 harg3 x1 0 384 (by omega))) ?_
  unfold kernelRun0_A.sl.v196
  rw [kernelRun0_A.sl.HS0_4, View.readCov_skip _ _ _ _ _ (by decide)]
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

/-- Head 0, direction 1. -/
theorem fin_1_0 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![1, 0, 0, 0] S1x1x128x128.size inb_S2x4x128x128_S1x1x128x128_1_0_0_0).toLoadRect
    = stepB (gate c arg4 harg4 arg7 harg7 arg11 x2 x5 1 0 0 (by omega)) (tok arg5 harg5 x3 0 0 (by omega)) (tok arg6 harg6 x4 0 0 (by omega))
      (stepB (gate c arg4 harg4 arg7 harg7 arg11 x2 x5 1 64 0 (by omega)) (tok arg5 harg5 x3 64 0 (by omega)) (tok arg6 harg6 x4 64 0 (by omega))
      (stepB (gate c arg4 harg4 arg7 harg7 arg11 x2 x5 1 128 0 (by omega)) (tok arg5 harg5 x3 128 0 (by omega)) (tok arg6 harg6 x4 128 0 (by omega))
      (stepB (gate c arg4 harg4 arg7 harg7 arg11 x2 x5 1 192 0 (by omega)) (tok arg5 harg5 x3 192 0 (by omega)) (tok arg6 harg6 x4 192 0 (by omega))
      (View.ld (start arg8 harg8 x6) (Rect.unit (s := S2x4x128x128) ![1, 0, 0, 0] S1x1x128x128.size inb_S2x4x128x128_S1x1x128x128_1_0_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_skip _ _ _ _ _ (by decide)]
  rw [kernelRun0_A.sl.HS0_30, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 0 0 (by omega)) (tok arg5 harg5 x3 0 0 (by omega)) (tok arg6 harg6 x4 0 0 (by omega))) ?_
  unfold kernelRun0_A.sl.v864
  rw [kernelRun0_A.sl.HS0_29, View.readCov_skip _ _ _ _ _ (by decide)]
  rw [kernelRun0_A.sl.HS0_28, View.readCov_skip _ _ _ _ _ (by decide)]
  rw [kernelRun0_A.sl.HS0_27, View.readCov_skip _ _ _ _ _ (by decide)]
  rw [kernelRun0_A.sl.HS0_26, View.readCov_skip _ _ _ _ _ (by decide)]
  rw [kernelRun0_A.sl.HS0_25, View.readCov_skip _ _ _ _ _ (by decide)]
  rw [kernelRun0_A.sl.HS0_24, View.readCov_skip _ _ _ _ _ (by decide)]
  rw [kernelRun0_A.sl.HS0_23, View.readCov_skip _ _ _ _ _ (by decide)]
  rw [kernelRun0_A.sl.HS0_22, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 64 0 (by omega)) (tok arg5 harg5 x3 64 0 (by omega)) (tok arg6 harg6 x4 64 0 (by omega))) ?_
  unfold kernelRun0_A.sl.v651
  rw [kernelRun0_A.sl.HS0_21, View.readCov_skip _ _ _ _ _ (by decide)]
  rw [kernelRun0_A.sl.HS0_20, View.readCov_skip _ _ _ _ _ (by decide)]
  rw [kernelRun0_A.sl.HS0_19, View.readCov_skip _ _ _ _ _ (by decide)]
  rw [kernelRun0_A.sl.HS0_18, View.readCov_skip _ _ _ _ _ (by decide)]
  rw [kernelRun0_A.sl.HS0_17, View.readCov_skip _ _ _ _ _ (by decide)]
  rw [kernelRun0_A.sl.HS0_16, View.readCov_skip _ _ _ _ _ (by decide)]
  rw [kernelRun0_A.sl.HS0_15, View.readCov_skip _ _ _ _ _ (by decide)]
  rw [kernelRun0_A.sl.HS0_14, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 128 0 (by omega)) (tok arg5 harg5 x3 128 0 (by omega)) (tok arg6 harg6 x4 128 0 (by omega))) ?_
  unfold kernelRun0_A.sl.v438
  rw [kernelRun0_A.sl.HS0_13, View.readCov_skip _ _ _ _ _ (by decide)]
  rw [kernelRun0_A.sl.HS0_12, View.readCov_skip _ _ _ _ _ (by decide)]
  rw [kernelRun0_A.sl.HS0_11, View.readCov_skip _ _ _ _ _ (by decide)]
  rw [kernelRun0_A.sl.HS0_10, View.readCov_skip _ _ _ _ _ (by decide)]
  rw [kernelRun0_A.sl.HS0_9, View.readCov_skip _ _ _ _ _ (by decide)]
  rw [kernelRun0_A.sl.HS0_8, View.readCov_skip _ _ _ _ _ (by decide)]
  rw [kernelRun0_A.sl.HS0_7, View.readCov_skip _ _ _ _ _ (by decide)]
  rw [kernelRun0_A.sl.HS0_6, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 192 0 (by omega)) (tok arg5 harg5 x3 192 0 (by omega)) (tok arg6 harg6 x4 192 0 (by omega))) ?_
  unfold kernelRun0_A.sl.v225
  rw [kernelRun0_A.sl.HS0_5, View.readCov_skip _ _ _ _ _ (by decide)]
  rw [kernelRun0_A.sl.HS0_4, View.readCov_skip _ _ _ _ _ (by decide)]
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

/-- Head 1, direction 1. -/
theorem fin_1_1 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![1, 1, 0, 0] S1x1x128x128.size inb_S2x4x128x128_S1x1x128x128_1_1_0_0).toLoadRect
    = stepB (gate c arg4 harg4 arg7 harg7 arg11 x2 x5 1 0 128 (by omega)) (tok arg5 harg5 x3 0 128 (by omega)) (tok arg6 harg6 x4 0 128 (by omega))
      (stepB (gate c arg4 harg4 arg7 harg7 arg11 x2 x5 1 64 128 (by omega)) (tok arg5 harg5 x3 64 128 (by omega)) (tok arg6 harg6 x4 64 128 (by omega))
      (stepB (gate c arg4 harg4 arg7 harg7 arg11 x2 x5 1 128 128 (by omega)) (tok arg5 harg5 x3 128 128 (by omega)) (tok arg6 harg6 x4 128 128 (by omega))
      (stepB (gate c arg4 harg4 arg7 harg7 arg11 x2 x5 1 192 128 (by omega)) (tok arg5 harg5 x3 192 128 (by omega)) (tok arg6 harg6 x4 192 128 (by omega))
      (View.ld (start arg8 harg8 x6) (Rect.unit (s := S2x4x128x128) ![1, 1, 0, 0] S1x1x128x128.size inb_S2x4x128x128_S1x1x128x128_1_1_0_0))))) := by
  rw [kernelRun0_A.sl.HS0_33, View.readCov_skip _ _ _ _ _ (by decide)]
  rw [kernelRun0_A.sl.HS0_32, View.readCov_skip _ _ _ _ _ (by decide)]
  rw [kernelRun0_A.sl.HS0_31, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 0 128 (by omega)) (tok arg5 harg5 x3 0 128 (by omega)) (tok arg6 harg6 x4 0 128 (by omega))) ?_
  unfold kernelRun0_A.sl.v890
  rw [kernelRun0_A.sl.HS0_30, View.readCov_skip _ _ _ _ _ (by decide)]
  rw [kernelRun0_A.sl.HS0_29, View.readCov_skip _ _ _ _ _ (by decide)]
  rw [kernelRun0_A.sl.HS0_28, View.readCov_skip _ _ _ _ _ (by decide)]
  rw [kernelRun0_A.sl.HS0_27, View.readCov_skip _ _ _ _ _ (by decide)]
  rw [kernelRun0_A.sl.HS0_26, View.readCov_skip _ _ _ _ _ (by decide)]
  rw [kernelRun0_A.sl.HS0_25, View.readCov_skip _ _ _ _ _ (by decide)]
  rw [kernelRun0_A.sl.HS0_24, View.readCov_skip _ _ _ _ _ (by decide)]
  rw [kernelRun0_A.sl.HS0_23, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 64 128 (by omega)) (tok arg5 harg5 x3 64 128 (by omega)) (tok arg6 harg6 x4 64 128 (by omega))) ?_
  unfold kernelRun0_A.sl.v677
  rw [kernelRun0_A.sl.HS0_22, View.readCov_skip _ _ _ _ _ (by decide)]
  rw [kernelRun0_A.sl.HS0_21, View.readCov_skip _ _ _ _ _ (by decide)]
  rw [kernelRun0_A.sl.HS0_20, View.readCov_skip _ _ _ _ _ (by decide)]
  rw [kernelRun0_A.sl.HS0_19, View.readCov_skip _ _ _ _ _ (by decide)]
  rw [kernelRun0_A.sl.HS0_18, View.readCov_skip _ _ _ _ _ (by decide)]
  rw [kernelRun0_A.sl.HS0_17, View.readCov_skip _ _ _ _ _ (by decide)]
  rw [kernelRun0_A.sl.HS0_16, View.readCov_skip _ _ _ _ _ (by decide)]
  rw [kernelRun0_A.sl.HS0_15, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 128 128 (by omega)) (tok arg5 harg5 x3 128 128 (by omega)) (tok arg6 harg6 x4 128 128 (by omega))) ?_
  unfold kernelRun0_A.sl.v464
  rw [kernelRun0_A.sl.HS0_14, View.readCov_skip _ _ _ _ _ (by decide)]
  rw [kernelRun0_A.sl.HS0_13, View.readCov_skip _ _ _ _ _ (by decide)]
  rw [kernelRun0_A.sl.HS0_12, View.readCov_skip _ _ _ _ _ (by decide)]
  rw [kernelRun0_A.sl.HS0_11, View.readCov_skip _ _ _ _ _ (by decide)]
  rw [kernelRun0_A.sl.HS0_10, View.readCov_skip _ _ _ _ _ (by decide)]
  rw [kernelRun0_A.sl.HS0_9, View.readCov_skip _ _ _ _ _ (by decide)]
  rw [kernelRun0_A.sl.HS0_8, View.readCov_skip _ _ _ _ _ (by decide)]
  rw [kernelRun0_A.sl.HS0_7, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 192 128 (by omega)) (tok arg5 harg5 x3 192 128 (by omega)) (tok arg6 harg6 x4 192 128 (by omega))) ?_
  unfold kernelRun0_A.sl.v251
  rw [kernelRun0_A.sl.HS0_6, View.readCov_skip _ _ _ _ _ (by decide)]
  rw [kernelRun0_A.sl.HS0_5, View.readCov_skip _ _ _ _ _ (by decide)]
  rw [kernelRun0_A.sl.HS0_4, View.readCov_skip _ _ _ _ _ (by decide)]
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

/-- Head 2, direction 1. -/
theorem fin_1_2 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![1, 2, 0, 0] S1x1x128x128.size inb_S2x4x128x128_S1x1x128x128_1_2_0_0).toLoadRect
    = stepB (gate c arg4 harg4 arg7 harg7 arg11 x2 x5 1 0 256 (by omega)) (tok arg5 harg5 x3 0 256 (by omega)) (tok arg6 harg6 x4 0 256 (by omega))
      (stepB (gate c arg4 harg4 arg7 harg7 arg11 x2 x5 1 64 256 (by omega)) (tok arg5 harg5 x3 64 256 (by omega)) (tok arg6 harg6 x4 64 256 (by omega))
      (stepB (gate c arg4 harg4 arg7 harg7 arg11 x2 x5 1 128 256 (by omega)) (tok arg5 harg5 x3 128 256 (by omega)) (tok arg6 harg6 x4 128 256 (by omega))
      (stepB (gate c arg4 harg4 arg7 harg7 arg11 x2 x5 1 192 256 (by omega)) (tok arg5 harg5 x3 192 256 (by omega)) (tok arg6 harg6 x4 192 256 (by omega))
      (View.ld (start arg8 harg8 x6) (Rect.unit (s := S2x4x128x128) ![1, 2, 0, 0] S1x1x128x128.size inb_S2x4x128x128_S1x1x128x128_1_2_0_0))))) := by
  rw [kernelRun0_A.sl.HS0_33, View.readCov_skip _ _ _ _ _ (by decide)]
  rw [kernelRun0_A.sl.HS0_32, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 0 256 (by omega)) (tok arg5 harg5 x3 0 256 (by omega)) (tok arg6 harg6 x4 0 256 (by omega))) ?_
  unfold kernelRun0_A.sl.v916
  rw [kernelRun0_A.sl.HS0_31, View.readCov_skip _ _ _ _ _ (by decide)]
  rw [kernelRun0_A.sl.HS0_30, View.readCov_skip _ _ _ _ _ (by decide)]
  rw [kernelRun0_A.sl.HS0_29, View.readCov_skip _ _ _ _ _ (by decide)]
  rw [kernelRun0_A.sl.HS0_28, View.readCov_skip _ _ _ _ _ (by decide)]
  rw [kernelRun0_A.sl.HS0_27, View.readCov_skip _ _ _ _ _ (by decide)]
  rw [kernelRun0_A.sl.HS0_26, View.readCov_skip _ _ _ _ _ (by decide)]
  rw [kernelRun0_A.sl.HS0_25, View.readCov_skip _ _ _ _ _ (by decide)]
  rw [kernelRun0_A.sl.HS0_24, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 64 256 (by omega)) (tok arg5 harg5 x3 64 256 (by omega)) (tok arg6 harg6 x4 64 256 (by omega))) ?_
  unfold kernelRun0_A.sl.v703
  rw [kernelRun0_A.sl.HS0_23, View.readCov_skip _ _ _ _ _ (by decide)]
  rw [kernelRun0_A.sl.HS0_22, View.readCov_skip _ _ _ _ _ (by decide)]
  rw [kernelRun0_A.sl.HS0_21, View.readCov_skip _ _ _ _ _ (by decide)]
  rw [kernelRun0_A.sl.HS0_20, View.readCov_skip _ _ _ _ _ (by decide)]
  rw [kernelRun0_A.sl.HS0_19, View.readCov_skip _ _ _ _ _ (by decide)]
  rw [kernelRun0_A.sl.HS0_18, View.readCov_skip _ _ _ _ _ (by decide)]
  rw [kernelRun0_A.sl.HS0_17, View.readCov_skip _ _ _ _ _ (by decide)]
  rw [kernelRun0_A.sl.HS0_16, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 128 256 (by omega)) (tok arg5 harg5 x3 128 256 (by omega)) (tok arg6 harg6 x4 128 256 (by omega))) ?_
  unfold kernelRun0_A.sl.v490
  rw [kernelRun0_A.sl.HS0_15, View.readCov_skip _ _ _ _ _ (by decide)]
  rw [kernelRun0_A.sl.HS0_14, View.readCov_skip _ _ _ _ _ (by decide)]
  rw [kernelRun0_A.sl.HS0_13, View.readCov_skip _ _ _ _ _ (by decide)]
  rw [kernelRun0_A.sl.HS0_12, View.readCov_skip _ _ _ _ _ (by decide)]
  rw [kernelRun0_A.sl.HS0_11, View.readCov_skip _ _ _ _ _ (by decide)]
  rw [kernelRun0_A.sl.HS0_10, View.readCov_skip _ _ _ _ _ (by decide)]
  rw [kernelRun0_A.sl.HS0_9, View.readCov_skip _ _ _ _ _ (by decide)]
  rw [kernelRun0_A.sl.HS0_8, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 192 256 (by omega)) (tok arg5 harg5 x3 192 256 (by omega)) (tok arg6 harg6 x4 192 256 (by omega))) ?_
  unfold kernelRun0_A.sl.v277
  rw [kernelRun0_A.sl.HS0_7, View.readCov_skip _ _ _ _ _ (by decide)]
  rw [kernelRun0_A.sl.HS0_6, View.readCov_skip _ _ _ _ _ (by decide)]
  rw [kernelRun0_A.sl.HS0_5, View.readCov_skip _ _ _ _ _ (by decide)]
  rw [kernelRun0_A.sl.HS0_4, View.readCov_skip _ _ _ _ _ (by decide)]
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

/-- Head 3, direction 1. -/
theorem fin_1_3 : arg10.view.readCov (kernelRun0_A.sl.HS0_33 c arg2 harg2 arg3 harg3 arg4 harg4 arg5 harg5 arg6 harg6 arg7 harg7 arg8 harg8 arg10 arg11 x0 x1 x2 x3 x4 x5 x6) (Rect.unit (s := S2x4x128x128) ![1, 3, 0, 0] S1x1x128x128.size inb_S2x4x128x128_S1x1x128x128_1_3_0_0).toLoadRect
    = stepB (gate c arg4 harg4 arg7 harg7 arg11 x2 x5 1 0 384 (by omega)) (tok arg5 harg5 x3 0 384 (by omega)) (tok arg6 harg6 x4 0 384 (by omega))
      (stepB (gate c arg4 harg4 arg7 harg7 arg11 x2 x5 1 64 384 (by omega)) (tok arg5 harg5 x3 64 384 (by omega)) (tok arg6 harg6 x4 64 384 (by omega))
      (stepB (gate c arg4 harg4 arg7 harg7 arg11 x2 x5 1 128 384 (by omega)) (tok arg5 harg5 x3 128 384 (by omega)) (tok arg6 harg6 x4 128 384 (by omega))
      (stepB (gate c arg4 harg4 arg7 harg7 arg11 x2 x5 1 192 384 (by omega)) (tok arg5 harg5 x3 192 384 (by omega)) (tok arg6 harg6 x4 192 384 (by omega))
      (View.ld (start arg8 harg8 x6) (Rect.unit (s := S2x4x128x128) ![1, 3, 0, 0] S1x1x128x128.size inb_S2x4x128x128_S1x1x128x128_1_3_0_0))))) := by
  rw [kernelRun0_A.sl.HS0_33, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 0 384 (by omega)) (tok arg5 harg5 x3 0 384 (by omega)) (tok arg6 harg6 x4 0 384 (by omega))) ?_
  unfold kernelRun0_A.sl.v942
  rw [kernelRun0_A.sl.HS0_32, View.readCov_skip _ _ _ _ _ (by decide)]
  rw [kernelRun0_A.sl.HS0_31, View.readCov_skip _ _ _ _ _ (by decide)]
  rw [kernelRun0_A.sl.HS0_30, View.readCov_skip _ _ _ _ _ (by decide)]
  rw [kernelRun0_A.sl.HS0_29, View.readCov_skip _ _ _ _ _ (by decide)]
  rw [kernelRun0_A.sl.HS0_28, View.readCov_skip _ _ _ _ _ (by decide)]
  rw [kernelRun0_A.sl.HS0_27, View.readCov_skip _ _ _ _ _ (by decide)]
  rw [kernelRun0_A.sl.HS0_26, View.readCov_skip _ _ _ _ _ (by decide)]
  rw [kernelRun0_A.sl.HS0_25, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 64 384 (by omega)) (tok arg5 harg5 x3 64 384 (by omega)) (tok arg6 harg6 x4 64 384 (by omega))) ?_
  unfold kernelRun0_A.sl.v729
  rw [kernelRun0_A.sl.HS0_24, View.readCov_skip _ _ _ _ _ (by decide)]
  rw [kernelRun0_A.sl.HS0_23, View.readCov_skip _ _ _ _ _ (by decide)]
  rw [kernelRun0_A.sl.HS0_22, View.readCov_skip _ _ _ _ _ (by decide)]
  rw [kernelRun0_A.sl.HS0_21, View.readCov_skip _ _ _ _ _ (by decide)]
  rw [kernelRun0_A.sl.HS0_20, View.readCov_skip _ _ _ _ _ (by decide)]
  rw [kernelRun0_A.sl.HS0_19, View.readCov_skip _ _ _ _ _ (by decide)]
  rw [kernelRun0_A.sl.HS0_18, View.readCov_skip _ _ _ _ _ (by decide)]
  rw [kernelRun0_A.sl.HS0_17, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 128 384 (by omega)) (tok arg5 harg5 x3 128 384 (by omega)) (tok arg6 harg6 x4 128 384 (by omega))) ?_
  unfold kernelRun0_A.sl.v516
  rw [kernelRun0_A.sl.HS0_16, View.readCov_skip _ _ _ _ _ (by decide)]
  rw [kernelRun0_A.sl.HS0_15, View.readCov_skip _ _ _ _ _ (by decide)]
  rw [kernelRun0_A.sl.HS0_14, View.readCov_skip _ _ _ _ _ (by decide)]
  rw [kernelRun0_A.sl.HS0_13, View.readCov_skip _ _ _ _ _ (by decide)]
  rw [kernelRun0_A.sl.HS0_12, View.readCov_skip _ _ _ _ _ (by decide)]
  rw [kernelRun0_A.sl.HS0_11, View.readCov_skip _ _ _ _ _ (by decide)]
  rw [kernelRun0_A.sl.HS0_10, View.readCov_skip _ _ _ _ _ (by decide)]
  rw [kernelRun0_A.sl.HS0_9, View.readCov_cons_toLoadRect]
  try simp only [kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52]
  refine congrArg (stepB (gate c arg4 harg4 arg7 harg7 arg11 x2 x5 1 192 384 (by omega)) (tok arg5 harg5 x3 192 384 (by omega)) (tok arg6 harg6 x4 192 384 (by omega))) ?_
  unfold kernelRun0_A.sl.v303
  rw [kernelRun0_A.sl.HS0_8, View.readCov_skip _ _ _ _ _ (by decide)]
  rw [kernelRun0_A.sl.HS0_7, View.readCov_skip _ _ _ _ _ (by decide)]
  rw [kernelRun0_A.sl.HS0_6, View.readCov_skip _ _ _ _ _ (by decide)]
  rw [kernelRun0_A.sl.HS0_5, View.readCov_skip _ _ _ _ _ (by decide)]
  rw [kernelRun0_A.sl.HS0_4, View.readCov_skip _ _ _ _ _ (by decide)]
  rw [kernelRun0_A.sl.HS0_3, View.readCov_skip _ _ _ _ _ (by decide)]
  rw [kernelRun0_A.sl.HS0_2, View.readCov_skip _ _ _ _ _ (by decide)]
  rw [kernelRun0_A.sl.HS0_1]
  exact View.readCov_fill _ _ _ _ _ (by decide)

end Cert.Gla

end
-- ==== Proof.Gla.Step.lean ====
/-
  The context-state call's chunk update, read at an index.
-/
module

public import proofs.«01_k».proof.Proof.Gla.Run
public import proofs.«01_k».proof.Proof.Mix.Spec
public import Idealize.ShloMosaic.Lib.ValueIdxCore
public import Idealize.ShloMosaic.Lib.ValueLayout
public import Idealize.ShloMosaic.Lib.WholeRead

@[expose] public section

set_option maxRecDepth 16384

noncomputable section

namespace Cert.Gla

open Cert.Kernel6Ideal Cert.Kernel6Ideal.Gen Idealize.ShloMosaic Idealize.ShloMosaic.TcCoe Idealize.SL.Sem
open Cert.Mix

/-- A chunk's update of a state's entry, from the gates accumulated at the chunk's end and at each token, the keys and the values. -/
def upd (last : EReal) (cum key value : Fin 64 → EReal) (st : EReal) : EReal :=
  st * Ideal.exp last + ∑ c : Fin 64, value c * (key c * Ideal.exp (last - cum c))

theorem stepF_read (bc : Vec Ideal S1x64x128 .f32) (kc vc : Vec Ideal S1x64x128 .bf16) (st : Vec Ideal S1x1x128x128 .f32) (v k : Fin 128) :
    stepF bc kc vc st (ix4 0 0 v k) = upd (bc (ix3 0 63 k)) (fun c => bc (ix3 0 c k)) (fun c => kc (ix3 0 c k)) (fun c => vc (ix3 0 c v)) (st (ix4 0 0 v k)) := by
  unfold stepF upd
  pointwise [k0_pay16]

theorem stepB_read (bc : Vec Ideal S1x64x128 .f32) (kc vc : Vec Ideal S1x64x128 .bf16) (st : Vec Ideal S1x1x128x128 .f32) (v k : Fin 128) :
    stepB bc kc vc st (ix4 0 0 v k) = upd (bc (ix3 0 0 k)) (fun c => bc (ix3 0 c k)) (fun c => kc (ix3 0 c k)) (fun c => vc (ix3 0 c v)) (st (ix4 0 0 v k)) := by
  unfold stepB upd
  pointwise [k0_pay26, k0_pay25]

/-! ## The masks: a token's chunk and its place -/

theorem chunk_row : ∀ r : Fin 256, Scalar.select
      (IntOp.andi
        (IntOp.cmpi CmpIPredicate.ne
          (IntOp.subi (BitVec.setWidth 32 (IntOp.cmpi CmpIPredicate.sgt (BitVec.ofNat 32 ↑r) 0#32))
            (BitVec.setWidth 32 (IntOp.cmpi CmpIPredicate.slt (BitVec.ofNat 32 ↑r) 0#32)))
          1#32)
        (IntOp.cmpi CmpIPredicate.ne (IntOp.remsi ArithUnit.vector (BitVec.ofNat 32 ↑r) 64#32) 0#32))
      (IntOp.subi (IntOp.divsi ArithUnit.vector (BitVec.ofNat 32 ↑r) 64#32) 1#32)
      (IntOp.divsi ArithUnit.vector (BitVec.ofNat 32 ↑r) 64#32) =
    BitVec.ofNat 32 (↑r / 64) := by decide +kernel

theorem pay4_read (r c : Fin 256) : k0_pay4 (ix2 r c) = BitVec.ofNat 32 (r.val / 64) := by
  pointwise [k0_pay4]
  exact chunk_row r

theorem same_chunk : ∀ a b : Fin 4, IntOp.cmpi CmpIPredicate.eq (BitVec.ofNat 32 a.val) (BitVec.ofNat 32 b.val)
    = if a.val = b.val then 1#1 else 0#1 := by decide +kernel

theorem pay7_read (r c : Fin 256) : k0_pay7 (iota .tc S256x256 32 [1] iota_S256x256_d1_w32) k0_pay4 64#32 k0_pay5 k0_pay6 1#32 (ix2 r c)
    = if r.val / 64 = c.val / 64 then 1#1 else 0#1 := by
  pointwise [k0_pay7, k0_pay5, k0_pay6]
  rw [chunk_row c, pay4_read]
  exact same_chunk ⟨r.val / 64, by omega⟩ ⟨c.val / 64, by omega⟩

theorem toInt_small : ∀ r : Fin 256, (BitVec.ofNat 32 r.val).toInt = r.val := by decide +kernel

theorem sle_read (r c : Fin 256) : IntOp.cmpi CmpIPredicate.sle (BitVec.ofNat 32 c.val) (BitVec.ofNat 32 r.val) = if c.val ≤ r.val then 1#1 else 0#1 := by
  show BitVec.ofBool (decide ((BitVec.ofNat 32 c.val).toInt ≤ (BitVec.ofNat 32 r.val).toInt)) = _
  rw [toInt_small, toInt_small]
  by_cases h : c.val ≤ r.val
  · rw [if_pos h, decide_eq_true (by exact_mod_cast h)]; rfl
  · rw [if_neg h, decide_eq_false (by exact_mod_cast h)]; rfl

theorem sge_read (r c : Fin 256) : IntOp.cmpi CmpIPredicate.sge (BitVec.ofNat 32 c.val) (BitVec.ofNat 32 r.val) = if r.val ≤ c.val then 1#1 else 0#1 := by
  show BitVec.ofBool (decide ((BitVec.ofNat 32 r.val).toInt ≤ (BitVec.ofNat 32 c.val).toInt)) = _
  rw [toInt_small, toInt_small]
  by_cases h : r.val ≤ c.val
  · rw [if_pos h, decide_eq_true (by exact_mod_cast h)]; rfl
  · rw [if_neg h, decide_eq_false (by exact_mod_cast h)]; rfl

/-- Two conditions' bits taken together choose as both conditions do. -/
theorem select_and {α : Type} (p q : Prop) [Decidable p] [Decidable q] (a b : α) :
    Scalar.select (IntOp.andi (if p then 1#1 else 0#1) (if q then 1#1 else 0#1)) a b = if p ∧ q then a else b := by
  by_cases hp : p <;> by_cases hq : q <;> simp [hp, hq, Scalar.select, IntOp.andi]

/-! ## The running gates -/

/-- The gates of a chunk summed up to a token, -/
def upto (g : Fin 64 → EReal) (r : Fin 64) : EReal := ∑ i : Fin 64, if i.val ≤ r.val then g i else 0

/-- and from a token on. -/
def onward (g : Fin 64 → EReal) (r : Fin 64) : EReal := ∑ i : Fin 64, if r.val ≤ i.val then g i else 0

/-- A sum over all tokens of a chunk's entries is a sum over the chunk. -/
theorem sum_chunk (f : Fin 256 → EReal) (o : ℕ) (ho : o + 64 ≤ 256) (hz : ∀ x : Fin 256, ¬(o ≤ x.val ∧ x.val < o + 64) → f x = 0) :
    ∑ x, f x = ∑ i : Fin 64, f ⟨o + i.val, by omega⟩ := by
  refine (Fintype.sum_of_injective (fun i : Fin 64 => (⟨o + i.val, by omega⟩ : Fin 256)) (fun a b h => ?_) _ _ (fun x hx => ?_) (fun _ => rfl)).symm
  · have := congrArg Fin.val h
    exact Fin.ext (by simpa using this)
  · refine hz x fun hh => hx ⟨⟨x.val - o, by omega⟩, Fin.ext ?_⟩
    show o + (x.val - o) = x.val
    omega

variable (c : Dev nD) (arg4 : Memref sig .tc .vmem S1x256x512 .f32) (harg4 : arg4.IsWhole) (arg7 : Memref sig .tc .vmem S1x256x512 .f32) (harg7 : arg7.IsWhole) (arg11 : Memref sig .tc .vmem S2x256x512 .f32)
  (x2 x5 : Vec Ideal S1x256x512 .f32)

theorem real_sub {x : EReal} (h : ∃ u : ℝ, x = (u : EReal)) : x - x = 0 := by
  obtain ⟨u, rfl⟩ := h
  rw [← EReal.coe_sub, sub_self]; rfl

/-- Rows of running gates, tokens in order. -/
theorem pay8_read (g : Vec Ideal S1x256x512 .f32) (hg : ∀ j, ∃ u : ℝ, g j = (u : EReal)) (o : ℕ) (ho : o + 64 ≤ 256) (ho' : o % 64 = 0) (r : Fin 64) (k : Fin 512) :
    k0_pay8 (F := Ideal) (iota .tc S256x256 32 [0] iota_S256x256_d0_w32) (iota .tc S256x256 32 [1] iota_S256x256_d1_w32) k0_pay4 64#32 k0_pay5 k0_pay6 1#32 g (ix3 0 ⟨o + r.val, by omega⟩ k)
      = upto (fun i => g (ix3 0 ⟨o + i.val, by omega⟩ k)) r := by
  pointwise [k0_pay8]
  have M : ∀ (y x : Fin 256) (a b : EReal), Scalar.select (IntOp.andi (k0_pay7 (iota .tc S256x256 32 [1] iota_S256x256_d1_w32) k0_pay4 64#32 k0_pay5 k0_pay6 1#32 (ix2 y x))
      (IntOp.cmpi CmpIPredicate.sle (BitVec.ofNat 32 x.val) (BitVec.ofNat 32 y.val))) a b = if y.val / 64 = x.val / 64 ∧ x.val ≤ y.val then a else b := fun y x a b => by
    rw [pay7_read, sle_read, select_and]
  refine (congrArg₂ (· + ·) (congrArg₂ (· + ·) (Finset.sum_congr rfl fun x _ => M ⟨o + r.val, by omega⟩ x _ _) (Finset.sum_congr rfl fun x _ => M ⟨o + r.val, by omega⟩ x _ _))
    (Finset.sum_congr rfl fun x _ => M ⟨o + r.val, by omega⟩ x _ _)).trans ?_
  simp only [real_sub (hg _)]
  simp only [sub_zero, ite_self, Finset.sum_const_zero, add_zero]
  rw [sum_chunk _ o ho (fun x hx => if_neg (fun h => hx ⟨by have := h.1; omega, by have := h.2; omega⟩))]
  refine Finset.sum_congr rfl fun i _ => if_congr ⟨fun h => ?_, fun h => ⟨?_, ?_⟩⟩ rfl rfl
  · have := h.2; dsimp only at this; omega
  · show (o + r.val) / 64 = (o + i.val) / 64; omega
  · show o + i.val ≤ o + r.val; omega

theorem pay9_read (r c : Fin 256) :
    k0_pay9 (F := Ideal) (iota .tc S256x256 32 [0] iota_S256x256_d0_w32) (iota .tc S256x256 32 [1] iota_S256x256_d1_w32) k0_pay4 64#32 k0_pay5 k0_pay6 1#32 (ix2 r c)
      = if r.val / 64 = c.val / 64 ∧ r.val ≤ c.val then (1 : EReal) else 0 := by
  pointwise [k0_pay9]
  rw [pay7_read, sge_read, select_and]

/-- Rows of running gates, tokens in reverse. -/
theorem pay10_read (g : Vec Ideal S1x256x512 .f32) (hg : ∀ j, ∃ u : ℝ, g j = (u : EReal)) (o : ℕ) (ho : o + 64 ≤ 256) (ho' : o % 64 = 0) (r : Fin 64) (k : Fin 512) :
    k0_pay10 (F := Ideal) (k0_pay9 (F := Ideal) (iota .tc S256x256 32 [0] iota_S256x256_d0_w32) (iota .tc S256x256 32 [1] iota_S256x256_d1_w32) k0_pay4 64#32 k0_pay5 k0_pay6 1#32) g (ix3 0 ⟨o + r.val, by omega⟩ k)
      = onward (fun i => g (ix3 0 ⟨o + i.val, by omega⟩ k)) r := by
  pointwise [k0_pay10]
  simp only [real_sub (hg _)]
  simp only [sub_zero, mul_zero, Finset.sum_const_zero, add_zero]
  refine (Finset.sum_congr rfl fun x _ => congrArg (· * _) (pay9_read ⟨o + r.val, by omega⟩ x)).trans ?_
  simp only [ite_mul, one_mul, zero_mul]
  rw [sum_chunk _ o ho (fun x hx => if_neg (fun h => hx ⟨by have := h.2; omega, by have := h.1; omega⟩))]
  refine Finset.sum_congr rfl fun i _ => if_congr ⟨fun h => ?_, fun h => ⟨?_, ?_⟩⟩ rfl rfl
  · have := h.2; dsimp only at this; omega
  · show (o + r.val) / 64 = (o + i.val) / 64; omega
  · show o + r.val ≤ o + i.val; omega

theorem readAt_whole3 {e : EltTy} (arg : Memref sig .tc .vmem S1x256x512 e) (harg : arg.IsWhole) (x : Vec Ideal S1x256x512 e) :
    View.readAt (Elt Ideal) arg.view (Rect.unit (s := S1x256x512) ![0, 0, 0] S1x256x512.size inb_S1x256x512_S1x256x512_0_0_0).toLoadRect (harg.unread x) = x := by
  funext j
  rw [Memref.IsWhole.readAt_unread]
  refine congrArg x (funext fun a => Fin.ext ?_)
  match a with
  | 0 => show 0 + 1 * (j 0).val = (j 0).val; omega
  | 1 => show 0 + 1 * (j 1).val = (j 1).val; omega
  | 2 => show 0 + 1 * (j 2).val = (j 2).val; omega

theorem gate_f (o p : ℕ) (h : 0 < 2 ∧ o + 64 ≤ 256 ∧ p + 128 ≤ 512) (ho' : o % 64 = 0) (hg : ∀ j, ∃ u : ℝ, x2 j = (u : EReal)) (r : Fin 64) (k : Fin 128) :
    gate c arg4 harg4 arg7 harg7 arg11 x2 x5 0 o p h (ix3 0 r k) = upto (fun i => x2 (ix3 0 ⟨o + i.val, by omega⟩ ⟨p + k.val, by omega⟩)) r := by
  unfold gate
  rw [View.readCov_eq_canon', kernelRun0_A.sl.HS1_2]
  have e : (Rect.unit (s := S2x256x512) ![0, o, p] S1x64x128.size (inbGate h)).toLoadRect.idx (ix3 0 r k)
      = ix3 0 ⟨o + r.val, by omega⟩ ⟨p + k.val, by omega⟩ := by
    funext a
    match a with
    | 0 => rfl
    | 1 => exact Fin.ext (by show o + 1 * r.val = o + r.val; omega)
    | 2 => exact Fin.ext (by show p + 1 * k.val = p + k.val; omega)
  show View.canon _ (LoadRect.idx _ _) = _
  have e' : (ix3 0 ⟨o + r.val, by omega⟩ ⟨p + k.val, by omega⟩ : S2x256x512.Idx)
      = (Rect.unit (s := S2x256x512) ![0, 0, 0] S1x256x512.size inb_S2x256x512_S1x256x512_0_0_0).emb (ix3 0 ⟨o + r.val, by omega⟩ ⟨p + k.val, by omega⟩) := by
    funext a
    match a with
    | 0 => rfl
    | 1 => exact Fin.ext (by show o + r.val = 0 + 1 * (o + r.val); omega)
    | 2 => exact Fin.ext (by show p + k.val = 0 + 1 * (p + k.val); omega)
  rw [e, View.canon_cons_of_not_mem, e', View.canon_cons_emb, readAt_whole3]
  · exact pay8_read _ hg o h.2.1 ho' r _
  · rintro hm
    obtain ⟨x, hx⟩ := (Rect.unit (s := S2x256x512) ![1, 0, 0] S1x256x512.size inb_S2x256x512_S1x256x512_1_0_0).exists_idx_of_mem hm
    have h0 : 1 + 1 * (x 0).val = 0 := congrArg (fun i : S2x256x512.Idx => (i 0).val) hx
    omega

theorem gate_b (o p : ℕ) (h : 1 < 2 ∧ o + 64 ≤ 256 ∧ p + 128 ≤ 512) (ho' : o % 64 = 0) (hg : ∀ j, ∃ u : ℝ, x5 j = (u : EReal)) (r : Fin 64) (k : Fin 128) :
    gate c arg4 harg4 arg7 harg7 arg11 x2 x5 1 o p h (ix3 0 r k) = onward (fun i => x5 (ix3 0 ⟨o + i.val, by omega⟩ ⟨p + k.val, by omega⟩)) r := by
  unfold gate
  rw [View.readCov_eq_canon', kernelRun0_A.sl.HS1_2]
  have e : (Rect.unit (s := S2x256x512) ![1, o, p] S1x64x128.size (inbGate h)).toLoadRect.idx (ix3 0 r k)
      = (Rect.unit (s := S2x256x512) ![1, 0, 0] S1x256x512.size inb_S2x256x512_S1x256x512_1_0_0).emb (ix3 0 ⟨o + r.val, by omega⟩ ⟨p + k.val, by omega⟩) := by
    funext a
    match a with
    | 0 => rfl
    | 1 => exact Fin.ext (by show o + 1 * r.val = 0 + 1 * (o + r.val); omega)
    | 2 => exact Fin.ext (by show p + 1 * k.val = 0 + 1 * (p + k.val); omega)
  show View.canon _ (LoadRect.idx _ _) = _
  rw [e, View.canon_cons_emb, kernelRun0_A.sl.r, kernelRun0_A.sl.r_1, readAt_whole3]
  exact pay10_read _ hg o h.2.1 ho' r _

theorem tok_read (arg : Memref sig .tc .vmem S1x256x512 .bf16) (harg : arg.IsWhole) (x : Vec Ideal S1x256x512 .bf16) (o p : ℕ)
    (h : o + 64 ≤ 256 ∧ p + 128 ≤ 512) (r : Fin 64) (k : Fin 128) : tok arg harg x o p h (ix3 0 r k) = x (ix3 0 ⟨o + r.val, by omega⟩ ⟨p + k.val, by omega⟩) := by
  unfold tok
  rw [Memref.IsWhole.readAt_unread]
  refine congrArg x (funext fun a => Fin.ext ?_)
  match a with
  | 0 => rfl
  | 1 => show o + 1 * r.val = o + r.val; omega
  | 2 => show p + 1 * k.val = p + k.val; omega

end Cert.Gla

end
-- ==== Proof.Gla.Ref.lean ====
/-
  The context states' reference, read at an index.
-/
module

public import proofs.«01_k».proof.Proof.Gla.Step
public import proofs.«01_k».proof.Proof.Gen.Reference6Ideal.Read

@[expose] public section

set_option maxRecDepth 16384

noncomputable section

namespace Cert.Gla

open Idealize.ShloMosaic Idealize.ShloMosaic.TcCoe Idealize.SL.Sem

/-- Token `i` of chunk `n`. -/
def at64 (n : Fin 4) (i : Fin 64) : Fin 256 := ⟨64 * n.val + i.val, by omega⟩

/-- Column `k` of head `h`. -/
def at128 (h : Fin 4) (k : Fin 128) : Fin 512 := ⟨128 * h.val + k.val, by omega⟩

/-- Chunk `n`'s update, tokens in order. -/
def step (G K V : Fin 256 → EReal) (n : Fin 4) (st : EReal) : EReal :=
  upd (upto (fun i => G (at64 n i)) 63) (upto fun i => G (at64 n i)) (fun i => K (at64 n i)) (fun i => V (at64 n i)) st

open Cert.Reference6Ideal Cert.Reference6Ideal.Gen Cert.Reference6Ideal.Read

theorem foldl_sum {N : ℕ} (f : Fin N → EReal) (z : EReal) (hz : z = 0) : (List.finRange N).foldl (fun r n => r + f n) z = ∑ n, f n := by
  subst hz
  rw [Fin.sum_univ_def, List.sum_eq_foldl, List.foldl_map]

/-- The positions of the running sum's window. -/
abbrev W : Shape := ⟨5, ![1, 1, 1, 64, 1]⟩

theorem win : ∀ n : Fin W.numel, (W.rowMajor.symm n 0).val = 0 ∧ (W.rowMajor.symm n 1).val = 0 ∧ (W.rowMajor.symm n 2).val = 0
    ∧ (W.rowMajor.symm n 3).val = n.val ∧ (W.rowMajor.symm n 4).val = 0 := by decide +kernel

theorem numel_W : W.numel = 64 := by decide

/-- The running sum along a chunk is the sum up to each token. -/
theorem cumsum_read (x : FVec Ideal S8x4x4x64x128 .f32) (init : FVec Ideal S_ .f32) (hinit : init (Shape.Idx.first h_S_) = (0 : EReal))
    (b : Fin 8) (h : Fin 4) (n : Fin 4) (r : Fin 64) (k : Fin 128) :
    Host.reduceWindowAdd ![1, 1, 1, 64, 1] ![1, 1, 1, 1, 1] ![0, 0, 0, 63, 0] ![0, 0, 0, 0, 0] x init
      reduceWindows_S8x4x4x64x128_S8x4x4x64x128_w1s1p0_0_w1s1p0_0_w1s1p0_0_w64s1p63_0_w1s1p0_0 h_S_ (ix5 b h n r k)
      = upto (fun i => x (ix5 b h n i k)) r := by
  show Host.reduceWindow (fun a b : EReal => a + b) ![1, 1, 1, 64, 1] ![1, 1, 1, 1, 1] ![0, 0, 0, 63, 0] ![0, 0, 0, 0, 0] x init
    reduceWindows_S8x4x4x64x128_S8x4x4x64x128_w1s1p0_0_w1s1p0_0_w1s1p0_0_w64s1p63_0_w1s1p0_0 h_S_ (ix5 b h n r k) = _
  unfold Host.reduceWindow
  dsimp only
  refine (foldl_sum (N := W.numel) _ _ hinit).trans ?_
  unfold upto
  refine Fintype.sum_equiv ((finCongr numel_W).trans (Equiv.addRight (r + 1))) _ _ fun w => ?_
  obtain ⟨w0, w1, w2, w3, w4⟩ := win w
  have hw : w.val < 64 := w.isLt
  have hv : (((finCongr numel_W).trans (Equiv.addRight (r + 1))) w).val = (w.val + (r.val + 1) % 64) % 64 := rfl
  have hr := r.isLt
  by_cases hc : 63 ≤ r.val + w.val
  · have hi : (((finCongr numel_W).trans (Equiv.addRight (r + 1))) w).val = r.val + w.val - 63 := by rw [hv]; omega
    rw [if_pos (by rw [hi]; omega), dif_pos]
    · refine congrArg x (funext fun a => Fin.ext ?_)
      match a with
      | 0 => show b.val * 1 + (W.rowMajor.symm w 0).val - 0 = b.val; omega
      | 1 => show h.val * 1 + (W.rowMajor.symm w 1).val - 0 = h.val; omega
      | 2 => show n.val * 1 + (W.rowMajor.symm w 2).val - 0 = n.val; omega
      | 3 => show r.val * 1 + (W.rowMajor.symm w 3).val - 63 = (((finCongr numel_W).trans (Equiv.addRight (r + 1))) w).val; omega
      | 4 => show k.val * 1 + (W.rowMajor.symm w 4).val - 0 = k.val; omega
    · intro a
      match a with
      | 0 => show 0 ≤ b.val * 1 + (W.rowMajor.symm w 0).val ∧ b.val * 1 + (W.rowMajor.symm w 0).val - 0 < 8; omega
      | 1 => show 0 ≤ h.val * 1 + (W.rowMajor.symm w 1).val ∧ h.val * 1 + (W.rowMajor.symm w 1).val - 0 < 4; omega
      | 2 => show 0 ≤ n.val * 1 + (W.rowMajor.symm w 2).val ∧ n.val * 1 + (W.rowMajor.symm w 2).val - 0 < 4; omega
      | 3 => show 63 ≤ r.val * 1 + (W.rowMajor.symm w 3).val ∧ r.val * 1 + (W.rowMajor.symm w 3).val - 63 < 64; omega
      | 4 => show 0 ≤ k.val * 1 + (W.rowMajor.symm w 4).val ∧ k.val * 1 + (W.rowMajor.symm w 4).val - 0 < 128; omega
  · have hi : (((finCongr numel_W).trans (Equiv.addRight (r + 1))) w).val = r.val + w.val + 1 := by rw [hv]; omega
    rw [if_neg (by rw [hi]; omega), dif_neg]
    · exact hinit
    · intro hh
      have h3 : 63 ≤ r.val * 1 + (W.rowMajor.symm w 3).val := (hh 3).1
      omega

variable (x0 x1 : (⟨S8x256x512, .bf16⟩ : BufTy).Contents (Elt Ideal)) (x2 : (⟨S8x256x1024, .f32⟩ : BufTy).Contents (Elt Ideal))
  (x3 : (⟨S2x8x4x128x128, .f32⟩ : BufTy).Contents (Elt Ideal)) (b : Fin 8) (h : Fin 4)

theorem tok_idx (n : Fin 4) (i : Fin 64) (k : Fin 128) : idx_main_v5 (idx_main_v6 (ix5 b h n i k)) = ix3 b (at64 n i) (at128 h k) := by
  funext a
  refine Fin.ext ?_
  match a with
  | 0 => show ((((b.val * 4 + n.val) * 64 + i.val) * 4 + h.val) * 128 + k.val) / 131072 = b.val; omega
  | 1 => show ((((b.val * 4 + n.val) * 64 + i.val) * 4 + h.val) * 128 + k.val) / 512 % 256 = 64 * n.val + i.val; omega
  | 2 => show ((((b.val * 4 + n.val) * 64 + i.val) * 4 + h.val) * 128 + k.val) % 512 = 128 * h.val + k.val; omega

theorem key_f (n : Fin 4) (i : Fin 64) (k : Fin 128) : val_main_v6 (F := Ideal) x0 (ix5 b h n i k) = x0 (ix3 b (at64 n i) (at128 h k)) := by
  rw [val_main_v6_apply, val_main_v5_apply, val_main_v4_apply]
  exact congrArg x0 (tok_idx b h n i k)

theorem val_f (n : Fin 4) (i : Fin 64) (k : Fin 128) : val_main_v9 (F := Ideal) x1 (ix5 b h n i k) = x1 (ix3 b (at64 n i) (at128 h k)) := by
  rw [val_main_v9_apply, val_main_v8_apply, val_main_v7_apply]
  exact congrArg x1 (tok_idx b h n i k)

theorem gates_f (n : Fin 4) (i : Fin 64) (k : Fin 128) : val_main_v11 (F := Ideal) x2 (ix5 b h n i k) = x2 (ix3 b (at64 n i) ⟨(at128 h k).val, by omega⟩) := by
  rw [val_main_v11_apply, val_main_v10_apply]
  refine (congrArg (val_main_v0 (F := Ideal) x2) (tok_idx b h n i k)).trans ?_
  rw [val_main_v0_apply]
  refine congrArg x2 (funext fun a => Fin.ext ?_)
  match a with
  | 0 => rfl
  | 1 => rfl
  | 2 => rfl

theorem cum_f (n : Fin 4) (r : Fin 64) (k : Fin 128) : val_main_v12 (F := Ideal) x2 (ix5 b h n r k) = upto (fun i => x2 (ix3 b (at64 n i) ⟨(at128 h k).val, by omega⟩)) r := by
  refine (cumsum_read _ _ ?_ b h n r k).trans ?_
  · rw [val_main_call0_call0_v0_apply, val_main_call0_call0_cst_apply]; exact Ideal.ofBits_zero_f32
  · simp only [gates_f]

theorem chunk_f (n : Fin 4) (v k : Fin 128) : val_main_v18 (F := Ideal) x0 x1 x2 (ix5 b h n v k)
    = ∑ x : Fin 64, val_main_v9 (F := Ideal) x1 (ix5 b h n x v) * (val_main_v6 (F := Ideal) x0 (ix5 b h n x k) *
          Ideal.exp (val_main_v12 (F := Ideal) x2 (ix5 b h n 63 k) - val_main_v12 (F := Ideal) x2 (ix5 b h n x k))) := by
  pointwise [val_main_v18, val_main_v17, val_main_v16, val_main_v15, val_main_v14, val_main_v13]

/-- Tokens in order: the final state is the four chunk updates of the state at the start. -/
theorem fin_f (v k : Fin 128) : val_main_v47 (F := Ideal) x0 x1 x2 x3 (ix4 b h v k)
    = step (fun j => x2 (ix3 b j ⟨(at128 h k).val, by omega⟩)) (fun j => x0 (ix3 b j (at128 h k))) (fun j => x1 (ix3 b j (at128 h v))) 3
      (step (fun j => x2 (ix3 b j ⟨(at128 h k).val, by omega⟩)) (fun j => x0 (ix3 b j (at128 h k))) (fun j => x1 (ix3 b j (at128 h v))) 2
      (step (fun j => x2 (ix3 b j ⟨(at128 h k).val, by omega⟩)) (fun j => x0 (ix3 b j (at128 h k))) (fun j => x1 (ix3 b j (at128 h v))) 1
      (step (fun j => x2 (ix3 b j ⟨(at128 h k).val, by omega⟩)) (fun j => x0 (ix3 b j (at128 h k))) (fun j => x1 (ix3 b j (at128 h v))) 0 (x3 (ix5 0 b h v k))))) := by
  pointwise [val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v13, val_main_v3, val_main_v2]
  simp only [chunk_f, cum_f, key_f, val_f]
  rfl

/-! ## Tokens in reverse -/

theorem flip0 (j : Fin 256) (c : Fin 512) : val_main_v48 (F := Ideal) x0 (ix3 b j c) = x0 (ix3 b j.rev c) := by
  pointwise [val_main_v48]
  rfl

theorem flip1 (j : Fin 256) (c : Fin 512) : val_main_v49 (F := Ideal) x1 (ix3 b j c) = x1 (ix3 b j.rev c) := by
  pointwise [val_main_v49]
  rfl

theorem flip2 (j : Fin 256) (c : Fin 512) : val_main_v50 (F := Ideal) x2 (ix3 b j c) = x2 (ix3 b j.rev ⟨512 + c.val, by omega⟩) := by
  have e : val_main_v50 (F := Ideal) x2 (ix3 b j c) = val_main_v1 (F := Ideal) x2 (ix3 b j.rev c) := by
    pointwise [val_main_v50]
    rfl
  rw [e, val_main_v1_apply]
  refine congrArg x2 (funext fun a => Fin.ext ?_)
  match a with
  | 0 => rfl
  | 1 => rfl
  | 2 => rfl

theorem key_b (n : Fin 4) (i : Fin 64) (k : Fin 128) : val_main_v55 (F := Ideal) x0 (ix5 b h n i k) = x0 (ix3 b (at64 n i).rev (at128 h k)) := by
  rw [val_main_v55_apply, val_main_v54_apply, val_main_v53_apply]
  exact (congrArg (val_main_v48 (F := Ideal) x0) (tok_idx b h n i k)).trans (flip0 _ _ _ _)

theorem val_b (n : Fin 4) (i : Fin 64) (k : Fin 128) : val_main_v58 (F := Ideal) x1 (ix5 b h n i k) = x1 (ix3 b (at64 n i).rev (at128 h k)) := by
  rw [val_main_v58_apply, val_main_v57_apply, val_main_v56_apply]
  exact (congrArg (val_main_v49 (F := Ideal) x1) (tok_idx b h n i k)).trans (flip1 _ _ _ _)

theorem gates_b (n : Fin 4) (i : Fin 64) (k : Fin 128) : val_main_v60 (F := Ideal) x2 (ix5 b h n i k) = x2 (ix3 b (at64 n i).rev ⟨512 + (at128 h k).val, by omega⟩) := by
  rw [val_main_v60_apply, val_main_v59_apply]
  exact (congrArg (val_main_v50 (F := Ideal) x2) (tok_idx b h n i k)).trans (flip2 _ _ _ _)

theorem cum_b (n : Fin 4) (r : Fin 64) (k : Fin 128) : val_main_v61 (F := Ideal) x2 (ix5 b h n r k) = upto (fun i => x2 (ix3 b (at64 n i).rev ⟨512 + (at128 h k).val, by omega⟩)) r := by
  refine (cumsum_read _ _ ?_ b h n r k).trans ?_
  · rw [val_main_call4_call0_v0_apply, val_main_call4_call0_cst_apply]; exact Ideal.ofBits_zero_f32
  · simp only [gates_b]

theorem chunk_b (n : Fin 4) (v k : Fin 128) : val_main_v67 (F := Ideal) x0 x1 x2 (ix5 b h n v k)
    = ∑ x : Fin 64, val_main_v58 (F := Ideal) x1 (ix5 b h n x v) * (val_main_v55 (F := Ideal) x0 (ix5 b h n x k) *
          Ideal.exp (val_main_v61 (F := Ideal) x2 (ix5 b h n 63 k) - val_main_v61 (F := Ideal) x2 (ix5 b h n x k))) := by
  pointwise [val_main_v67, val_main_v66, val_main_v65, val_main_v64, val_main_v63, val_main_v62]

/-- Tokens in reverse: the final state is the four chunk updates of the state at the start. -/
theorem fin_b (v k : Fin 128) : val_main_v96 (F := Ideal) x0 x1 x2 x3 (ix4 b h v k)
    = step (fun j => x2 (ix3 b j.rev ⟨512 + (at128 h k).val, by omega⟩)) (fun j => x0 (ix3 b j.rev (at128 h k))) (fun j => x1 (ix3 b j.rev (at128 h v))) 3
      (step (fun j => x2 (ix3 b j.rev ⟨512 + (at128 h k).val, by omega⟩)) (fun j => x0 (ix3 b j.rev (at128 h k))) (fun j => x1 (ix3 b j.rev (at128 h v))) 2
      (step (fun j => x2 (ix3 b j.rev ⟨512 + (at128 h k).val, by omega⟩)) (fun j => x0 (ix3 b j.rev (at128 h k))) (fun j => x1 (ix3 b j.rev (at128 h v))) 1
      (step (fun j => x2 (ix3 b j.rev ⟨512 + (at128 h k).val, by omega⟩)) (fun j => x0 (ix3 b j.rev (at128 h k))) (fun j => x1 (ix3 b j.rev (at128 h v))) 0 (x3 (ix5 1 b h v k))))) := by
  pointwise [val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v62, val_main_v52, val_main_v51]
  simp only [chunk_b, cum_b, key_b, val_b]
  rfl

theorem out_f (v k : Fin 128) : val_main_v99 (F := Ideal) x0 x1 x2 x3 (ix5 0 b h v k) = val_main_v47 (F := Ideal) x0 x1 x2 x3 (ix4 b h v k) := by
  pointwise [val_main_v99, val_main_v97]
  done

theorem out_b (v k : Fin 128) : val_main_v99 (F := Ideal) x0 x1 x2 x3 (ix5 1 b h v k) = val_main_v96 (F := Ideal) x0 x1 x2 x3 (ix4 b h v k) := by
  pointwise [val_main_v99, val_main_v98]
  done

end Cert.Gla

end
-- ==== Proof.Gla.Main.lean ====
/-
  The context-state call's output array is the reference's result, entry by entry.
-/
module

public import proofs.«01_k».proof.Pre_finite6
public import proofs.«01_k».proof.Proof.Gla.Ref

@[expose] public section

set_option maxRecDepth 16384

noncomputable section

namespace Cert.Gla

open Cert.Kernel6Ideal Cert.Kernel6Ideal.Gen Idealize.ShloMosaic Idealize.ShloMosaic.TcCoe Idealize.SL.Sem
open Cert.Mix
open Idealize.ShloMosaic.Pipeline (Dat)

/-! ## Tokens in reverse within a chunk -/

theorem rev_at (n : Fin 4) (i : Fin 64) : (at64 n i).rev = at64 n.rev i.rev :=
  Fin.ext (by show 256 - (64 * n.val + i.val + 1) = 64 * (4 - (n.val + 1)) + (64 - (i.val + 1)); omega)

theorem upto_rev (g : Fin 64 → EReal) (r : Fin 64) : upto (fun i => g i.rev) r.rev = onward g r := by
  unfold upto onward
  refine Fintype.sum_equiv Fin.revPerm _ _ fun i => if_congr ?_ rfl rfl
  show i.val ≤ 64 - (r.val + 1) ↔ r.val ≤ 64 - (i.val + 1)
  omega

theorem upd_rev (last : EReal) (cum key value : Fin 64 → EReal) (st : EReal) :
    upd last (fun i => cum i.rev) (fun i => key i.rev) (fun i => value i.rev) st = upd last cum key value st := by
  unfold upd
  exact congrArg (fun z : EReal => st * Ideal.exp last + z) (Fintype.sum_equiv Fin.revPerm _ _ fun i => rfl)

/-- A chunk's update with its tokens summed from the last to the first is the update of the reversed tokens. -/
theorem step_rev (G K V : Fin 256 → EReal) (n : Fin 4) (st : EReal) :
    upd (onward (fun i => G (at64 n.rev i)) 0) (onward fun i => G (at64 n.rev i)) (fun i => K (at64 n.rev i)) (fun i => V (at64 n.rev i)) st
      = step (fun j => G j.rev) (fun j => K j.rev) (fun j => V j.rev) n st := by
  unfold step
  simp only [rev_at]
  have e : ∀ r : Fin 64, upto (fun i => G (at64 n.rev i.rev)) r = onward (fun i => G (at64 n.rev i)) r.rev := fun r => by
    have := upto_rev (fun i => G (at64 n.rev i)) r.rev
    rwa [Fin.rev_rev] at this
  have e1 : upto (fun i => G (at64 n.rev i.rev)) 63 = onward (fun i => G (at64 n.rev i)) 0 := e 63
  rw [e1, show (upto fun i => G (at64 n.rev i.rev)) = fun r => onward (fun i => G (at64 n.rev i)) r.rev from funext e]
  exact (upd_rev _ _ _ _ _).symm

/-! ## The body's chunk updates -/

variable (c : Dev nD) (i : grid0.Coords) (arg2 : Memref sig .tc .vmem S1x256x512 .bf16) (harg2 : arg2.IsWhole) (arg3 : Memref sig .tc .vmem S1x256x512 .bf16) (harg3 : arg3.IsWhole) (arg4 : Memref sig .tc .vmem S1x256x512 .f32) (harg4 : arg4.IsWhole) (arg5 : Memref sig .tc .vmem S1x256x512 .bf16) (harg5 : arg5.IsWhole) (arg6 : Memref sig .tc .vmem S1x256x512 .bf16) (harg6 : arg6.IsWhole) (arg7 : Memref sig .tc .vmem S1x256x512 .f32) (harg7 : arg7.IsWhole) (arg8 : Memref sig .tc .vmem S2x1x4x128x128 .f32) (harg8 : arg8.IsWhole) (arg9 : Memref sig .tc .vmem S2x1x4x128x128 .f32) (harg9 : arg9.IsWhole) (arg10 : Memref sig .tc .vmem S2x4x128x128 .f32) (harg10 : arg10.IsWhole) (arg11 : Memref sig .tc .vmem S2x256x512 .f32) (harg11 : arg11.IsWhole) (hc0 : cond0_0 i) (hc1 : cond0_1 i)
  (x0 : Vec Ideal S1x256x512 .bf16) (x1 : Vec Ideal S1x256x512 .bf16) (x2 : Vec Ideal S1x256x512 .f32) (x3 : Vec Ideal S1x256x512 .bf16) (x4 : Vec Ideal S1x256x512 .bf16) (x5 : Vec Ideal S1x256x512 .f32) (x6 : Vec Ideal S2x1x4x128x128 .f32)

theorem kstep_f (hg : ∀ j, ∃ u : ℝ, x2 j = (u : EReal)) (n h : Fin 4) (o p : ℕ) (ho : o = 64 * n.val) (hp : p = 128 * h.val) (h1 h2 h3) (st : Vec Ideal S1x1x128x128 .f32) (v k : Fin 128) :
    stepF (gate c arg4 harg4 arg7 harg7 arg11 x2 x5 0 o p h1) (tok arg2 harg2 x0 o p h2) (tok arg3 harg3 x1 o p h3) st (ix4 0 0 v k)
      = step (fun j => x2 (ix3 0 j (at128 h k))) (fun j => x0 (ix3 0 j (at128 h k))) (fun j => x1 (ix3 0 j (at128 h v))) n (st (ix4 0 0 v k)) := by
  subst ho hp
  have ho' : 64 * n.val % 64 = 0 := by omega
  rw [stepF_read]
  simp only [gate_f c arg4 harg4 arg7 harg7 arg11 x2 x5 _ _ _ ho' hg, tok_read]
  rfl

theorem kstep_b (hg : ∀ j, ∃ u : ℝ, x5 j = (u : EReal)) (n h : Fin 4) (o p : ℕ) (ho : o = 64 * n.rev.val) (hp : p = 128 * h.val) (h1 h2 h3) (st : Vec Ideal S1x1x128x128 .f32) (v k : Fin 128) :
    stepB (gate c arg4 harg4 arg7 harg7 arg11 x2 x5 1 o p h1) (tok arg5 harg5 x3 o p h2) (tok arg6 harg6 x4 o p h3) st (ix4 0 0 v k)
      = step (fun j => x5 (ix3 0 j.rev (at128 h k))) (fun j => x3 (ix3 0 j.rev (at128 h k))) (fun j => x4 (ix3 0 j.rev (at128 h v))) n (st (ix4 0 0 v k)) := by
  subst ho hp
  have ho' : 64 * n.rev.val % 64 = 0 := by omega
  rw [stepB_read]
  simp only [gate_b c arg4 harg4 arg7 harg7 arg11 x2 x5 _ _ _ ho' hg, tok_read]
  exact step_rev (fun j => x5 (ix3 0 j (at128 h k))) (fun j => x3 (ix3 0 j (at128 h k))) (fun j => x4 (ix3 0 j (at128 h v))) n _

/-- An entry of head `h`'s slab. -/
theorem slab_idx (d : Fin 2) (h : Fin 4) (inb) (v k : Fin 128) :
    (Rect.unit (s := S2x4x128x128) ![d.val, h.val, 0, 0] S1x1x128x128.size inb).toLoadRect.idx (ix4 0 0 v k) = ix4 d h v k := by
  funext a
  match a with
  | 0 => exact Fin.ext (by show d.val + 1 * 0 = d.val; omega)
  | 1 => exact Fin.ext (by show h.val + 1 * 0 = h.val; omega)
  | 2 => exact Fin.ext (by show 0 + 1 * v.val = v.val; omega)
  | 3 => exact Fin.ext (by show 0 + 1 * k.val = k.val; omega)

theorem whole_idx (d : Fin 2) (h : Fin 4) (inb) (v k : Fin 128) :
    (Rect.unit (s := S2x4x128x128) ![0, 0, 0, 0] S2x4x128x128.size inb).toLoadRect.idx (ix4 d h v k) = ix4 d h v k := by
  funext a
  match a with
  | 0 => exact Fin.ext (by show 0 + 1 * d.val = d.val; omega)
  | 1 => exact Fin.ext (by show 0 + 1 * h.val = h.val; omega)
  | 2 => exact Fin.ext (by show 0 + 1 * v.val = v.val; omega)
  | 3 => exact Fin.ext (by show 0 + 1 * k.val = k.val; omega)

theorem slab (vw : View sig .tc .vmem S2x4x128x128 .f32) (L : List (View.Piece (Elt Ideal) S2x4x128x128 .f32)) (d : Fin 2) (h : Fin 4) (inb inb') (v k : Fin 128) :
    vw.readCov L (Rect.unit (s := S2x4x128x128) ![0, 0, 0, 0] S2x4x128x128.size inb).toLoadRect (ix4 d h v k)
      = vw.readCov L (Rect.unit (s := S2x4x128x128) ![d.val, h.val, 0, 0] S1x1x128x128.size inb').toLoadRect (ix4 0 0 v k) := by
  rw [View.readCov_eq_canon', View.readCov_eq_canon']
  exact (congrArg (View.canon L) (whole_idx d h inb v k)).trans (congrArg (View.canon L) (slab_idx d h inb' v k)).symm

theorem start_read (d : Fin 2) (h : Fin 4) (inb) (v k : Fin 128) :
    View.ld (start arg8 harg8 x6) (Rect.unit (s := S2x4x128x128) ![d.val, h.val, 0, 0] S1x1x128x128.size inb) (ix4 0 0 v k) = x6 (ix5 d 0 h v k) := by
  refine (congrArg (start arg8 harg8 x6) (slab_idx d h inb v k)).trans ?_
  unfold start
  pointwise [k0_pay3]
  rw [Memref.IsWhole.readAt_unread]
  refine congrArg x6 (funext fun a => Fin.ext ?_)
  match a with
  | 0 => show 0 + 1 * d.val = d.val; omega
  | 1 => rfl
  | 2 => show 0 + 1 * h.val = h.val; omega
  | 3 => show 0 + 1 * v.val = v.val; omega
  | 4 => show 0 + 1 * k.val = k.val; omega

theorem zero5 : (![0, 0, 0, 0, 0] : Fin 5 → ℕ) = fun _ => 0 := by funext i; fin_cases i <;> rfl

/-- Tokens in order: the final state a grid point leaves. -/
theorem out_read_f (hg : ∀ j, ∃ u : ℝ, x2 j = (u : EReal)) (h : Fin 4) (v k : Fin 128) :
    out0_A_7 c i arg2 harg2 arg3 harg3 arg4 harg4 arg5 harg5 arg6 harg6 arg7 harg7 arg8 harg8 arg9 harg9 arg10 harg10 arg11 harg11 hc0 hc1 x0 x1 x2 x3 x4 x5 x6 (ix5 0 0 h v k)
      = step (fun j => x2 (ix3 0 j (at128 h k))) (fun j => x0 (ix3 0 j (at128 h k))) (fun j => x1 (ix3 0 j (at128 h v))) 3 (step (fun j => x2 (ix3 0 j (at128 h k))) (fun j => x0 (ix3 0 j (at128 h k))) (fun j => x1 (ix3 0 j (at128 h v))) 2
          (step (fun j => x2 (ix3 0 j (at128 h k))) (fun j => x0 (ix3 0 j (at128 h k))) (fun j => x1 (ix3 0 j (at128 h v))) 1 (step (fun j => x2 (ix3 0 j (at128 h k))) (fun j => x0 (ix3 0 j (at128 h k))) (fun j => x1 (ix3 0 j (at128 h v))) 0 (x6 (ix5 0 0 h v k))))) := by
  unfold out0_A_7 kernelRun0_A
  dsimp only
  rw [View.read_writes_junk_eq_canon, View.canon_unit_zero zero5]
  pointwise [k0_pay2]
  unfold kernelRun0_A.sl.v955
  match h with
  | 0 =>
    refine (slab _ _ 0 0 _ inb_S2x4x128x128_S1x1x128x128_0_0_0_0 v k).trans ((congrFun (fin_0_0 c arg2 harg2 arg3 harg3 arg4 harg4 arg5 harg5 arg6 harg6 arg7 harg7 arg8 harg8 arg10 arg11 x0 x1 x2 x3 x4 x5 x6) (ix4 0 0 v k)).trans ?_)
    rw [kstep_f c arg2 harg2 arg3 harg3 arg4 harg4 arg7 harg7 arg11 x0 x1 x2 x5 hg 3 0 192 0 rfl rfl, kstep_f c arg2 harg2 arg3 harg3 arg4 harg4 arg7 harg7 arg11 x0 x1 x2 x5 hg 2 0 128 0 rfl rfl, kstep_f c arg2 harg2 arg3 harg3 arg4 harg4 arg7 harg7 arg11 x0 x1 x2 x5 hg 1 0 64 0 rfl rfl, kstep_f c arg2 harg2 arg3 harg3 arg4 harg4 arg7 harg7 arg11 x0 x1 x2 x5 hg 0 0 0 0 rfl rfl]
    exact congrArg _ (congrArg _ (congrArg _ (congrArg _ (start_read arg8 harg8 x6 0 0 _ v k))))
  | 1 =>
    refine (slab _ _ 0 1 _ inb_S2x4x128x128_S1x1x128x128_0_1_0_0 v k).trans ((congrFun (fin_0_1 c arg2 harg2 arg3 harg3 arg4 harg4 arg5 harg5 arg6 harg6 arg7 harg7 arg8 harg8 arg10 arg11 x0 x1 x2 x3 x4 x5 x6) (ix4 0 0 v k)).trans ?_)
    rw [kstep_f c arg2 harg2 arg3 harg3 arg4 harg4 arg7 harg7 arg11 x0 x1 x2 x5 hg 3 1 192 128 rfl rfl, kstep_f c arg2 harg2 arg3 harg3 arg4 harg4 arg7 harg7 arg11 x0 x1 x2 x5 hg 2 1 128 128 rfl rfl, kstep_f c arg2 harg2 arg3 harg3 arg4 harg4 arg7 harg7 arg11 x0 x1 x2 x5 hg 1 1 64 128 rfl rfl, kstep_f c arg2 harg2 arg3 harg3 arg4 harg4 arg7 harg7 arg11 x0 x1 x2 x5 hg 0 1 0 128 rfl rfl]
    exact congrArg _ (congrArg _ (congrArg _ (congrArg _ (start_read arg8 harg8 x6 0 1 _ v k))))
  | 2 =>
    refine (slab _ _ 0 2 _ inb_S2x4x128x128_S1x1x128x128_0_2_0_0 v k).trans ((congrFun (fin_0_2 c arg2 harg2 arg3 harg3 arg4 harg4 arg5 harg5 arg6 harg6 arg7 harg7 arg8 harg8 arg10 arg11 x0 x1 x2 x3 x4 x5 x6) (ix4 0 0 v k)).trans ?_)
    rw [kstep_f c arg2 harg2 arg3 harg3 arg4 harg4 arg7 harg7 arg11 x0 x1 x2 x5 hg 3 2 192 256 rfl rfl, kstep_f c arg2 harg2 arg3 harg3 arg4 harg4 arg7 harg7 arg11 x0 x1 x2 x5 hg 2 2 128 256 rfl rfl, kstep_f c arg2 harg2 arg3 harg3 arg4 harg4 arg7 harg7 arg11 x0 x1 x2 x5 hg 1 2 64 256 rfl rfl, kstep_f c arg2 harg2 arg3 harg3 arg4 harg4 arg7 harg7 arg11 x0 x1 x2 x5 hg 0 2 0 256 rfl rfl]
    exact congrArg _ (congrArg _ (congrArg _ (congrArg _ (start_read arg8 harg8 x6 0 2 _ v k))))
  | 3 =>
    refine (slab _ _ 0 3 _ inb_S2x4x128x128_S1x1x128x128_0_3_0_0 v k).trans ((congrFun (fin_0_3 c arg2 harg2 arg3 harg3 arg4 harg4 arg5 harg5 arg6 harg6 arg7 harg7 arg8 harg8 arg10 arg11 x0 x1 x2 x3 x4 x5 x6) (ix4 0 0 v k)).trans ?_)
    rw [kstep_f c arg2 harg2 arg3 harg3 arg4 harg4 arg7 harg7 arg11 x0 x1 x2 x5 hg 3 3 192 384 rfl rfl, kstep_f c arg2 harg2 arg3 harg3 arg4 harg4 arg7 harg7 arg11 x0 x1 x2 x5 hg 2 3 128 384 rfl rfl, kstep_f c arg2 harg2 arg3 harg3 arg4 harg4 arg7 harg7 arg11 x0 x1 x2 x5 hg 1 3 64 384 rfl rfl, kstep_f c arg2 harg2 arg3 harg3 arg4 harg4 arg7 harg7 arg11 x0 x1 x2 x5 hg 0 3 0 384 rfl rfl]
    exact congrArg _ (congrArg _ (congrArg _ (congrArg _ (start_read arg8 harg8 x6 0 3 _ v k))))

/-- Tokens in reverse: the final state a grid point leaves. -/
theorem out_read_b (hg : ∀ j, ∃ u : ℝ, x5 j = (u : EReal)) (h : Fin 4) (v k : Fin 128) :
    out0_A_7 c i arg2 harg2 arg3 harg3 arg4 harg4 arg5 harg5 arg6 harg6 arg7 harg7 arg8 harg8 arg9 harg9 arg10 harg10 arg11 harg11 hc0 hc1 x0 x1 x2 x3 x4 x5 x6 (ix5 1 0 h v k)
      = step (fun j => x5 (ix3 0 j.rev (at128 h k))) (fun j => x3 (ix3 0 j.rev (at128 h k))) (fun j => x4 (ix3 0 j.rev (at128 h v))) 3 (step (fun j => x5 (ix3 0 j.rev (at128 h k))) (fun j => x3 (ix3 0 j.rev (at128 h k))) (fun j => x4 (ix3 0 j.rev (at128 h v))) 2
          (step (fun j => x5 (ix3 0 j.rev (at128 h k))) (fun j => x3 (ix3 0 j.rev (at128 h k))) (fun j => x4 (ix3 0 j.rev (at128 h v))) 1 (step (fun j => x5 (ix3 0 j.rev (at128 h k))) (fun j => x3 (ix3 0 j.rev (at128 h k))) (fun j => x4 (ix3 0 j.rev (at128 h v))) 0 (x6 (ix5 1 0 h v k))))) := by
  unfold out0_A_7 kernelRun0_A
  dsimp only
  rw [View.read_writes_junk_eq_canon, View.canon_unit_zero zero5]
  pointwise [k0_pay2]
  unfold kernelRun0_A.sl.v955
  match h with
  | 0 =>
    refine (slab _ _ 1 0 _ inb_S2x4x128x128_S1x1x128x128_1_0_0_0 v k).trans ((congrFun (fin_1_0 c arg2 harg2 arg3 harg3 arg4 harg4 arg5 harg5 arg6 harg6 arg7 harg7 arg8 harg8 arg10 arg11 x0 x1 x2 x3 x4 x5 x6) (ix4 0 0 v k)).trans ?_)
    rw [kstep_b c arg4 harg4 arg5 harg5 arg6 harg6 arg7 harg7 arg11 x2 x3 x4 x5 hg 3 0 0 0 rfl rfl, kstep_b c arg4 harg4 arg5 harg5 arg6 harg6 arg7 harg7 arg11 x2 x3 x4 x5 hg 2 0 64 0 rfl rfl, kstep_b c arg4 harg4 arg5 harg5 arg6 harg6 arg7 harg7 arg11 x2 x3 x4 x5 hg 1 0 128 0 rfl rfl, kstep_b c arg4 harg4 arg5 harg5 arg6 harg6 arg7 harg7 arg11 x2 x3 x4 x5 hg 0 0 192 0 rfl rfl]
    exact congrArg _ (congrArg _ (congrArg _ (congrArg _ (start_read arg8 harg8 x6 1 0 _ v k))))
  | 1 =>
    refine (slab _ _ 1 1 _ inb_S2x4x128x128_S1x1x128x128_1_1_0_0 v k).trans ((congrFun (fin_1_1 c arg2 harg2 arg3 harg3 arg4 harg4 arg5 harg5 arg6 harg6 arg7 harg7 arg8 harg8 arg10 arg11 x0 x1 x2 x3 x4 x5 x6) (ix4 0 0 v k)).trans ?_)
    rw [kstep_b c arg4 harg4 arg5 harg5 arg6 harg6 arg7 harg7 arg11 x2 x3 x4 x5 hg 3 1 0 128 rfl rfl, kstep_b c arg4 harg4 arg5 harg5 arg6 harg6 arg7 harg7 arg11 x2 x3 x4 x5 hg 2 1 64 128 rfl rfl, kstep_b c arg4 harg4 arg5 harg5 arg6 harg6 arg7 harg7 arg11 x2 x3 x4 x5 hg 1 1 128 128 rfl rfl, kstep_b c arg4 harg4 arg5 harg5 arg6 harg6 arg7 harg7 arg11 x2 x3 x4 x5 hg 0 1 192 128 rfl rfl]
    exact congrArg _ (congrArg _ (congrArg _ (congrArg _ (start_read arg8 harg8 x6 1 1 _ v k))))
  | 2 =>
    refine (slab _ _ 1 2 _ inb_S2x4x128x128_S1x1x128x128_1_2_0_0 v k).trans ((congrFun (fin_1_2 c arg2 harg2 arg3 harg3 arg4 harg4 arg5 harg5 arg6 harg6 arg7 harg7 arg8 harg8 arg10 arg11 x0 x1 x2 x3 x4 x5 x6) (ix4 0 0 v k)).trans ?_)
    rw [kstep_b c arg4 harg4 arg5 harg5 arg6 harg6 arg7 harg7 arg11 x2 x3 x4 x5 hg 3 2 0 256 rfl rfl, kstep_b c arg4 harg4 arg5 harg5 arg6 harg6 arg7 harg7 arg11 x2 x3 x4 x5 hg 2 2 64 256 rfl rfl, kstep_b c arg4 harg4 arg5 harg5 arg6 harg6 arg7 harg7 arg11 x2 x3 x4 x5 hg 1 2 128 256 rfl rfl, kstep_b c arg4 harg4 arg5 harg5 arg6 harg6 arg7 harg7 arg11 x2 x3 x4 x5 hg 0 2 192 256 rfl rfl]
    exact congrArg _ (congrArg _ (congrArg _ (congrArg _ (start_read arg8 harg8 x6 1 2 _ v k))))
  | 3 =>
    refine (slab _ _ 1 3 _ inb_S2x4x128x128_S1x1x128x128_1_3_0_0 v k).trans ((congrFun (fin_1_3 c arg2 harg2 arg3 harg3 arg4 harg4 arg5 harg5 arg6 harg6 arg7 harg7 arg8 harg8 arg10 arg11 x0 x1 x2 x3 x4 x5 x6) (ix4 0 0 v k)).trans ?_)
    rw [kstep_b c arg4 harg4 arg5 harg5 arg6 harg6 arg7 harg7 arg11 x2 x3 x4 x5 hg 3 3 0 384 rfl rfl, kstep_b c arg4 harg4 arg5 harg5 arg6 harg6 arg7 harg7 arg11 x2 x3 x4 x5 hg 2 3 64 384 rfl rfl, kstep_b c arg4 harg4 arg5 harg5 arg6 harg6 arg7 harg7 arg11 x2 x3 x4 x5 hg 1 3 128 384 rfl rfl, kstep_b c arg4 harg4 arg5 harg5 arg6 harg6 arg7 harg7 arg11 x2 x3 x4 x5 hg 0 3 192 384 rfl rfl]
    exact congrArg _ (congrArg _ (congrArg _ (congrArg _ (start_read arg8 harg8 x6 1 3 _ v k))))

/-! ## The blocks' places -/

theorem idx0 : ∀ t : Fin grid0.N, win0_0.index t = ![t.val, 0, 0] := by decide +kernel
theorem idx1 : ∀ t : Fin grid0.N, win0_1.index t = ![t.val, 0, 0] := by decide +kernel
theorem idx2 : ∀ t : Fin grid0.N, win0_2.index t = ![t.val, 0, 0] := by decide +kernel
theorem idx3 : ∀ t : Fin grid0.N, win0_3.index t = ![t.val, 0, 0] := by decide +kernel
theorem idx4 : ∀ t : Fin grid0.N, win0_4.index t = ![t.val, 0, 0] := by decide +kernel
theorem idx5 : ∀ t : Fin grid0.N, win0_5.index t = ![t.val, 0, 1] := by decide +kernel
theorem idx6 : ∀ t : Fin grid0.N, win0_6.index t = ![0, t.val, 0, 0, 0] := by decide +kernel
theorem idx7 : ∀ t : Fin grid0.N, win0_7.index t = ![0, t.val, 0, 0, 0] := by decide +kernel
theorem flush7 : ∀ t : Fin grid0.N, win0_7.flush t = true := by decide +kernel

/-- The grid point of batch `b`. -/
def pt (b : Fin 8) : Fin cfg0.N := ⟨b.val, by show _ < 8; omega⟩

theorem pt_val (b : Fin 8) : (pt b).val = b.val := rfl

section
variable (m : (ℓ : Loc nD τ sig) → Buf (Elt Ideal) ℓ) (c : Dev nD) (b : Fin 8)

theorem blk0 (j : Fin 256) (x : Fin 512) : iblk m c 0 (pt b) (ix3 0 j x)
    = m ((c.tc : Thread nD τ).loc main_arg0) (ix3 b j x) := by
  have h := idx0 (pt b)
  rw [pt_val] at h
  refine Eq.trans ?_ (congrFun (V_main_arg0 m c) _)
  refine congrArg (V m c main_arg0) (funext fun a => Fin.ext ?_)
  match a with
  | 0 => show win0_0.index (pt b) 0 * 1 + 1 * 0 = b.val; rw [h]; show b.val * 1 + 1 * 0 = _; omega
  | 1 => show win0_0.index (pt b) 1 * 256 + 1 * j.val = j.val; rw [h]; show 0 * 256 + 1 * j.val = _; omega
  | 2 => show win0_0.index (pt b) 2 * 512 + 1 * x.val = x.val; rw [h]; show 0 * 512 + 1 * x.val = _; omega

theorem blk1 (j : Fin 256) (x : Fin 512) : iblk m c 1 (pt b) (ix3 0 j x)
    = m ((c.tc : Thread nD τ).loc main_arg1) (ix3 b j x) := by
  have h := idx1 (pt b)
  rw [pt_val] at h
  refine Eq.trans ?_ (congrFun (V_main_arg1 m c) _)
  refine congrArg (V m c main_arg1) (funext fun a => Fin.ext ?_)
  match a with
  | 0 => show win0_1.index (pt b) 0 * 1 + 1 * 0 = b.val; rw [h]; show b.val * 1 + 1 * 0 = _; omega
  | 1 => show win0_1.index (pt b) 1 * 256 + 1 * j.val = j.val; rw [h]; show 0 * 256 + 1 * j.val = _; omega
  | 2 => show win0_1.index (pt b) 2 * 512 + 1 * x.val = x.val; rw [h]; show 0 * 512 + 1 * x.val = _; omega

theorem blk2 (j : Fin 256) (x : Fin 512) : iblk m c 2 (pt b) (ix3 0 j x)
    = m ((c.tc : Thread nD τ).loc main_arg2) (ix3 b j ⟨x.val, by omega⟩) := by
  have h := idx2 (pt b)
  rw [pt_val] at h
  refine Eq.trans ?_ (congrFun (V_main_arg2 m c) _)
  refine congrArg (V m c main_arg2) (funext fun a => Fin.ext ?_)
  match a with
  | 0 => show win0_2.index (pt b) 0 * 1 + 1 * 0 = b.val; rw [h]; show b.val * 1 + 1 * 0 = _; omega
  | 1 => show win0_2.index (pt b) 1 * 256 + 1 * j.val = j.val; rw [h]; show 0 * 256 + 1 * j.val = _; omega
  | 2 => show win0_2.index (pt b) 2 * 512 + 1 * x.val = x.val; rw [h]; show 0 * 512 + 1 * x.val = _; omega

theorem blk3 (j : Fin 256) (x : Fin 512) : iblk m c 3 (pt b) (ix3 0 j x)
    = m ((c.tc : Thread nD τ).loc main_arg0) (ix3 b j x) := by
  have h := idx3 (pt b)
  rw [pt_val] at h
  refine Eq.trans ?_ (congrFun (V_main_arg0 m c) _)
  refine congrArg (V m c main_arg0) (funext fun a => Fin.ext ?_)
  match a with
  | 0 => show win0_3.index (pt b) 0 * 1 + 1 * 0 = b.val; rw [h]; show b.val * 1 + 1 * 0 = _; omega
  | 1 => show win0_3.index (pt b) 1 * 256 + 1 * j.val = j.val; rw [h]; show 0 * 256 + 1 * j.val = _; omega
  | 2 => show win0_3.index (pt b) 2 * 512 + 1 * x.val = x.val; rw [h]; show 0 * 512 + 1 * x.val = _; omega

theorem blk4 (j : Fin 256) (x : Fin 512) : iblk m c 4 (pt b) (ix3 0 j x)
    = m ((c.tc : Thread nD τ).loc main_arg1) (ix3 b j x) := by
  have h := idx4 (pt b)
  rw [pt_val] at h
  refine Eq.trans ?_ (congrFun (V_main_arg1 m c) _)
  refine congrArg (V m c main_arg1) (funext fun a => Fin.ext ?_)
  match a with
  | 0 => show win0_4.index (pt b) 0 * 1 + 1 * 0 = b.val; rw [h]; show b.val * 1 + 1 * 0 = _; omega
  | 1 => show win0_4.index (pt b) 1 * 256 + 1 * j.val = j.val; rw [h]; show 0 * 256 + 1 * j.val = _; omega
  | 2 => show win0_4.index (pt b) 2 * 512 + 1 * x.val = x.val; rw [h]; show 0 * 512 + 1 * x.val = _; omega

theorem blk5 (j : Fin 256) (x : Fin 512) : iblk m c 5 (pt b) (ix3 0 j x)
    = m ((c.tc : Thread nD τ).loc main_arg2) (ix3 b j ⟨512 + x.val, by omega⟩) := by
  have h := idx5 (pt b)
  rw [pt_val] at h
  refine Eq.trans ?_ (congrFun (V_main_arg2 m c) _)
  refine congrArg (V m c main_arg2) (funext fun a => Fin.ext ?_)
  match a with
  | 0 => show win0_5.index (pt b) 0 * 1 + 1 * 0 = b.val; rw [h]; show b.val * 1 + 1 * 0 = _; omega
  | 1 => show win0_5.index (pt b) 1 * 256 + 1 * j.val = j.val; rw [h]; show 0 * 256 + 1 * j.val = _; omega
  | 2 => show win0_5.index (pt b) 2 * 512 + 1 * x.val = 512 + x.val; rw [h]; show 1 * 512 + 1 * x.val = _; omega

theorem blk6 (d : Fin 2) (h : Fin 4) (v k : Fin 128) : iblk m c 6 (pt b) (ix5 d 0 h v k)
    = m ((c.tc : Thread nD τ).loc main_arg3) (ix5 d b h v k) := by
  have e := idx6 (pt b)
  rw [pt_val] at e
  refine Eq.trans ?_ (congrFun (V_main_arg3 m c) _)
  refine congrArg (V m c main_arg3) (funext fun a => Fin.ext ?_)
  match a with
  | 0 => show win0_6.index (pt b) 0 * 2 + 1 * d.val = d.val; rw [e]; show 0 * 2 + 1 * d.val = _; omega
  | 1 => show win0_6.index (pt b) 1 * 1 + 1 * 0 = b.val; rw [e]; show b.val * 1 + 1 * 0 = _; omega
  | 2 => show win0_6.index (pt b) 2 * 4 + 1 * h.val = h.val; rw [e]; show 0 * 4 + 1 * h.val = _; omega
  | 3 => show win0_6.index (pt b) 3 * 128 + 1 * v.val = v.val; rw [e]; show 0 * 128 + 1 * v.val = _; omega
  | 4 => show win0_6.index (pt b) 4 * 128 + 1 * k.val = k.val; rw [e]; show 0 * 128 + 1 * k.val = _; omega

/-- An entry of the output array is the entry of the block its grid point left. -/
theorem entry7 (d : Fin 2) (h : Fin 4) (v k : Fin 128) :
    (dats m 0 c).arrAt 7 cfg0.N (ix5 d b h v k) = outsAt0 m c (pt b) (ix5 d 0 h v k) := by
  have e := idx7 (pt b)
  rw [pt_val] at e
  refine Eq.trans ?_ (congrFun ((Value.blocks7 m c (pt b) (flush7 _)).trans (Value.flushed7 m c (pt b))) (ix5 d 0 h v k))
  refine congrArg ((dats m 0 c).arrAt 7 cfg0.N) (funext fun a => Fin.ext ?_)
  match a with
  | 0 => show d.val = win0_7.index (pt b) 0 * 2 + 1 * d.val; rw [e]; show _ = 0 * 2 + 1 * d.val; omega
  | 1 => show b.val = win0_7.index (pt b) 1 * 1 + 1 * 0; rw [e]; show _ = b.val * 1 + 1 * 0; omega
  | 2 => show h.val = win0_7.index (pt b) 2 * 4 + 1 * h.val; rw [e]; show _ = 0 * 4 + 1 * h.val; omega
  | 3 => show v.val = win0_7.index (pt b) 3 * 128 + 1 * v.val; rw [e]; show _ = 0 * 128 + 1 * v.val; omega
  | 4 => show k.val = win0_7.index (pt b) 4 * 128 + 1 * k.val; rw [e]; show _ = 0 * 128 + 1 * k.val; omega

theorem ix3_eta (j : S1x256x512.Idx) : ∃ (r : Fin 256) (x : Fin 512), j = ix3 0 r x :=
  ⟨j 1, j 2, funext fun a => match a with
    | 0 => Fin.ext (by have h0 : (j 0).val < 1 := (j 0).isLt; show (j 0).val = 0; omega)
    | 1 => rfl
    | 2 => rfl⟩

/-- **The context states**: for real gates, the kernel's array is the reference's result. -/
theorem arr_eq (hg : ∀ j, ∃ u : ℝ, m ((c.tc : Thread nD τ).loc main_arg2) j = (u : EReal)) :
    (dats m 0 c).arrAt 7 cfg0.N = Cert.Reference6Ideal.Read.val_main_v99 (F := Ideal)
      (m ((c.tc : Thread nD τ).loc main_arg0)) (m ((c.tc : Thread nD τ).loc main_arg1)) (m ((c.tc : Thread nD τ).loc main_arg2))
      (m ((c.tc : Thread nD τ).loc main_arg3)) := by
  funext j
  obtain ⟨d, b, h, v, k, rfl⟩ : ∃ (d : Fin 2) (b : Fin 8) (h : Fin 4) (v k : Fin 128), j = ix5 d b h v k :=
    ⟨j 0, j 1, j 2, j 3, j 4, funext fun x => match x with | 0 => rfl | 1 => rfl | 2 => rfl | 3 => rfl | 4 => rfl⟩
  rw [entry7, outsAt0]
  match d with
  | 0 =>
    rw [out_f, fin_f]
    refine (out_read_f (hg := fun j => ?_) ..).trans ?_
    · obtain ⟨r, x, rfl⟩ := ix3_eta j
      obtain ⟨u, hu⟩ := hg (ix3 b r ⟨x.val, by omega⟩)
      exact ⟨u, (blk2 m c b r x).trans hu⟩
    · simp only [blk0, blk1, blk2, blk6]
  | 1 =>
    rw [out_b, fin_b]
    refine (out_read_b (hg := fun j => ?_) ..).trans ?_
    · obtain ⟨r, x, rfl⟩ := ix3_eta j
      obtain ⟨u, hu⟩ := hg (ix3 b r ⟨512 + x.val, by omega⟩)
      exact ⟨u, (blk5 m c b r x).trans hu⟩
    · simp only [blk3, blk4, blk5, blk6]

end

/-! ## The precondition -/

/-- The side conditions of the precondition: its constant broadcasts to its array. -/
theorem preFacts : Cert.Pre_finite6.Facts where
  bcast_S_S8x256x1024 := by decide

theorem real_of_abs_lt {x : EReal} (h : max x (-x) < ⊤) : ∃ u : ℝ, x = (u : EReal) := by
  induction x with
  | bot => simp at h
  | coe u => exact ⟨u, rfl⟩
  | top => simp at h

/-- An array below plus infinity in absolute value, entry by entry, is real. -/
theorem real_of_lt {s : Shape} (x y : FVec Ideal s .f32) (hy : ∀ j, y j = (⊤ : EReal)) (h : cmpf .olt (Host.absf x) y = fun _ => 1#1) (j : s.Idx) :
    ∃ u : ℝ, x j = (u : EReal) := by
  have hj := congrFun h j
  have : BitVec.ofBool (decide (max (x j : EReal) (-(x j)) < y j)) = 1#1 := hj
  have lt : max (x j : EReal) (-(x j)) < ⊤ := by
    rw [← hy j]
    by_contra hc
    rw [decide_eq_false hc] at this
    exact absurd this (by decide)
  exact real_of_abs_lt lt

theorem ofBits_inf : Ideal.ofBits FTy.f32 0x7F800000#32 = (⊤ : EReal) := by
  simp [Ideal.ofBits, Ideal.ieee]

end Cert.Gla

end
-- ==== Proof.lean ====
/-
  The claims (Defs.lean): the attention call, the merge call, the two input projections, the modulation call and the call for
  the context's states run and leave their arguments (at bits and over the extended reals), their references do, and over the
  extended reals the results are equal: the attention's for real queries and keys, the context states' for real log decays,
  the others' for all arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.AttnBits.Frame
public import proofs.«01_k».proof.Proof.Attn.Main
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Mix.Main
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Proj.Main
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Proj.MainCtx
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Ada.Main
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gla.Main

@[expose] public section

noncomputable section

namespace Cert.Proof

open Idealize.ShloMosaic Idealize.ShloMosaic.TcCoe Idealize.SL.Sem

/-- The reference runs, leaves its arguments, and every counter is at zero: it has none. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, for real queries and keys, the attention call's result is the reference's. -/
theorem attention : Cert.algebraic_KernelIdeal_ReferenceIdeal_pre_finite (hKernelIdeal := Cert.KernelIdeal.Gen.facts)
    (hReferenceIdeal := Cert.ReferenceIdeal.Gen.facts) (hPre_finite := Cert.Attn.preFacts) := by
  intro m ρ m' ρ' hpre hagree
  refine ⟨fun c => (Cert.Attn.dats m 0 c).arrAt 5 Cert.KernelIdeal.cfg0.N, Cert.Attn.run_blocks m ρ, ?_⟩
  refine (θ_run Cert.ReferenceIdeal.defs _ _).mono (fun r h c => ⟨?_, (h c).2⟩) (Cert.ReferenceIdeal.Value.run (F := Ideal) m' ρ')
  obtain ⟨p0, p1, p2⟩ := hpre c
  obtain ⟨e0, e1, e2, e3, e4⟩ := hagree c
  refine ((h c).1.trans (Cert.ReferenceIdeal.Read.val_main_v35_eq m' c)).trans ?_
  rw [e0, e1, e2, e3, e4]
  exact (Cert.Attn.arr_eq m c (Cert.Attn.real_of_lt _ _ (fun _ => Cert.Attn.ofBits_inf) p0)
    (Cert.Attn.real_of_lt _ _ (fun _ => Cert.Attn.ofBits_inf) p1) (Cert.Attn.real_of_lt _ _ (fun _ => Cert.Attn.ofBits_inf) p2)).symm

/-- The merge's reference runs, leaves its arguments, and every counter is at zero: it has none. -/
theorem ref_frame2 : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals, the merge call's result is the reference's. -/
theorem merge : Cert.algebraic_Kernel2Ideal_Reference2Ideal (hKernel2Ideal := Cert.Kernel2Ideal.Gen.facts)
    (hReference2Ideal := Cert.Reference2Ideal.Gen.facts) := by
  intro m ρ m' ρ' hpre hagree
  refine ⟨fun c => (Cert.Kernel2Ideal.Gen.dats m 0 c).arrAt 13 Cert.Kernel2Ideal.cfg0.N, Cert.Kernel2Ideal.Value.run_blocks m ρ, ?_⟩
  refine (θ_run Cert.Reference2Ideal.defs _ _).mono (fun r h c => ⟨?_, (h c).2⟩) (Cert.Reference2Ideal.Value.run (F := Ideal) m' ρ')
  obtain ⟨e0, e1, e2, e3, e4, e5, e6, e7, e8, e9, e10⟩ := hagree c
  refine ((h c).1.trans (Cert.Reference2Ideal.Read.val_main_v76_eq m' c)).trans ?_
  rw [e0, e1, e2, e3, e4, e5, e6, e7, e8, e9, e10]
  exact (Cert.Mix.arr_eq m c).symm

/-- The reference of the projections of the latent tokens runs, leaves its arguments, and every counter is at zero: it has none. -/
theorem ref_frame3 : Cert.quiescent_Reference3Ideal (hReference3Ideal := Cert.Reference3Ideal.Gen.facts) := fun m ρ _ =>
  (θ_run Cert.Reference3Ideal.defs _ _).mono (fun r h => ⟨fun c => (h c).2.2.2.2.2.2.2, sem_eq_zero_of_no_sems (by decide) r.2⟩)
    (Cert.Reference3Ideal.Value.run (F := Ideal) m ρ)

/-- Over the extended reals, every result of the projections of the latent tokens is the reference's. -/
theorem project3 : Cert.algebraic_Kernel3Ideal_Reference3Ideal (hKernel3Ideal := Cert.Kernel3Ideal.Gen.facts)
    (hReference3Ideal := Cert.Reference3Ideal.Gen.facts) := by
  intro m ρ m' ρ' hpre hagree
  refine ⟨fun c => (Cert.Kernel3Ideal.Gen.dats m 0 c).arrAt 13 Cert.Kernel3Ideal.cfg0.N, fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, fun c => (Cert.Kernel3Ideal.Gen.dats m 0 c).arrAt 17 Cert.Kernel3Ideal.cfg0.N, fun c => (Cert.Kernel3Ideal.Gen.dats m 0 c).arrAt 18 Cert.Kernel3Ideal.cfg0.N, fun c => (Cert.Kernel3Ideal.Gen.dats m 0 c).arrAt 19 Cert.Kernel3Ideal.cfg0.N, Cert.Kernel3Ideal.Value.run_blocks m ρ, ?_⟩
  refine (θ_run Cert.Reference3Ideal.defs _ _).mono (fun r h c => ?_) (Cert.Reference3Ideal.Value.run (F := Ideal) m' ρ')
  obtain ⟨e0, e1, e2, e3, e4, e5, e6, e7, e8, e9, e10, e11⟩ := hagree c
  obtain ⟨h0, h1, h2, h3, h4, h5, h6, hargs⟩ := h c
  refine ⟨?_, ?_, ?_, ?_, ?_, ?_, ?_, hargs⟩
  · refine (h0.trans (Cert.Reference3Ideal.Read.val_main_v112_eq m' c)).trans ?_
    rw [e0, e1, e2, e3, e4, e5, e6]
    exact (Cert.Proj.q_eq m c).symm
  · refine (h1.trans (Cert.Reference3Ideal.Read.val_main_v113_eq m' c)).trans ?_
    rw [e0, e1, e2, e3, e4, e7, e8]
    exact (Cert.Proj.k_eq m c).symm
  · refine (h2.trans (Cert.Reference3Ideal.Read.val_main_v114_eq m' c)).trans ?_
    rw [e0, e1, e2, e4, e7, e9]
    exact (Cert.Proj.v_eq m c).symm
  · refine (h3.trans (Cert.Reference3Ideal.Read.val_main_v117_eq _ _ _ _)).trans ?_
    rw [e0, e1, e2, e4]
    exact (Cert.Proj.gq_eq m c).symm
  · refine (h4.trans (Cert.Reference3Ideal.Read.val_main_v118_eq _ _ _ _)).trans ?_
    rw [e0, e1, e2, e4]
    exact (Cert.Proj.gk_eq m c).symm
  · refine (h5.trans (Cert.Reference3Ideal.Read.val_main_v119_eq _ _ _ _)).trans ?_
    rw [e0, e1, e2, e4]
    exact (Cert.Proj.gv_eq m c).symm
  · refine (h6.trans (Cert.Reference3Ideal.Read.val_main_v111_eq m' c)).trans ?_
    rw [e0, e1, e2, e4, e10, e11]
    exact (Cert.Proj.g_eq m c).symm

/-- The reference of the projections of the context tokens runs, leaves its arguments, and every counter is at zero: it has none. -/
theorem ref_frame4 : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- Over the extended reals, every result of the projections of the context tokens is the reference's. -/
theorem project4 : Cert.algebraic_Kernel4Ideal_Reference4Ideal (hKernel4Ideal := Cert.Kernel4Ideal.Gen.facts)
    (hReference4Ideal := Cert.Reference4Ideal.Gen.facts) := by
  intro m ρ m' ρ' hpre hagree
  refine ⟨fun c => (Cert.Kernel4Ideal.Gen.dats m 0 c).arrAt 13 Cert.Kernel4Ideal.cfg0.N, fun c => (Cert.Kernel4Ideal.Gen.dats m 0 c).arrAt 14 Cert.Kernel4Ideal.cfg0.N, fun c => (Cert.Kernel4Ideal.Gen.dats m 0 c).arrAt 15 Cert.Kernel4Ideal.cfg0.N, fun c => (Cert.Kernel4Ideal.Gen.dats m 0 c).arrAt 16 Cert.Kernel4Ideal.cfg0.N, fun c => (Cert.Kernel4Ideal.Gen.dats m 0 c).arrAt 17 Cert.Kernel4Ideal.cfg0.N, Cert.Kernel4Ideal.Value.run_blocks m ρ, ?_⟩
  refine (θ_run Cert.Reference4Ideal.defs _ _).mono (fun r h c => ?_) (Cert.Reference4Ideal.Value.run (F := Ideal) m' ρ')
  obtain ⟨e0, e1, e2, e3, e4, e5, e6, e7, e8, e9, e10, e11⟩ := hagree c
  obtain ⟨h0, h1, h2, h3, h4, hargs⟩ := h c
  refine ⟨?_, ?_, ?_, ?_, ?_, hargs⟩
  · refine (h0.trans (Cert.Reference4Ideal.Read.val_main_v85_eq m' c)).trans ?_
    rw [e0, e1, e2, e3, e4, e7, e8]
    exact (Cert.ProjCtx.k_eq m c).symm
  · refine (h1.trans (Cert.Reference4Ideal.Read.val_main_v86_eq m' c)).trans ?_
    rw [e0, e1, e2, e4, e7, e9]
    exact (Cert.ProjCtx.v_eq m c).symm
  · refine (h2.trans (Cert.Reference4Ideal.Read.val_main_v87_eq _ _ _ _)).trans ?_
    rw [e0, e1, e2, e4]
    exact (Cert.ProjCtx.gk_eq m c).symm
  · refine (h3.trans (Cert.Reference4Ideal.Read.val_main_v88_eq _ _ _ _)).trans ?_
    rw [e0, e1, e2, e4]
    exact (Cert.ProjCtx.gv_eq m c).symm
  · refine (h4.trans (Cert.Reference4Ideal.Read.val_main_v84_eq m' c)).trans ?_
    rw [e0, e1, e2, e4, e10, e11]
    exact (Cert.ProjCtx.g_eq m c).symm

/-- The modulation's reference runs, leaves its arguments, and every counter is at zero: it has none. -/
theorem ref_frame5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- Over the extended reals, the modulation call's result is the reference's. -/
theorem modulate : Cert.algebraic_Kernel5Ideal_Reference5Ideal (hKernel5Ideal := Cert.Kernel5Ideal.Gen.facts)
    (hReference5Ideal := Cert.Reference5Ideal.Gen.facts) := by
  intro m ρ m' ρ' hpre hagree
  refine ⟨fun c => (Cert.Kernel5Ideal.Gen.dats m 0 c).arrAt 3 Cert.Kernel5Ideal.cfg0.N, Cert.Kernel5Ideal.Value.run_blocks m ρ, ?_⟩
  refine (θ_run Cert.Reference5Ideal.defs _ _).mono (fun r h c => ⟨?_, (h c).2⟩) (Cert.Reference5Ideal.Value.run (F := Ideal) m' ρ')
  obtain ⟨e0, e1, e2⟩ := hagree c
  refine ((h c).1.trans (Cert.Reference5Ideal.Read.val_main_v4_eq _ _ _)).trans ?_
  rw [e0, e1, e2]
  exact (Cert.Ada.arr_eq m c).symm

/-- The reference of the context states runs, leaves its arguments, and every counter is at zero: it has none. -/
theorem ref_frame6 : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals, for real log decays, the context states are the reference's. -/
theorem states : Cert.algebraic_Kernel6Ideal_Reference6Ideal_pre_finite6 (hKernel6Ideal := Cert.Kernel6Ideal.Gen.facts)
    (hReference6Ideal := Cert.Reference6Ideal.Gen.facts) (hPre_finite6 := Cert.Gla.preFacts) := by
  intro m ρ m' ρ' hpre hagree
  refine ⟨fun c => (Cert.Kernel6Ideal.Gen.dats m 0 c).arrAt 7 Cert.Kernel6Ideal.cfg0.N, Cert.Kernel6Ideal.Value.run_blocks m ρ, ?_⟩
  refine (θ_run Cert.Reference6Ideal.defs _ _).mono (fun r h c => ⟨?_, (h c).2⟩) (Cert.Reference6Ideal.Value.run (F := Ideal) m' ρ')
  obtain ⟨e0, e1, e2, e3⟩ := hagree c
  refine ((h c).1.trans (Cert.Reference6Ideal.Read.val_main_v99_eq m' c)).trans ?_
  rw [e0, e1, e2, e3]
  exact (Cert.Gla.arr_eq m c (Cert.Gla.real_of_lt _ _ (fun _ => Cert.Gla.ofBits_inf) (hpre c))).symm

/-- The certificate's claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Attn.preFacts, Cert.Gla.preFacts,
    fun m ρ _ => Cert.AttnBits.frame m ρ,
    fun m ρ _ => Cert.Attn.frame m ρ,
    fun m ρ _ => Cert.Attn.frame m ρ,
    ref_frame,
    fun m ρ _ => ref_frame m ρ trivial,
    fun m ρ _ => Cert.Kernel2.Gen.frame m ρ,
    fun m ρ _ => Cert.Kernel2Ideal.Gen.frame m ρ,
    ref_frame2,
    fun m ρ _ => Cert.Kernel3.Gen.frame m ρ,
    fun m ρ _ => Cert.Kernel3Ideal.Gen.frame m ρ,
    ref_frame3,
    fun m ρ _ => Cert.Kernel4.Gen.frame m ρ,
    fun m ρ _ => Cert.Kernel4Ideal.Gen.frame m ρ,
    ref_frame4,
    fun m ρ _ => Cert.Kernel5.Gen.frame m ρ,
    fun m ρ _ => Cert.Kernel5Ideal.Gen.frame m ρ,
    ref_frame5,
    fun m ρ _ => Cert.Kernel6.Gen.frame m ρ,
    fun m ρ _ => Cert.Kernel6Ideal.Gen.frame m ρ,
    fun m ρ _ => Cert.Kernel6Ideal.Gen.frame m ρ,
    ref_frame6,
    fun m ρ _ => ref_frame6 m ρ trivial,
    trivial,
    attention,
    trivial,
    merge,
    trivial,
    project3,
    trivial,
    project4,
    trivial,
    modulate,
    trivial,
    states⟩

end Cert.Proof

end
